-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales [hPre_scales : Cert.Pre_scales.Facts] (m : (ℓ : Loc Cert.KernelIdeal.nD Cert.KernelIdeal.τ Cert.KernelIdeal.sig) → Buf (Elt Ideal) ℓ) : Prop :=
  ∀ c : Dev Cert.KernelIdeal.nD,
    (Cert.Pre_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales [hPre_scales : Cert.Pre_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_KeysIdeal (m : (ℓ : Loc Cert.KeysIdeal.nD Cert.KeysIdeal.τ Cert.KeysIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressIdeal_moderate [hPre_moderate : Cert.Pre_moderate.Facts] (m : (ℓ : Loc Cert.CompressIdeal.nD Cert.CompressIdeal.τ Cert.CompressIdeal.sig) → Buf (Elt Ideal) ℓ) : Prop :=
  ∀ c : Dev Cert.CompressIdeal.nD,
    (Cert.Pre_moderate.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7)) (m ((c.tc : Thread Cert.CompressIdeal.nD Cert.CompressIdeal.τ).loc Cert.CompressIdeal.main_arg8)) (m ((c.tc : Thread Cert.CompressIdeal.nD Cert.CompressIdeal.τ).loc Cert.CompressIdeal.main_arg9)) (m ((c.tc : Thread Cert.CompressIdeal.nD Cert.CompressIdeal.τ).loc Cert.CompressIdeal.main_arg10)) (m ((c.tc : Thread Cert.CompressIdeal.nD Cert.CompressIdeal.τ).loc Cert.CompressIdeal.main_arg11)) (m ((c.tc : Thread Cert.CompressIdeal.nD Cert.CompressIdeal.τ).loc Cert.CompressIdeal.main_arg12))).1 = (fun _ => 1#1)
    ∧ (Cert.Pre_moderate.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7)) (m ((c.tc : Thread Cert.CompressIdeal.nD Cert.CompressIdeal.τ).loc Cert.CompressIdeal.main_arg8)) (m ((c.tc : Thread Cert.CompressIdeal.nD Cert.CompressIdeal.τ).loc Cert.CompressIdeal.main_arg9)) (m ((c.tc : Thread Cert.CompressIdeal.nD Cert.CompressIdeal.τ).loc Cert.CompressIdeal.main_arg10)) (m ((c.tc : Thread Cert.CompressIdeal.nD Cert.CompressIdeal.τ).loc Cert.CompressIdeal.main_arg11)) (m ((c.tc : Thread Cert.CompressIdeal.nD Cert.CompressIdeal.τ).loc Cert.CompressIdeal.main_arg12))).2 = (fun _ => 1#1)

def Pre_CodesIdeal (m : (ℓ : Loc Cert.CodesIdeal.nD Cert.CodesIdeal.τ Cert.CodesIdeal.sig) → Buf (Elt Ideal) ℓ) : Prop :=
  True

def Pre_CodesIdeal_moderate [hPre_moderate : Cert.Pre_moderate.Facts] (m : (ℓ : Loc Cert.CodesIdeal.nD Cert.CodesIdeal.τ Cert.CodesIdeal.sig) → Buf (Elt Ideal) ℓ) : Prop :=
  ∀ c : Dev Cert.CodesIdeal.nD,
    (Cert.Pre_moderate.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3)) (m ((c.tc : Thread Cert.CodesIdeal.nD Cert.CodesIdeal.τ).loc Cert.CodesIdeal.main_arg4)) (m ((c.tc : Thread Cert.CodesIdeal.nD Cert.CodesIdeal.τ).loc Cert.CodesIdeal.main_arg5)) (m ((c.tc : Thread Cert.CodesIdeal.nD Cert.CodesIdeal.τ).loc Cert.CodesIdeal.main_arg6)) (m ((c.tc : Thread Cert.CodesIdeal.nD Cert.CodesIdeal.τ).loc Cert.CodesIdeal.main_arg7)) (m ((c.tc : Thread Cert.CodesIdeal.nD Cert.CodesIdeal.τ).loc Cert.CodesIdeal.main_arg8)) (m ((c.tc : Thread Cert.CodesIdeal.nD Cert.CodesIdeal.τ).loc Cert.CodesIdeal.main_arg9)) (m ((c.tc : Thread Cert.CodesIdeal.nD Cert.CodesIdeal.τ).loc Cert.CodesIdeal.main_arg10)) (m ((c.tc : Thread Cert.CodesIdeal.nD Cert.CodesIdeal.τ).loc Cert.CodesIdeal.main_arg11)) (m ((c.tc : Thread Cert.CodesIdeal.nD Cert.CodesIdeal.τ).loc Cert.CodesIdeal.main_arg12))).1 = (fun _ => 1#1)
    ∧ (Cert.Pre_moderate.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3)) (m ((c.tc : Thread Cert.CodesIdeal.nD Cert.CodesIdeal.τ).loc Cert.CodesIdeal.main_arg4)) (m ((c.tc : Thread Cert.CodesIdeal.nD Cert.CodesIdeal.τ).loc Cert.CodesIdeal.main_arg5)) (m ((c.tc : Thread Cert.CodesIdeal.nD Cert.CodesIdeal.τ).loc Cert.CodesIdeal.main_arg6)) (m ((c.tc : Thread Cert.CodesIdeal.nD Cert.CodesIdeal.τ).loc Cert.CodesIdeal.main_arg7)) (m ((c.tc : Thread Cert.CodesIdeal.nD Cert.CodesIdeal.τ).loc Cert.CodesIdeal.main_arg8)) (m ((c.tc : Thread Cert.CodesIdeal.nD Cert.CodesIdeal.τ).loc Cert.CodesIdeal.main_arg9)) (m ((c.tc : Thread Cert.CodesIdeal.nD Cert.CodesIdeal.τ).loc Cert.CodesIdeal.main_arg10)) (m ((c.tc : Thread Cert.CodesIdeal.nD Cert.CodesIdeal.τ).loc Cert.CodesIdeal.main_arg11)) (m ((c.tc : Thread Cert.CodesIdeal.nD Cert.CodesIdeal.τ).loc Cert.CodesIdeal.main_arg12))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scales [hKernelIdeal : Cert.KernelIdeal.Facts] [hPre_scales : Cert.Pre_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scales [hReferenceIdeal : Cert.ReferenceIdeal.Facts] [hPre_scales : Cert.Pre_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7)
      ∧ r.2.mem ((c.tc : Thread Cert.Project.nD Cert.Project.τ).loc Cert.Project.main_arg8) = m ((c.tc : Thread Cert.Project.nD Cert.Project.τ).loc Cert.Project.main_arg8)
      ∧ r.2.mem ((c.tc : Thread Cert.Project.nD Cert.Project.τ).loc Cert.Project.main_arg9) = m ((c.tc : Thread Cert.Project.nD Cert.Project.τ).loc Cert.Project.main_arg9)
      ∧ r.2.mem ((c.tc : Thread Cert.Project.nD Cert.Project.τ).loc Cert.Project.main_arg10) = m ((c.tc : Thread Cert.Project.nD Cert.Project.τ).loc Cert.Project.main_arg10)
      ∧ r.2.mem ((c.tc : Thread Cert.Project.nD Cert.Project.τ).loc Cert.Project.main_arg11) = m ((c.tc : Thread Cert.Project.nD Cert.Project.τ).loc Cert.Project.main_arg11)
      ∧ r.2.mem ((c.tc : Thread Cert.Project.nD Cert.Project.τ).loc Cert.Project.main_arg12) = m ((c.tc : Thread Cert.Project.nD Cert.Project.τ).loc Cert.Project.main_arg12))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
      ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
      ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10)
      ∧ r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11)
      ∧ r.2.mem ((c.tc : Thread Cert.ProjectIdeal.nD Cert.ProjectIdeal.τ).loc Cert.ProjectIdeal.main_arg12) = m ((c.tc : Thread Cert.ProjectIdeal.nD Cert.ProjectIdeal.τ).loc Cert.ProjectIdeal.main_arg12))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
      ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3)
      ∧ r.2.mem ((c.tc : Thread Cert.KeysIdeal.nD Cert.KeysIdeal.τ).loc Cert.KeysIdeal.main_arg4) = m ((c.tc : Thread Cert.KeysIdeal.nD Cert.KeysIdeal.τ).loc Cert.KeysIdeal.main_arg4)
      ∧ r.2.mem ((c.tc : Thread Cert.KeysIdeal.nD Cert.KeysIdeal.τ).loc Cert.KeysIdeal.main_arg5) = m ((c.tc : Thread Cert.KeysIdeal.nD Cert.KeysIdeal.τ).loc Cert.KeysIdeal.main_arg5)
      ∧ r.2.mem ((c.tc : Thread Cert.KeysIdeal.nD Cert.KeysIdeal.τ).loc Cert.KeysIdeal.main_arg6) = m ((c.tc : Thread Cert.KeysIdeal.nD Cert.KeysIdeal.τ).loc Cert.KeysIdeal.main_arg6)
      ∧ r.2.mem ((c.tc : Thread Cert.KeysIdeal.nD Cert.KeysIdeal.τ).loc Cert.KeysIdeal.main_arg7) = m ((c.tc : Thread Cert.KeysIdeal.nD Cert.KeysIdeal.τ).loc Cert.KeysIdeal.main_arg7)
      ∧ r.2.mem ((c.tc : Thread Cert.KeysIdeal.nD Cert.KeysIdeal.τ).loc Cert.KeysIdeal.main_arg8) = m ((c.tc : Thread Cert.KeysIdeal.nD Cert.KeysIdeal.τ).loc Cert.KeysIdeal.main_arg8)
      ∧ r.2.mem ((c.tc : Thread Cert.KeysIdeal.nD Cert.KeysIdeal.τ).loc Cert.KeysIdeal.main_arg9) = m ((c.tc : Thread Cert.KeysIdeal.nD Cert.KeysIdeal.τ).loc Cert.KeysIdeal.main_arg9)
      ∧ r.2.mem ((c.tc : Thread Cert.KeysIdeal.nD Cert.KeysIdeal.τ).loc Cert.KeysIdeal.main_arg10) = m ((c.tc : Thread Cert.KeysIdeal.nD Cert.KeysIdeal.τ).loc Cert.KeysIdeal.main_arg10)
      ∧ r.2.mem ((c.tc : Thread Cert.KeysIdeal.nD Cert.KeysIdeal.τ).loc Cert.KeysIdeal.main_arg11) = m ((c.tc : Thread Cert.KeysIdeal.nD Cert.KeysIdeal.τ).loc Cert.KeysIdeal.main_arg11)
      ∧ r.2.mem ((c.tc : Thread Cert.KeysIdeal.nD Cert.KeysIdeal.τ).loc Cert.KeysIdeal.main_arg12) = m ((c.tc : Thread Cert.KeysIdeal.nD Cert.KeysIdeal.τ).loc Cert.KeysIdeal.main_arg12))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6)
      ∧ r.2.mem ((c.tc : Thread Cert.Compress.nD Cert.Compress.τ).loc Cert.Compress.main_arg7) = m ((c.tc : Thread Cert.Compress.nD Cert.Compress.τ).loc Cert.Compress.main_arg7)
      ∧ r.2.mem ((c.tc : Thread Cert.Compress.nD Cert.Compress.τ).loc Cert.Compress.main_arg8) = m ((c.tc : Thread Cert.Compress.nD Cert.Compress.τ).loc Cert.Compress.main_arg8)
      ∧ r.2.mem ((c.tc : Thread Cert.Compress.nD Cert.Compress.τ).loc Cert.Compress.main_arg9) = m ((c.tc : Thread Cert.Compress.nD Cert.Compress.τ).loc Cert.Compress.main_arg9)
      ∧ r.2.mem ((c.tc : Thread Cert.Compress.nD Cert.Compress.τ).loc Cert.Compress.main_arg10) = m ((c.tc : Thread Cert.Compress.nD Cert.Compress.τ).loc Cert.Compress.main_arg10)
      ∧ r.2.mem ((c.tc : Thread Cert.Compress.nD Cert.Compress.τ).loc Cert.Compress.main_arg11) = m ((c.tc : Thread Cert.Compress.nD Cert.Compress.τ).loc Cert.Compress.main_arg11)
      ∧ r.2.mem ((c.tc : Thread Cert.Compress.nD Cert.Compress.τ).loc Cert.Compress.main_arg12) = m ((c.tc : Thread Cert.Compress.nD Cert.Compress.τ).loc Cert.Compress.main_arg12))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7)
      ∧ r.2.mem ((c.tc : Thread Cert.CompressIdeal.nD Cert.CompressIdeal.τ).loc Cert.CompressIdeal.main_arg8) = m ((c.tc : Thread Cert.CompressIdeal.nD Cert.CompressIdeal.τ).loc Cert.CompressIdeal.main_arg8)
      ∧ r.2.mem ((c.tc : Thread Cert.CompressIdeal.nD Cert.CompressIdeal.τ).loc Cert.CompressIdeal.main_arg9) = m ((c.tc : Thread Cert.CompressIdeal.nD Cert.CompressIdeal.τ).loc Cert.CompressIdeal.main_arg9)
      ∧ r.2.mem ((c.tc : Thread Cert.CompressIdeal.nD Cert.CompressIdeal.τ).loc Cert.CompressIdeal.main_arg10) = m ((c.tc : Thread Cert.CompressIdeal.nD Cert.CompressIdeal.τ).loc Cert.CompressIdeal.main_arg10)
      ∧ r.2.mem ((c.tc : Thread Cert.CompressIdeal.nD Cert.CompressIdeal.τ).loc Cert.CompressIdeal.main_arg11) = m ((c.tc : Thread Cert.CompressIdeal.nD Cert.CompressIdeal.τ).loc Cert.CompressIdeal.main_arg11)
      ∧ r.2.mem ((c.tc : Thread Cert.CompressIdeal.nD Cert.CompressIdeal.τ).loc Cert.CompressIdeal.main_arg12) = m ((c.tc : Thread Cert.CompressIdeal.nD Cert.CompressIdeal.τ).loc Cert.CompressIdeal.main_arg12))
      ∧ r.2.sem = fun _ => 0)

def quiescent_CompressIdeal_pre_moderate [hCompressIdeal : Cert.CompressIdeal.Facts] [hPre_moderate : Cert.Pre_moderate.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal_moderate m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7)
      ∧ r.2.mem ((c.tc : Thread Cert.CompressIdeal.nD Cert.CompressIdeal.τ).loc Cert.CompressIdeal.main_arg8) = m ((c.tc : Thread Cert.CompressIdeal.nD Cert.CompressIdeal.τ).loc Cert.CompressIdeal.main_arg8)
      ∧ r.2.mem ((c.tc : Thread Cert.CompressIdeal.nD Cert.CompressIdeal.τ).loc Cert.CompressIdeal.main_arg9) = m ((c.tc : Thread Cert.CompressIdeal.nD Cert.CompressIdeal.τ).loc Cert.CompressIdeal.main_arg9)
      ∧ r.2.mem ((c.tc : Thread Cert.CompressIdeal.nD Cert.CompressIdeal.τ).loc Cert.CompressIdeal.main_arg10) = m ((c.tc : Thread Cert.CompressIdeal.nD Cert.CompressIdeal.τ).loc Cert.CompressIdeal.main_arg10)
      ∧ r.2.mem ((c.tc : Thread Cert.CompressIdeal.nD Cert.CompressIdeal.τ).loc Cert.CompressIdeal.main_arg11) = m ((c.tc : Thread Cert.CompressIdeal.nD Cert.CompressIdeal.τ).loc Cert.CompressIdeal.main_arg11)
      ∧ r.2.mem ((c.tc : Thread Cert.CompressIdeal.nD Cert.CompressIdeal.τ).loc Cert.CompressIdeal.main_arg12) = m ((c.tc : Thread Cert.CompressIdeal.nD Cert.CompressIdeal.τ).loc Cert.CompressIdeal.main_arg12))
      ∧ r.2.sem = fun _ => 0)

def quiescent_CodesIdeal [hCodesIdeal : Cert.CodesIdeal.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
      ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
      ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3)
      ∧ r.2.mem ((c.tc : Thread Cert.CodesIdeal.nD Cert.CodesIdeal.τ).loc Cert.CodesIdeal.main_arg4) = m ((c.tc : Thread Cert.CodesIdeal.nD Cert.CodesIdeal.τ).loc Cert.CodesIdeal.main_arg4)
      ∧ r.2.mem ((c.tc : Thread Cert.CodesIdeal.nD Cert.CodesIdeal.τ).loc Cert.CodesIdeal.main_arg5) = m ((c.tc : Thread Cert.CodesIdeal.nD Cert.CodesIdeal.τ).loc Cert.CodesIdeal.main_arg5)
      ∧ r.2.mem ((c.tc : Thread Cert.CodesIdeal.nD Cert.CodesIdeal.τ).loc Cert.CodesIdeal.main_arg6) = m ((c.tc : Thread Cert.CodesIdeal.nD Cert.CodesIdeal.τ).loc Cert.CodesIdeal.main_arg6)
      ∧ r.2.mem ((c.tc : Thread Cert.CodesIdeal.nD Cert.CodesIdeal.τ).loc Cert.CodesIdeal.main_arg7) = m ((c.tc : Thread Cert.CodesIdeal.nD Cert.CodesIdeal.τ).loc Cert.CodesIdeal.main_arg7)
      ∧ r.2.mem ((c.tc : Thread Cert.CodesIdeal.nD Cert.CodesIdeal.τ).loc Cert.CodesIdeal.main_arg8) = m ((c.tc : Thread Cert.CodesIdeal.nD Cert.CodesIdeal.τ).loc Cert.CodesIdeal.main_arg8)
      ∧ r.2.mem ((c.tc : Thread Cert.CodesIdeal.nD Cert.CodesIdeal.τ).loc Cert.CodesIdeal.main_arg9) = m ((c.tc : Thread Cert.CodesIdeal.nD Cert.CodesIdeal.τ).loc Cert.CodesIdeal.main_arg9)
      ∧ r.2.mem ((c.tc : Thread Cert.CodesIdeal.nD Cert.CodesIdeal.τ).loc Cert.CodesIdeal.main_arg10) = m ((c.tc : Thread Cert.CodesIdeal.nD Cert.CodesIdeal.τ).loc Cert.CodesIdeal.main_arg10)
      ∧ r.2.mem ((c.tc : Thread Cert.CodesIdeal.nD Cert.CodesIdeal.τ).loc Cert.CodesIdeal.main_arg11) = m ((c.tc : Thread Cert.CodesIdeal.nD Cert.CodesIdeal.τ).loc Cert.CodesIdeal.main_arg11)
      ∧ r.2.mem ((c.tc : Thread Cert.CodesIdeal.nD Cert.CodesIdeal.τ).loc Cert.CodesIdeal.main_arg12) = m ((c.tc : Thread Cert.CodesIdeal.nD Cert.CodesIdeal.τ).loc Cert.CodesIdeal.main_arg12))
      ∧ r.2.sem = fun _ => 0)

def quiescent_CodesIdeal_pre_moderate [hCodesIdeal : Cert.CodesIdeal.Facts] [hPre_moderate : Cert.Pre_moderate.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal_moderate m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
      ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
      ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3)
      ∧ r.2.mem ((c.tc : Thread Cert.CodesIdeal.nD Cert.CodesIdeal.τ).loc Cert.CodesIdeal.main_arg4) = m ((c.tc : Thread Cert.CodesIdeal.nD Cert.CodesIdeal.τ).loc Cert.CodesIdeal.main_arg4)
      ∧ r.2.mem ((c.tc : Thread Cert.CodesIdeal.nD Cert.CodesIdeal.τ).loc Cert.CodesIdeal.main_arg5) = m ((c.tc : Thread Cert.CodesIdeal.nD Cert.CodesIdeal.τ).loc Cert.CodesIdeal.main_arg5)
      ∧ r.2.mem ((c.tc : Thread Cert.CodesIdeal.nD Cert.CodesIdeal.τ).loc Cert.CodesIdeal.main_arg6) = m ((c.tc : Thread Cert.CodesIdeal.nD Cert.CodesIdeal.τ).loc Cert.CodesIdeal.main_arg6)
      ∧ r.2.mem ((c.tc : Thread Cert.CodesIdeal.nD Cert.CodesIdeal.τ).loc Cert.CodesIdeal.main_arg7) = m ((c.tc : Thread Cert.CodesIdeal.nD Cert.CodesIdeal.τ).loc Cert.CodesIdeal.main_arg7)
      ∧ r.2.mem ((c.tc : Thread Cert.CodesIdeal.nD Cert.CodesIdeal.τ).loc Cert.CodesIdeal.main_arg8) = m ((c.tc : Thread Cert.CodesIdeal.nD Cert.CodesIdeal.τ).loc Cert.CodesIdeal.main_arg8)
      ∧ r.2.mem ((c.tc : Thread Cert.CodesIdeal.nD Cert.CodesIdeal.τ).loc Cert.CodesIdeal.main_arg9) = m ((c.tc : Thread Cert.CodesIdeal.nD Cert.CodesIdeal.τ).loc Cert.CodesIdeal.main_arg9)
      ∧ r.2.mem ((c.tc : Thread Cert.CodesIdeal.nD Cert.CodesIdeal.τ).loc Cert.CodesIdeal.main_arg10) = m ((c.tc : Thread Cert.CodesIdeal.nD Cert.CodesIdeal.τ).loc Cert.CodesIdeal.main_arg10)
      ∧ r.2.mem ((c.tc : Thread Cert.CodesIdeal.nD Cert.CodesIdeal.τ).loc Cert.CodesIdeal.main_arg11) = m ((c.tc : Thread Cert.CodesIdeal.nD Cert.CodesIdeal.τ).loc Cert.CodesIdeal.main_arg11)
      ∧ r.2.mem ((c.tc : Thread Cert.CodesIdeal.nD Cert.CodesIdeal.τ).loc Cert.CodesIdeal.main_arg12) = m ((c.tc : Thread Cert.CodesIdeal.nD Cert.CodesIdeal.τ).loc Cert.CodesIdeal.main_arg12))
      ∧ r.2.sem = fun _ => 0)

def preserves_Kernel_KernelIdeal : Prop :=
  True

def algebraic_KernelIdeal_ReferenceIdeal_pre_scales [hKernelIdeal : Cert.KernelIdeal.Facts] [hReferenceIdeal : Cert.ReferenceIdeal.Facts] [hPre_scales : Cert.Pre_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20_1)) (v1 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_1) = v0 c
          ∧ r.2.mem ((c.tc : Thread Cert.KernelIdeal.nD Cert.KernelIdeal.τ).loc Cert.KernelIdeal.main_v20_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20_0) = v0 c
          ∧ r.2.mem ((c.tc : Thread Cert.ReferenceIdeal.nD Cert.ReferenceIdeal.τ).loc Cert.ReferenceIdeal.main_v20_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Project_ProjectIdeal : Prop :=
  True

def algebraic_ProjectIdeal_KeysIdeal [hProjectIdeal : Cert.ProjectIdeal.Facts] [hKeysIdeal : Cert.KeysIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.KeysIdeal.nD Cert.KeysIdeal.τ Cert.KeysIdeal.sig) → Buf (Elt Ideal) ℓ) (g' : Dev Cert.KeysIdeal.nD → PrngReg), Pre_ProjectIdeal m →
    (∀ c : Dev Cert.ProjectIdeal.nD,
      m' ((c.tc : Thread Cert.KeysIdeal.nD Cert.KeysIdeal.τ).loc Cert.KeysIdeal.main_arg0) = m ((c.tc : Thread Cert.ProjectIdeal.nD Cert.ProjectIdeal.τ).loc Cert.ProjectIdeal.main_arg0)
      ∧ m' ((c.tc : Thread Cert.KeysIdeal.nD Cert.KeysIdeal.τ).loc Cert.KeysIdeal.main_arg1) = m ((c.tc : Thread Cert.ProjectIdeal.nD Cert.ProjectIdeal.τ).loc Cert.ProjectIdeal.main_arg1)
      ∧ m' ((c.tc : Thread Cert.KeysIdeal.nD Cert.KeysIdeal.τ).loc Cert.KeysIdeal.main_arg2) = m ((c.tc : Thread Cert.ProjectIdeal.nD Cert.ProjectIdeal.τ).loc Cert.ProjectIdeal.main_arg2)
      ∧ m' ((c.tc : Thread Cert.KeysIdeal.nD Cert.KeysIdeal.τ).loc Cert.KeysIdeal.main_arg3) = m ((c.tc : Thread Cert.ProjectIdeal.nD Cert.ProjectIdeal.τ).loc Cert.ProjectIdeal.main_arg3)
      ∧ m' ((c.tc : Thread Cert.KeysIdeal.nD Cert.KeysIdeal.τ).loc Cert.KeysIdeal.main_arg4) = m ((c.tc : Thread Cert.ProjectIdeal.nD Cert.ProjectIdeal.τ).loc Cert.ProjectIdeal.main_arg4)
      ∧ m' ((c.tc : Thread Cert.KeysIdeal.nD Cert.KeysIdeal.τ).loc Cert.KeysIdeal.main_arg5) = m ((c.tc : Thread Cert.ProjectIdeal.nD Cert.ProjectIdeal.τ).loc Cert.ProjectIdeal.main_arg5)
      ∧ m' ((c.tc : Thread Cert.KeysIdeal.nD Cert.KeysIdeal.τ).loc Cert.KeysIdeal.main_arg6) = m ((c.tc : Thread Cert.ProjectIdeal.nD Cert.ProjectIdeal.τ).loc Cert.ProjectIdeal.main_arg6)
      ∧ m' ((c.tc : Thread Cert.KeysIdeal.nD Cert.KeysIdeal.τ).loc Cert.KeysIdeal.main_arg7) = m ((c.tc : Thread Cert.ProjectIdeal.nD Cert.ProjectIdeal.τ).loc Cert.ProjectIdeal.main_arg7)
      ∧ m' ((c.tc : Thread Cert.KeysIdeal.nD Cert.KeysIdeal.τ).loc Cert.KeysIdeal.main_arg8) = m ((c.tc : Thread Cert.ProjectIdeal.nD Cert.ProjectIdeal.τ).loc Cert.ProjectIdeal.main_arg8)
      ∧ m' ((c.tc : Thread Cert.KeysIdeal.nD Cert.KeysIdeal.τ).loc Cert.KeysIdeal.main_arg9) = m ((c.tc : Thread Cert.ProjectIdeal.nD Cert.ProjectIdeal.τ).loc Cert.ProjectIdeal.main_arg9)
      ∧ m' ((c.tc : Thread Cert.KeysIdeal.nD Cert.KeysIdeal.τ).loc Cert.KeysIdeal.main_arg10) = m ((c.tc : Thread Cert.ProjectIdeal.nD Cert.ProjectIdeal.τ).loc Cert.ProjectIdeal.main_arg10)
      ∧ m' ((c.tc : Thread Cert.KeysIdeal.nD Cert.KeysIdeal.τ).loc Cert.KeysIdeal.main_arg11) = m ((c.tc : Thread Cert.ProjectIdeal.nD Cert.ProjectIdeal.τ).loc Cert.ProjectIdeal.main_arg11)
      ∧ m' ((c.tc : Thread Cert.KeysIdeal.nD Cert.KeysIdeal.τ).loc Cert.KeysIdeal.main_arg12) = m ((c.tc : Thread Cert.ProjectIdeal.nD Cert.ProjectIdeal.τ).loc Cert.ProjectIdeal.main_arg12)) →
    ∃ (v0 : (c : Dev Cert.ProjectIdeal.nD) → Buf (Elt Ideal) ((c.tc : Thread Cert.ProjectIdeal.nD Cert.ProjectIdeal.τ).loc Cert.ProjectIdeal.main_v16_4)) (v1 : (c : Dev Cert.ProjectIdeal.nD) → Buf (Elt Ideal) ((c.tc : Thread Cert.ProjectIdeal.nD Cert.ProjectIdeal.τ).loc Cert.ProjectIdeal.main_v16_5)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v16_4) = v0 c
          ∧ r.2.mem ((c.tc : Thread Cert.ProjectIdeal.nD Cert.ProjectIdeal.τ).loc Cert.ProjectIdeal.main_v16_5) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
          ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
          ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
          ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10)
          ∧ r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11)
          ∧ r.2.mem ((c.tc : Thread Cert.ProjectIdeal.nD Cert.ProjectIdeal.τ).loc Cert.ProjectIdeal.main_arg12) = m ((c.tc : Thread Cert.ProjectIdeal.nD Cert.ProjectIdeal.τ).loc Cert.ProjectIdeal.main_arg12))
      ∧ θ_run (Cert.KeysIdeal.defs (F := Ideal)) (onTc (τ := Cert.KeysIdeal.τ) (Cert.KeysIdeal.main (F := Ideal))) ⟨m', fun _ => 0, g'⟩ (fun r => ∀ c : Dev Cert.KeysIdeal.nD,
          r.2.mem ((c.tc : Thread Cert.KeysIdeal.nD Cert.KeysIdeal.τ).loc Cert.KeysIdeal.main_v5_0) = v0 c
          ∧ r.2.mem ((c.tc : Thread Cert.KeysIdeal.nD Cert.KeysIdeal.τ).loc Cert.KeysIdeal.main_v5_1) = v1 c
          ∧ r.2.mem ((c.tc : Thread Cert.KeysIdeal.nD Cert.KeysIdeal.τ).loc Cert.KeysIdeal.main_arg0) = m' ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m' ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m' ((c.tc : Thread Cert.KeysIdeal.nD Cert.KeysIdeal.τ).loc Cert.KeysIdeal.main_arg2)
          ∧ r.2.mem ((c.tc : Thread Cert.KeysIdeal.nD Cert.KeysIdeal.τ).loc Cert.KeysIdeal.main_arg3) = m' ((c.tc : Thread Cert.KeysIdeal.nD Cert.KeysIdeal.τ).loc Cert.KeysIdeal.main_arg3)
          ∧ r.2.mem ((c.tc : Thread Cert.KeysIdeal.nD Cert.KeysIdeal.τ).loc Cert.KeysIdeal.main_arg4) = m' ((c.tc : Thread Cert.KeysIdeal.nD Cert.KeysIdeal.τ).loc Cert.KeysIdeal.main_arg4)
          ∧ r.2.mem ((c.tc : Thread Cert.KeysIdeal.nD Cert.KeysIdeal.τ).loc Cert.KeysIdeal.main_arg5) = m' ((c.tc : Thread Cert.KeysIdeal.nD Cert.KeysIdeal.τ).loc Cert.KeysIdeal.main_arg5)
          ∧ r.2.mem ((c.tc : Thread Cert.KeysIdeal.nD Cert.KeysIdeal.τ).loc Cert.KeysIdeal.main_arg6) = m' ((c.tc : Thread Cert.KeysIdeal.nD Cert.KeysIdeal.τ).loc Cert.KeysIdeal.main_arg6)
          ∧ r.2.mem ((c.tc : Thread Cert.KeysIdeal.nD Cert.KeysIdeal.τ).loc Cert.KeysIdeal.main_arg7) = m' ((c.tc : Thread Cert.KeysIdeal.nD Cert.KeysIdeal.τ).loc Cert.KeysIdeal.main_arg7)
          ∧ r.2.mem ((c.tc : Thread Cert.KeysIdeal.nD Cert.KeysIdeal.τ).loc Cert.KeysIdeal.main_arg8) = m' ((c.tc : Thread Cert.KeysIdeal.nD Cert.KeysIdeal.τ).loc Cert.KeysIdeal.main_arg8)
          ∧ r.2.mem ((c.tc : Thread Cert.KeysIdeal.nD Cert.KeysIdeal.τ).loc Cert.KeysIdeal.main_arg9) = m' ((c.tc : Thread Cert.KeysIdeal.nD Cert.KeysIdeal.τ).loc Cert.KeysIdeal.main_arg9)
          ∧ r.2.mem ((c.tc : Thread Cert.KeysIdeal.nD Cert.KeysIdeal.τ).loc Cert.KeysIdeal.main_arg10) = m' ((c.tc : Thread Cert.KeysIdeal.nD Cert.KeysIdeal.τ).loc Cert.KeysIdeal.main_arg10)
          ∧ r.2.mem ((c.tc : Thread Cert.KeysIdeal.nD Cert.KeysIdeal.τ).loc Cert.KeysIdeal.main_arg11) = m' ((c.tc : Thread Cert.KeysIdeal.nD Cert.KeysIdeal.τ).loc Cert.KeysIdeal.main_arg11)
          ∧ r.2.mem ((c.tc : Thread Cert.KeysIdeal.nD Cert.KeysIdeal.τ).loc Cert.KeysIdeal.main_arg12) = m' ((c.tc : Thread Cert.KeysIdeal.nD Cert.KeysIdeal.τ).loc Cert.KeysIdeal.main_arg12))

def preserves_Compress_CompressIdeal : Prop :=
  True

def algebraic_CompressIdeal_CodesIdeal_pre_moderate [hCompressIdeal : Cert.CompressIdeal.Facts] [hCodesIdeal : Cert.CodesIdeal.Facts] [hPre_moderate : Cert.Pre_moderate.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CodesIdeal.nD Cert.CodesIdeal.τ Cert.CodesIdeal.sig) → Buf (Elt Ideal) ℓ) (g' : Dev Cert.CodesIdeal.nD → PrngReg), Pre_CompressIdeal_moderate m →
    (∀ c : Dev Cert.CompressIdeal.nD,
      m' ((c.tc : Thread Cert.CodesIdeal.nD Cert.CodesIdeal.τ).loc Cert.CodesIdeal.main_arg0) = m ((c.tc : Thread Cert.CompressIdeal.nD Cert.CompressIdeal.τ).loc Cert.CompressIdeal.main_arg0)
      ∧ m' ((c.tc : Thread Cert.CodesIdeal.nD Cert.CodesIdeal.τ).loc Cert.CodesIdeal.main_arg1) = m ((c.tc : Thread Cert.CompressIdeal.nD Cert.CompressIdeal.τ).loc Cert.CompressIdeal.main_arg1)
      ∧ m' ((c.tc : Thread Cert.CodesIdeal.nD Cert.CodesIdeal.τ).loc Cert.CodesIdeal.main_arg2) = m ((c.tc : Thread Cert.CompressIdeal.nD Cert.CompressIdeal.τ).loc Cert.CompressIdeal.main_arg2)
      ∧ m' ((c.tc : Thread Cert.CodesIdeal.nD Cert.CodesIdeal.τ).loc Cert.CodesIdeal.main_arg3) = m ((c.tc : Thread Cert.CompressIdeal.nD Cert.CompressIdeal.τ).loc Cert.CompressIdeal.main_arg3)
      ∧ m' ((c.tc : Thread Cert.CodesIdeal.nD Cert.CodesIdeal.τ).loc Cert.CodesIdeal.main_arg4) = m ((c.tc : Thread Cert.CompressIdeal.nD Cert.CompressIdeal.τ).loc Cert.CompressIdeal.main_arg4)
      ∧ m' ((c.tc : Thread Cert.CodesIdeal.nD Cert.CodesIdeal.τ).loc Cert.CodesIdeal.main_arg5) = m ((c.tc : Thread Cert.CompressIdeal.nD Cert.CompressIdeal.τ).loc Cert.CompressIdeal.main_arg5)
      ∧ m' ((c.tc : Thread Cert.CodesIdeal.nD Cert.CodesIdeal.τ).loc Cert.CodesIdeal.main_arg6) = m ((c.tc : Thread Cert.CompressIdeal.nD Cert.CompressIdeal.τ).loc Cert.CompressIdeal.main_arg6)
      ∧ m' ((c.tc : Thread Cert.CodesIdeal.nD Cert.CodesIdeal.τ).loc Cert.CodesIdeal.main_arg7) = m ((c.tc : Thread Cert.CompressIdeal.nD Cert.CompressIdeal.τ).loc Cert.CompressIdeal.main_arg7)
      ∧ m' ((c.tc : Thread Cert.CodesIdeal.nD Cert.CodesIdeal.τ).loc Cert.CodesIdeal.main_arg8) = m ((c.tc : Thread Cert.CompressIdeal.nD Cert.CompressIdeal.τ).loc Cert.CompressIdeal.main_arg8)
      ∧ m' ((c.tc : Thread Cert.CodesIdeal.nD Cert.CodesIdeal.τ).loc Cert.CodesIdeal.main_arg9) = m ((c.tc : Thread Cert.CompressIdeal.nD Cert.CompressIdeal.τ).loc Cert.CompressIdeal.main_arg9)
      ∧ m' ((c.tc : Thread Cert.CodesIdeal.nD Cert.CodesIdeal.τ).loc Cert.CodesIdeal.main_arg10) = m ((c.tc : Thread Cert.CompressIdeal.nD Cert.CompressIdeal.τ).loc Cert.CompressIdeal.main_arg10)
      ∧ m' ((c.tc : Thread Cert.CodesIdeal.nD Cert.CodesIdeal.τ).loc Cert.CodesIdeal.main_arg11) = m ((c.tc : Thread Cert.CompressIdeal.nD Cert.CompressIdeal.τ).loc Cert.CompressIdeal.main_arg11)
      ∧ m' ((c.tc : Thread Cert.CodesIdeal.nD Cert.CodesIdeal.τ).loc Cert.CodesIdeal.main_arg12) = m ((c.tc : Thread Cert.CompressIdeal.nD Cert.CompressIdeal.τ).loc Cert.CompressIdeal.main_arg12)) →
    ∃ (v0 : (c : Dev Cert.CompressIdeal.nD) → Buf (Elt Ideal) ((c.tc : Thread Cert.CompressIdeal.nD Cert.CompressIdeal.τ).loc Cert.CompressIdeal.main_v16_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v16_1) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
          ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7)
          ∧ r.2.mem ((c.tc : Thread Cert.CompressIdeal.nD Cert.CompressIdeal.τ).loc Cert.CompressIdeal.main_arg8) = m ((c.tc : Thread Cert.CompressIdeal.nD Cert.CompressIdeal.τ).loc Cert.CompressIdeal.main_arg8)
          ∧ r.2.mem ((c.tc : Thread Cert.CompressIdeal.nD Cert.CompressIdeal.τ).loc Cert.CompressIdeal.main_arg9) = m ((c.tc : Thread Cert.CompressIdeal.nD Cert.CompressIdeal.τ).loc Cert.CompressIdeal.main_arg9)
          ∧ r.2.mem ((c.tc : Thread Cert.CompressIdeal.nD Cert.CompressIdeal.τ).loc Cert.CompressIdeal.main_arg10) = m ((c.tc : Thread Cert.CompressIdeal.nD Cert.CompressIdeal.τ).loc Cert.CompressIdeal.main_arg10)
          ∧ r.2.mem ((c.tc : Thread Cert.CompressIdeal.nD Cert.CompressIdeal.τ).loc Cert.CompressIdeal.main_arg11) = m ((c.tc : Thread Cert.CompressIdeal.nD Cert.CompressIdeal.τ).loc Cert.CompressIdeal.main_arg11)
          ∧ r.2.mem ((c.tc : Thread Cert.CompressIdeal.nD Cert.CompressIdeal.τ).loc Cert.CompressIdeal.main_arg12) = m ((c.tc : Thread Cert.CompressIdeal.nD Cert.CompressIdeal.τ).loc Cert.CompressIdeal.main_arg12))
      ∧ θ_run (Cert.CodesIdeal.defs (F := Ideal)) (onTc (τ := Cert.CodesIdeal.τ) (Cert.CodesIdeal.main (F := Ideal))) ⟨m', fun _ => 0, g'⟩ (fun r => ∀ c : Dev Cert.CodesIdeal.nD,
          r.2.mem ((c.tc : Thread Cert.CodesIdeal.nD Cert.CodesIdeal.τ).loc Cert.CodesIdeal.main_v1) = v0 c
          ∧ r.2.mem ((c.tc : Thread Cert.CodesIdeal.nD Cert.CodesIdeal.τ).loc Cert.CodesIdeal.main_arg0) = m' ((c.tc : Thread Cert.CodesIdeal.nD Cert.CodesIdeal.τ).loc Cert.CodesIdeal.main_arg0)
          ∧ r.2.mem ((c.tc : Thread Cert.CodesIdeal.nD Cert.CodesIdeal.τ).loc Cert.CodesIdeal.main_arg1) = m' ((c.tc : Thread Cert.CodesIdeal.nD Cert.CodesIdeal.τ).loc Cert.CodesIdeal.main_arg1)
          ∧ r.2.mem ((c.tc : Thread Cert.CodesIdeal.nD Cert.CodesIdeal.τ).loc Cert.CodesIdeal.main_arg2) = m' ((c.tc : Thread Cert.CodesIdeal.nD Cert.CodesIdeal.τ).loc Cert.CodesIdeal.main_arg2)
          ∧ r.2.mem ((c.tc : Thread Cert.CodesIdeal.nD Cert.CodesIdeal.τ).loc Cert.CodesIdeal.main_arg3) = m' ((c.tc : Thread Cert.CodesIdeal.nD Cert.CodesIdeal.τ).loc Cert.CodesIdeal.main_arg3)
          ∧ r.2.mem ((c.tc : Thread Cert.CodesIdeal.nD Cert.CodesIdeal.τ).loc Cert.CodesIdeal.main_arg4) = m' ((c.tc : Thread Cert.CodesIdeal.nD Cert.CodesIdeal.τ).loc Cert.CodesIdeal.main_arg4)
          ∧ r.2.mem ((c.tc : Thread Cert.CodesIdeal.nD Cert.CodesIdeal.τ).loc Cert.CodesIdeal.main_arg5) = m' ((c.tc : Thread Cert.CodesIdeal.nD Cert.CodesIdeal.τ).loc Cert.CodesIdeal.main_arg5)
          ∧ r.2.mem ((c.tc : Thread Cert.CodesIdeal.nD Cert.CodesIdeal.τ).loc Cert.CodesIdeal.main_arg6) = m' ((c.tc : Thread Cert.CodesIdeal.nD Cert.CodesIdeal.τ).loc Cert.CodesIdeal.main_arg6)
          ∧ r.2.mem ((c.tc : Thread Cert.CodesIdeal.nD Cert.CodesIdeal.τ).loc Cert.CodesIdeal.main_arg7) = m' ((c.tc : Thread Cert.CodesIdeal.nD Cert.CodesIdeal.τ).loc Cert.CodesIdeal.main_arg7)
          ∧ r.2.mem ((c.tc : Thread Cert.CodesIdeal.nD Cert.CodesIdeal.τ).loc Cert.CodesIdeal.main_arg8) = m' ((c.tc : Thread Cert.CodesIdeal.nD Cert.CodesIdeal.τ).loc Cert.CodesIdeal.main_arg8)
          ∧ r.2.mem ((c.tc : Thread Cert.CodesIdeal.nD Cert.CodesIdeal.τ).loc Cert.CodesIdeal.main_arg9) = m' ((c.tc : Thread Cert.CodesIdeal.nD Cert.CodesIdeal.τ).loc Cert.CodesIdeal.main_arg9)
          ∧ r.2.mem ((c.tc : Thread Cert.CodesIdeal.nD Cert.CodesIdeal.τ).loc Cert.CodesIdeal.main_arg10) = m' ((c.tc : Thread Cert.CodesIdeal.nD Cert.CodesIdeal.τ).loc Cert.CodesIdeal.main_arg10)
          ∧ r.2.mem ((c.tc : Thread Cert.CodesIdeal.nD Cert.CodesIdeal.τ).loc Cert.CodesIdeal.main_arg11) = m' ((c.tc : Thread Cert.CodesIdeal.nD Cert.CodesIdeal.τ).loc Cert.CodesIdeal.main_arg11)
          ∧ r.2.mem ((c.tc : Thread Cert.CodesIdeal.nD Cert.CodesIdeal.τ).loc Cert.CodesIdeal.main_arg12) = m' ((c.tc : Thread Cert.CodesIdeal.nD Cert.CodesIdeal.τ).loc Cert.CodesIdeal.main_arg12))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hKeysIdeal : Cert.KeysIdeal.Facts) (hCompress : Cert.Compress.Facts) (hCompressIdeal : Cert.CompressIdeal.Facts) (hCodesIdeal : Cert.CodesIdeal.Facts) (hPre_scales : Cert.Pre_scales.Facts) (hPre_moderate : Cert.Pre_moderate.Facts),
    quiescent_Kernel (hKernel := hKernel)
    ∧ quiescent_KernelIdeal (hKernelIdeal := hKernelIdeal)
    ∧ quiescent_KernelIdeal_pre_scales (hKernelIdeal := hKernelIdeal) (hPre_scales := hPre_scales)
    ∧ quiescent_ReferenceIdeal (hReferenceIdeal := hReferenceIdeal)
    ∧ quiescent_ReferenceIdeal_pre_scales (hReferenceIdeal := hReferenceIdeal) (hPre_scales := hPre_scales)
    ∧ quiescent_Project (hProject := hProject)
    ∧ quiescent_ProjectIdeal (hProjectIdeal := hProjectIdeal)
    ∧ quiescent_KeysIdeal (hKeysIdeal := hKeysIdeal)
    ∧ quiescent_Compress (hCompress := hCompress)
    ∧ quiescent_CompressIdeal (hCompressIdeal := hCompressIdeal)
    ∧ quiescent_CompressIdeal_pre_moderate (hCompressIdeal := hCompressIdeal) (hPre_moderate := hPre_moderate)
    ∧ quiescent_CodesIdeal (hCodesIdeal := hCodesIdeal)
    ∧ quiescent_CodesIdeal_pre_moderate (hCodesIdeal := hCodesIdeal) (hPre_moderate := hPre_moderate)
    ∧ preserves_Kernel_KernelIdeal
    ∧ algebraic_KernelIdeal_ReferenceIdeal_pre_scales (hKernelIdeal := hKernelIdeal) (hReferenceIdeal := hReferenceIdeal) (hPre_scales := hPre_scales)
    ∧ preserves_Project_ProjectIdeal
    ∧ algebraic_ProjectIdeal_KeysIdeal (hProjectIdeal := hProjectIdeal) (hKeysIdeal := hKeysIdeal)
    ∧ preserves_Compress_CompressIdeal
    ∧ algebraic_CompressIdeal_CodesIdeal_pre_moderate (hCompressIdeal := hCompressIdeal) (hCodesIdeal := hCodesIdeal) (hPre_moderate := hPre_moderate)
-- ==== Pre_moderate.lean ====
abbrev S1x8192x7168 : Shape := ⟨3, ![1, 8192, 7168]⟩
abbrev S1x8192x1536 : Shape := ⟨3, ![1, 8192, 1536]⟩
abbrev S1536x3072 : Shape := ⟨2, ![1536, 3072]⟩
abbrev S12x24 : Shape := ⟨2, ![12, 24]⟩
abbrev S7168x128 : Shape := ⟨2, ![7168, 128]⟩
abbrev S128 : Shape := ⟨1, ![128]⟩
abbrev S7168x24 : Shape := ⟨2, ![7168, 24]⟩
abbrev S1x8192x32 : Shape := ⟨3, ![1, 8192, 32]⟩
abbrev S1x8192x512 : Shape := ⟨3, ![1, 8192, 512]⟩
abbrev S1x8192x4 : Shape := ⟨3, ![1, 8192, 4]⟩
abbrev S1x8192x64 : Shape := ⟨3, ![1, 8192, 64]⟩
abbrev S_ : Shape := ⟨0, ![]⟩

class Facts : Prop where
  bitsLt_bf16_f32 : FTy.bits .bf16 < FTy.bits .f32
  bcast_S_S1x8192x1536 : S_.BroadcastsInDim S1x8192x1536 (![] : Fin 0 → Fin S1x8192x1536.rank)

variable [Facts]

def fn {F : FTy → Type} [FloatOps F] (main_arg0 : FVec F S1x8192x7168 .bf16) (main_arg1 : FVec F S1x8192x1536 .bf16) (main_arg2 : FVec F S1536x3072 .fp8e4m3) (main_arg3 : FVec F S12x24 .f32) (main_arg4 : FVec F S7168x128 .bf16) (main_arg5 : FVec F S128 .f32) (main_arg6 : FVec F S128 .f32) (main_arg7 : FVec F S7168x24 .bf16) (main_arg8 : FVec F S1x8192x32 .f32) (main_arg9 : FVec F S1x8192x32 .f32) (main_arg10 : FVec F S1x8192x512 .fp8e4m3) (main_arg11 : FVec F S1x8192x4 .f32) (main_arg12 : FVec F S1x8192x64 .bf16) : IVec S1x8192x1536 1 × IVec S1x8192x1536 1 :=
  let main_v0 : FVec F S1x8192x1536 .f32 := (extf .f32 · bitsLt_bf16_f32) main_arg1
  let main_v1 : FVec F S1x8192x1536 .f32 := Host.absf main_v0
  let main_cst : FVec F S_ .f32 := constant S_ .f32 0x00000000#32
  let main_v2 : FVec F S1x8192x1536 .f32 := broadcastInDim S1x8192x1536 ![] bcast_S_S1x8192x1536 main_cst
  let main_v3 : IVec S1x8192x1536 1 := cmpf .oeq main_v1 main_v2
  let main_cst_0 : FVec F S_ .f32 := constant S_ .f32 0x0D800000#32
  let main_v4 : FVec F S1x8192x1536 .f32 := broadcastInDim S1x8192x1536 ![] bcast_S_S1x8192x1536 main_cst_0
  let main_v5 : IVec S1x8192x1536 1 := cmpf .oge main_v1 main_v4
  let main_v6 : IVec S1x8192x1536 1 := ori main_v3 main_v5
  let main_cst_1 : FVec F S_ .f32 := constant S_ .f32 0x71800000#32
  let main_v7 : FVec F S1x8192x1536 .f32 := broadcastInDim S1x8192x1536 ![] bcast_S_S1x8192x1536 main_cst_1
  let main_v8 : IVec S1x8192x1536 1 := cmpf .ole main_v1 main_v7
  (main_v6, main_v8)
-- ==== Pre_scales.lean ====
abbrev S1x8192x16x576 : Shape := ⟨4, ![1, 8192, 16, 576]⟩
abbrev S1x8192x16 : Shape := ⟨3, ![1, 8192, 16]⟩
abbrev S1x8192x24x128 : Shape := ⟨4, ![1, 8192, 24, 128]⟩
abbrev S1x8192x24 : Shape := ⟨3, ![1, 8192, 24]⟩
abbrev S1x8192x576 : Shape := ⟨3, ![1, 8192, 576]⟩
abbrev S1x8192x128 : Shape := ⟨3, ![1, 8192, 128]⟩
abbrev S1x8192 : Shape := ⟨2, ![1, 8192]⟩
abbrev S_ : Shape := ⟨0, ![]⟩

class Facts : Prop where
  bcast_S_S1x8192x24 : S_.BroadcastsInDim S1x8192x24 (![] : Fin 0 → Fin S1x8192x24.rank)
  bcast_S_S1x8192 : S_.BroadcastsInDim S1x8192 (![] : Fin 0 → Fin S1x8192.rank)

variable [Facts]

def fn {F : FTy → Type} [FloatOps F] (main_arg0 : FVec F S1x8192x16x576 .fp8e4m3) (main_arg1 : FVec F S1x8192x16 .f32) (main_arg2 : FVec F S1x8192x16 .f32) (main_arg3 : FVec F S1x8192x24x128 .fp8e4m3) (main_arg4 : FVec F S1x8192x24 .f32) (main_arg5 : FVec F S1x8192x24 .f32) (main_arg6 : FVec F S1x8192x576 .bf16) (main_arg7 : FVec F S1x8192x128 .fp8e4m3) (main_arg8 : FVec F S1x8192 .f32) : IVec S1x8192x24 1 × IVec S1x8192 1 :=
  let main_cst : FVec F S_ .f32 := constant S_ .f32 0x00000000#32
  let main_v0 : FVec F S1x8192x24 .f32 := broadcastInDim S1x8192x24 ![] bcast_S_S1x8192x24 main_cst
  let main_v1 : IVec S1x8192x24 1 := cmpf .oge main_arg4 main_v0
  let main_cst_0 : FVec F S_ .f32 := constant S_ .f32 0x00000000#32
  let main_v2 : FVec F S1x8192 .f32 := broadcastInDim S1x8192 ![] bcast_S_S1x8192 main_cst_0
  let main_v3 : IVec S1x8192 1 := cmpf .oge main_arg8 main_v2
  let main_cst_1 : FVec F S_ .f32 := constant S_ .f32 0x7F800000#32
  let main_v4 : FVec F S1x8192 .f32 := broadcastInDim S1x8192 ![] bcast_S_S1x8192 main_cst_1
  let main_v5 : IVec S1x8192 1 := cmpf .olt main_arg8 main_v4
  let main_v6 : IVec S1x8192 1 := andi main_v3 main_v5
  (main_v1, main_v6)
-- ==== Kernel.lean ====
abbrev S1x8192x16x576 : Shape := ⟨4, ![1, 8192, 16, 576]⟩
abbrev S1x8192x16 : Shape := ⟨3, ![1, 8192, 16]⟩
abbrev S1x8192x24x128 : Shape := ⟨4, ![1, 8192, 24, 128]⟩
abbrev S1x8192x24 : Shape := ⟨3, ![1, 8192, 24]⟩
abbrev S1x8192x576 : Shape := ⟨3, ![1, 8192, 576]⟩
abbrev S1x8192x128 : Shape := ⟨3, ![1, 8192, 128]⟩
abbrev S1x8192 : Shape := ⟨2, ![1, 8192]⟩
abbrev S8192x24x128 : Shape := ⟨3, ![8192, 24, 128]⟩
abbrev S24x128x8192 : Shape := ⟨3, ![24, 128, 8192]⟩
abbrev S8192x24 : Shape := ⟨2, ![8192, 24]⟩
abbrev S24x8192 : Shape := ⟨2, ![24, 8192]⟩
abbrev S8192x576 : Shape := ⟨2, ![8192, 576]⟩
abbrev S_ : Shape := ⟨0, ![]⟩
abbrev S8192x64 : Shape := ⟨2, ![8192, 64]⟩
abbrev S8192x640 : Shape := ⟨2, ![8192, 640]⟩
abbrev S8192 : Shape := ⟨1, ![8192]⟩
abbrev S8192x1 : Shape := ⟨2, ![8192, 1]⟩
abbrev S8192x128 : Shape := ⟨2, ![8192, 128]⟩
abbrev S8192x16x576 : Shape := ⟨3, ![8192, 16, 576]⟩
abbrev S16x576x8192 : Shape := ⟨3, ![16, 576, 8192]⟩
abbrev S8192x16 : Shape := ⟨2, ![8192, 16]⟩
abbrev S16x8192 : Shape := ⟨2, ![16, 8192]⟩
abbrev S64x8192 : Shape := ⟨2, ![64, 8192]⟩
abbrev S16x576x256 : Shape := ⟨3, ![16, 576, 256]⟩
abbrev S16x256 : Shape := ⟨2, ![16, 256]⟩
abbrev S24x128x256 : Shape := ⟨3, ![24, 128, 256]⟩
abbrev S24x256 : Shape := ⟨2, ![24, 256]⟩
abbrev S1x256 : Shape := ⟨2, ![1, 256]⟩
abbrev S64x256 : Shape := ⟨2, ![64, 256]⟩
abbrev S256x256 : Shape := ⟨2, ![256, 256]⟩
abbrev S32x2x256 : Shape := ⟨3, ![32, 2, 256]⟩
abbrev S256x576 : Shape := ⟨2, ![256, 576]⟩
abbrev S1x576x256 : Shape := ⟨3, ![1, 576, 256]⟩
abbrev S576x256 : Shape := ⟨2, ![576, 256]⟩
abbrev S256x128 : Shape := ⟨2, ![256, 128]⟩
abbrev S1x128x256 : Shape := ⟨3, ![1, 128, 256]⟩
abbrev S128x256 : Shape := ⟨2, ![128, 256]⟩
abbrev S2x128x256 : Shape := ⟨3, ![2, 128, 256]⟩
abbrev S2x256 : Shape := ⟨2, ![2, 256]⟩
abbrev S1x2x256 : Shape := ⟨3, ![1, 2, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 33
  | .vmem => 24
  | .smem => 0
  | _ => 0

abbrev bufTy : (tb : Table) → Fin (tcTables nBuf tb) → BufTy
  | .hbm, ⟨0, _⟩ => ⟨S1x8192x16x576, .fp8e4m3⟩
  | .hbm, ⟨1, _⟩ => ⟨S1x8192x16, .f32⟩
  | .hbm, ⟨2, _⟩ => ⟨S1x8192x16, .f32⟩
  | .hbm, ⟨3, _⟩ => ⟨S1x8192x24x128, .fp8e4m3⟩
  | .hbm, ⟨4, _⟩ => ⟨S1x8192x24, .f32⟩
  | .hbm, ⟨5, _⟩ => ⟨S1x8192x24, .f32⟩
  | .hbm, ⟨6, _⟩ => ⟨S1x8192x576, .bf16⟩
  | .hbm, ⟨7, _⟩ => ⟨S1x8192x128, .fp8e4m3⟩
  | .hbm, ⟨8, _⟩ => ⟨S1x8192, .f32⟩
  | .hbm, ⟨9, _⟩ => ⟨S8192x24x128, .fp8e4m3⟩
  | .hbm, ⟨10, _⟩ => ⟨S24x128x8192, .fp8e4m3⟩
  | .hbm, ⟨11, _⟩ => ⟨S8192x24, .f32⟩
  | .hbm, ⟨12, _⟩ => ⟨S24x8192, .f32⟩
  | .hbm, ⟨13, _⟩ => ⟨S8192x24, .f32⟩
  | .hbm, ⟨14, _⟩ => ⟨S24x8192, .f32⟩
  | .hbm, ⟨15, _⟩ => ⟨S24x8192, .f32⟩
  | .hbm, ⟨16, _⟩ => ⟨S8192x576, .bf16⟩
  | .hbm, ⟨17, _⟩ => ⟨S_, .bf16⟩
  | .hbm, ⟨18, _⟩ => ⟨S8192x64, .bf16⟩
  | .hbm, ⟨19, _⟩ => ⟨S8192x640, .bf16⟩
  | .hbm, ⟨20, _⟩ => ⟨S8192, .f32⟩
  | .hbm, ⟨21, _⟩ => ⟨S8192x1, .f32⟩
  | .hbm, ⟨22, _⟩ => ⟨S8192x128, .f32⟩
  | .hbm, ⟨23, _⟩ => ⟨S8192x16x576, .fp8e4m3⟩
  | .hbm, ⟨24, _⟩ => ⟨S16x576x8192, .fp8e4m3⟩
  | .hbm, ⟨25, _⟩ => ⟨S8192x16, .f32⟩
  | .hbm, ⟨26, _⟩ => ⟨S16x8192, .f32⟩
  | .hbm, ⟨27, _⟩ => ⟨S8192x16, .f32⟩
  | .hbm, ⟨28, _⟩ => ⟨S16x8192, .f32⟩
  | .hbm, ⟨29, _⟩ => ⟨S8192x128, .fp8e4m3⟩
  | .hbm, ⟨30, _⟩ => ⟨S1x8192, .f32⟩
  | .hbm, ⟨31, _⟩ => ⟨S1x8192, .f32⟩
  | .hbm, ⟨32, _⟩ => ⟨S64x8192, .f32⟩
  | .local _ .vmem, ⟨0, _⟩ => ⟨S16x576x256, .fp8e4m3⟩
  | .local _ .vmem, ⟨1, _⟩ => ⟨S16x576x256, .fp8e4m3⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S24x128x256, .fp8e4m3⟩
  | .local _ .vmem, ⟨7, _⟩ => ⟨S24x128x256, .fp8e4m3⟩
  | .local _ .vmem, ⟨8, _⟩ => ⟨S24x256, .f32⟩
  | .local _ .vmem, ⟨9, _⟩ => ⟨S24x256, .f32⟩
  | .local _ .vmem, ⟨10, _⟩ => ⟨S8192x640, .bf16⟩
  | .local _ .vmem, ⟨11, _⟩ => ⟨S8192x128, .fp8e4m3⟩
  | .local _ .vmem, ⟨12, _⟩ => ⟨S8192x128, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S64x256, .f32⟩
  | .local _ .vmem, ⟨18, _⟩ => ⟨S64x256, .f32⟩
  | .local _ .vmem, ⟨19, _⟩ => ⟨S256x256, .f32⟩
  | .local _ .vmem, ⟨20, _⟩ => ⟨S256x256, .f32⟩
  | .local _ .vmem, ⟨21, _⟩ => ⟨S16x256, .f32⟩
  | .local _ .vmem, ⟨22, _⟩ => ⟨S16x256, .f32⟩
  | .local _ .vmem, ⟨23, _⟩ => ⟨S32x2x256, .f32⟩
  | _, _ => ⟨S1x8192x16x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

@[reducible] def k0_t1_loop (i : grid0.Coords) : Scf.Loop 32 :=
  let c0_i32_15 : BitVec 32 := 0#32
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let v28 : BitVec 32 := Scalar.subi v1 c0_i32_15
  let c1_i32_16 : BitVec 32 := 1#32
  let v30 : BitVec 32 := Scalar.divsi v28 c1_i32_16
  let v31 : BitVec 32 := Scalar.muli v30 c1_i32_16
  let v32 : BitVec 32 := Scalar.addi c0_i32_15 v31
  let c1_i32_17 : BitVec 32 := 1#32
  ⟨c0_i32_15, v32, c1_i32_17⟩
def k0_mult1 (i : grid0.Coords) (k0_t1 : Fin (k0_t1_loop i).trips) : BitVec 32 :=
  let c0_i32_15 : BitVec 32 := 0#32
  let c1_i32_17 : BitVec 32 := 1#32
  let arg19 : BitVec 32 := Scf.iv c0_i32_15 c1_i32_17 k0_t1
  let c256_i32_46 : BitVec 32 := 256#32
  let v89 : BitVec 32 := Scalar.muli arg19 c256_i32_46
  v89
def k0_off1 (i : grid0.Coords) (k0_t1 : Fin (k0_t1_loop i).trips) : Fin 2 → Nat :=
  let c0_i32_15 : BitVec 32 := 0#32
  let c1_i32_17 : BitVec 32 := 1#32
  let arg19 : BitVec 32 := Scf.iv c0_i32_15 c1_i32_17 k0_t1
  let c256_i32_46 : BitVec 32 := 256#32
  let v89 : BitVec 32 := Scalar.muli arg19 c256_i32_46
  let v90 : BitVec 32 := v89
  let v92 : Index := Scalar.indexCast v90
  let c0_48 : Index := 0#32
  ![v92.toNat, 0]
def k0_off2 (i : grid0.Coords) (k0_t1 : Fin (k0_t1_loop i).trips) : Fin 2 → Nat :=
  let c0_i32_15 : BitVec 32 := 0#32
  let c1_i32_17 : BitVec 32 := 1#32
  let arg19 : BitVec 32 := Scf.iv c0_i32_15 c1_i32_17 k0_t1
  let c256_i32_46 : BitVec 32 := 256#32
  let v89 : BitVec 32 := Scalar.muli arg19 c256_i32_46
  let v90 : BitVec 32 := v89
  let v320 : Index := Scalar.indexCast v90
  let c0_180 : Index := 0#32
  ![v320.toNat, 0]
def k0_off3 (i : grid0.Coords) (k0_t1 : Fin (k0_t1_loop i).trips) : Fin 3 → Nat :=
  let c0_i32_15 : BitVec 32 := 0#32
  let c1_i32_17 : BitVec 32 := 1#32
  let arg19 : BitVec 32 := Scf.iv c0_i32_15 c1_i32_17 k0_t1
  let v650 : Index := Scalar.indexCast arg19
  let c0_374 : Index := 0#32
  let c0_375 : Index := 0#32
  ![v650.toNat, 0, 0]
@[reducible] def k0_t2_loop (i : grid0.Coords) : Scf.Loop 32 :=
  let c0_i32_15 : BitVec 32 := 0#32
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let v28 : BitVec 32 := Scalar.subi v1 c0_i32_15
  let c1_i32_16 : BitVec 32 := 1#32
  let v30 : BitVec 32 := Scalar.divsi v28 c1_i32_16
  let v31 : BitVec 32 := Scalar.muli v30 c1_i32_16
  let v32 : BitVec 32 := Scalar.addi c0_i32_15 v31
  let v29 : BitVec 32 := Scalar.addi c0_i32_15 v28
  let c1_i32_18 : BitVec 32 := 1#32
  ⟨v32, v29, c1_i32_18⟩
def k0_mult2 (i : grid0.Coords) (k0_t2 : Fin (k0_t2_loop i).trips) : BitVec 32 :=
  let c0_i32_15 : BitVec 32 := 0#32
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let v28 : BitVec 32 := Scalar.subi v1 c0_i32_15
  let c1_i32_16 : BitVec 32 := 1#32
  let v30 : BitVec 32 := Scalar.divsi v28 c1_i32_16
  let v31 : BitVec 32 := Scalar.muli v30 c1_i32_16
  let v32 : BitVec 32 := Scalar.addi c0_i32_15 v31
  let c1_i32_18 : BitVec 32 := 1#32
  let arg19 : BitVec 32 := Scf.iv v32 c1_i32_18 k0_t2
  let c256_i32_46 : BitVec 32 := 256#32
  let v89 : BitVec 32 := Scalar.muli arg19 c256_i32_46
  v89
def k0_off4 (i : grid0.Coords) (k0_t2 : Fin (k0_t2_loop i).trips) : Fin 2 → Nat :=
  let c0_i32_15 : BitVec 32 := 0#32
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let v28 : BitVec 32 := Scalar.subi v1 c0_i32_15
  let c1_i32_16 : BitVec 32 := 1#32
  let v30 : BitVec 32 := Scalar.divsi v28 c1_i32_16
  let v31 : BitVec 32 := Scalar.muli v30 c1_i32_16
  let v32 : BitVec 32 := Scalar.addi c0_i32_15 v31
  let c1_i32_18 : BitVec 32 := 1#32
  let arg19 : BitVec 32 := Scf.iv v32 c1_i32_18 k0_t2
  let c256_i32_46 : BitVec 32 := 256#32
  let v89 : BitVec 32 := Scalar.muli arg19 c256_i32_46
  let v90 : BitVec 32 := v89
  let v92 : Index := Scalar.indexCast v90
  let c0_48 : Index := 0#32
  ![v92.toNat, 0]
def k0_off5 (i : grid0.Coords) (k0_t2 : Fin (k0_t2_loop i).trips) : Fin 2 → Nat :=
  let c0_i32_15 : BitVec 32 := 0#32
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let v28 : BitVec 32 := Scalar.subi v1 c0_i32_15
  let c1_i32_16 : BitVec 32 := 1#32
  let v30 : BitVec 32 := Scalar.divsi v28 c1_i32_16
  let v31 : BitVec 32 := Scalar.muli v30 c1_i32_16
  let v32 : BitVec 32 := Scalar.addi c0_i32_15 v31
  let c1_i32_18 : BitVec 32 := 1#32
  let arg19 : BitVec 32 := Scf.iv v32 c1_i32_18 k0_t2
  let c256_i32_46 : BitVec 32 := 256#32
  let v89 : BitVec 32 := Scalar.muli arg19 c256_i32_46
  let v90 : BitVec 32 := v89
  let v320 : Index := Scalar.indexCast v90
  let c0_180 : Index := 0#32
  ![v320.toNat, 0]
def k0_off6 (i : grid0.Coords) (k0_t2 : Fin (k0_t2_loop i).trips) : Fin 3 → Nat :=
  let c0_i32_15 : BitVec 32 := 0#32
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let v28 : BitVec 32 := Scalar.subi v1 c0_i32_15
  let c1_i32_16 : BitVec 32 := 1#32
  let v30 : BitVec 32 := Scalar.divsi v28 c1_i32_16
  let v31 : BitVec 32 := Scalar.muli v30 c1_i32_16
  let v32 : BitVec 32 := Scalar.addi c0_i32_15 v31
  let c1_i32_18 : BitVec 32 := 1#32
  let arg19 : BitVec 32 := Scf.iv v32 c1_i32_18 k0_t2
  let v650 : Index := Scalar.indexCast arg19
  let c0_374 : Index := 0#32
  let c0_375 : Index := 0#32
  ![v650.toNat, 0, 0]
@[reducible] def k0_t3_loop (i : grid0.Coords) : Scf.Loop 32 :=
  let c0_i32_47 : BitVec 32 := 0#32
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let v90 : BitVec 32 := Scalar.subi v1 c0_i32_47
  let c1_i32_48 : BitVec 32 := 1#32
  let v92 : BitVec 32 := Scalar.divsi v90 c1_i32_48
  let v93 : BitVec 32 := Scalar.muli v92 c1_i32_48
  let v94 : BitVec 32 := Scalar.addi c0_i32_47 v93
  let c1_i32_49 : BitVec 32 := 1#32
  ⟨c0_i32_47, v94, c1_i32_49⟩
def k0_mult3 (i : grid0.Coords) (k0_t3 : Fin (k0_t3_loop i).trips) : BitVec 32 :=
  let c0_i32_47 : BitVec 32 := 0#32
  let c1_i32_49 : BitVec 32 := 1#32
  let arg19 : BitVec 32 := Scf.iv c0_i32_47 c1_i32_49 k0_t3
  let c256_i32_56 : BitVec 32 := 256#32
  let v107 : BitVec 32 := Scalar.muli arg19 c256_i32_56
  v107
@[reducible] def k0_t4_loop : Scf.Loop 32 :=
  let c0_i32_58 : BitVec 32 := 0#32
  let c16_i32 : BitVec 32 := 16#32
  let v113 : BitVec 32 := Scalar.addi c0_i32_58 c16_i32
  let c1_i32_59 : BitVec 32 := 1#32
  ⟨c0_i32_58, v113, c1_i32_59⟩
def k0_off7 (i : grid0.Coords) (k0_t3 : Fin (k0_t3_loop i).trips) : Fin 2 → Nat :=
  let c0_i32_47 : BitVec 32 := 0#32
  let c1_i32_49 : BitVec 32 := 1#32
  let arg19 : BitVec 32 := Scf.iv c0_i32_47 c1_i32_49 k0_t3
  let c256_i32_56 : BitVec 32 := 256#32
  let v107 : BitVec 32 := Scalar.muli arg19 c256_i32_56
  let v108 : BitVec 32 := v107
  let v115 : Index := Scalar.indexCast v108
  let c0_61 : Index := 0#32
  ![v115.toNat, 0]
def k0_off8 (k0_t4 : Fin k0_t4_loop.trips) : Fin 3 → Nat :=
  let c0_i32_58 : BitVec 32 := 0#32
  let c1_i32_59 : BitVec 32 := 1#32
  let arg21 : BitVec 32 := Scf.iv c0_i32_58 c1_i32_59 k0_t4
  let v118 : Index := Scalar.indexCast arg21
  let c0_62 : Index := 0#32
  let c0_63 : Index := 0#32
  ![v118.toNat, 0, 0]
def k0_off9 (k0_t4 : Fin k0_t4_loop.trips) : Fin 2 → Nat :=
  let c0_i32_58 : BitVec 32 := 0#32
  let c1_i32_59 : BitVec 32 := 1#32
  let arg21 : BitVec 32 := Scf.iv c0_i32_58 c1_i32_59 k0_t4
  let v122 : Index := Scalar.indexCast arg21
  let c0_65 : Index := 0#32
  ![v122.toNat, 0]
@[reducible] def k0_t5_loop (i : grid0.Coords) : Scf.Loop 32 :=
  let c0_i32_47 : BitVec 32 := 0#32
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let v90 : BitVec 32 := Scalar.subi v1 c0_i32_47
  let c1_i32_48 : BitVec 32 := 1#32
  let v92 : BitVec 32 := Scalar.divsi v90 c1_i32_48
  let v93 : BitVec 32 := Scalar.muli v92 c1_i32_48
  let v94 : BitVec 32 := Scalar.addi c0_i32_47 v93
  let v91 : BitVec 32 := Scalar.addi c0_i32_47 v90
  let c1_i32_50 : BitVec 32 := 1#32
  ⟨v94, v91, c1_i32_50⟩
def k0_mult4 (i : grid0.Coords) (k0_t5 : Fin (k0_t5_loop i).trips) : BitVec 32 :=
  let c0_i32_47 : BitVec 32 := 0#32
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let v90 : BitVec 32 := Scalar.subi v1 c0_i32_47
  let c1_i32_48 : BitVec 32 := 1#32
  let v92 : BitVec 32 := Scalar.divsi v90 c1_i32_48
  let v93 : BitVec 32 := Scalar.muli v92 c1_i32_48
  let v94 : BitVec 32 := Scalar.addi c0_i32_47 v93
  let c1_i32_50 : BitVec 32 := 1#32
  let arg19 : BitVec 32 := Scf.iv v94 c1_i32_50 k0_t5
  let c256_i32_56 : BitVec 32 := 256#32
  let v107 : BitVec 32 := Scalar.muli arg19 c256_i32_56
  v107
@[reducible] def k0_t6_loop : Scf.Loop 32 :=
  let c0_i32_58 : BitVec 32 := 0#32
  let c16_i32 : BitVec 32 := 16#32
  let v113 : BitVec 32 := Scalar.addi c0_i32_58 c16_i32
  let c1_i32_59 : BitVec 32 := 1#32
  ⟨c0_i32_58, v113, c1_i32_59⟩
def k0_off10 (i : grid0.Coords) (k0_t5 : Fin (k0_t5_loop i).trips) : Fin 2 → Nat :=
  let c0_i32_47 : BitVec 32 := 0#32
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let v90 : BitVec 32 := Scalar.subi v1 c0_i32_47
  let c1_i32_48 : BitVec 32 := 1#32
  let v92 : BitVec 32 := Scalar.divsi v90 c1_i32_48
  let v93 : BitVec 32 := Scalar.muli v92 c1_i32_48
  let v94 : BitVec 32 := Scalar.addi c0_i32_47 v93
  let c1_i32_50 : BitVec 32 := 1#32
  let arg19 : BitVec 32 := Scf.iv v94 c1_i32_50 k0_t5
  let c256_i32_56 : BitVec 32 := 256#32
  let v107 : BitVec 32 := Scalar.muli arg19 c256_i32_56
  let v108 : BitVec 32 := v107
  let v115 : Index := Scalar.indexCast v108
  let c0_61 : Index := 0#32
  ![v115.toNat, 0]
def k0_off11 (k0_t6 : Fin k0_t6_loop.trips) : Fin 3 → Nat :=
  let c0_i32_58 : BitVec 32 := 0#32
  let c1_i32_59 : BitVec 32 := 1#32
  let arg21 : BitVec 32 := Scf.iv c0_i32_58 c1_i32_59 k0_t6
  let v118 : Index := Scalar.indexCast arg21
  let c0_62 : Index := 0#32
  let c0_63 : Index := 0#32
  ![v118.toNat, 0, 0]
def k0_off12 (k0_t6 : Fin k0_t6_loop.trips) : Fin 2 → Nat :=
  let c0_i32_58 : BitVec 32 := 0#32
  let c1_i32_59 : BitVec 32 := 1#32
  let arg21 : BitVec 32 := Scf.iv c0_i32_58 c1_i32_59 k0_t6
  let v122 : Index := Scalar.indexCast arg21
  let c0_65 : Index := 0#32
  ![v122.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x576x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x128x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8192x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8192x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1x8192x16x576 : Shape := ⟨4, ![1, 8192, 16, 576]⟩
abbrev S1x8192x16 : Shape := ⟨3, ![1, 8192, 16]⟩
abbrev S1x8192x24x128 : Shape := ⟨4, ![1, 8192, 24, 128]⟩
abbrev S1x8192x24 : Shape := ⟨3, ![1, 8192, 24]⟩
abbrev S1x8192x576 : Shape := ⟨3, ![1, 8192, 576]⟩
abbrev S1x8192x128 : Shape := ⟨3, ![1, 8192, 128]⟩
abbrev S1x8192 : Shape := ⟨2, ![1, 8192]⟩
abbrev S8192x16x576 : Shape := ⟨3, ![8192, 16, 576]⟩
abbrev S16x8192x576 : Shape := ⟨3, ![16, 8192, 576]⟩
abbrev S8192x16 : Shape := ⟨2, ![8192, 16]⟩
abbrev S16x8192 : Shape := ⟨2, ![16, 8192]⟩
abbrev S16x1x8192 : Shape := ⟨3, ![16, 1, 8192]⟩
abbrev S8192x24x128 : Shape := ⟨3, ![8192, 24, 128]⟩
abbrev S24x8192x128 : Shape := ⟨3, ![24, 8192, 128]⟩
abbrev S8192x24 : Shape := ⟨2, ![8192, 24]⟩
abbrev S24x8192 : Shape := ⟨2, ![24, 8192]⟩
abbrev S24x1x8192 : Shape := ⟨3, ![24, 1, 8192]⟩
abbrev S8192x576 : Shape := ⟨2, ![8192, 576]⟩
abbrev S8192x128 : Shape := ⟨2, ![8192, 128]⟩
abbrev S8192 : Shape := ⟨1, ![8192]⟩
abbrev S8192x1 : Shape := ⟨2, ![8192, 1]⟩
abbrev S64x8192 : Shape := ⟨2, ![64, 8192]⟩
abbrev S8192x8192 : Shape := ⟨2, ![8192, 8192]⟩
abbrev S16x8192x8192 : Shape := ⟨3, ![16, 8192, 8192]⟩
abbrev S1x8192x8192 : Shape := ⟨3, ![1, 8192, 8192]⟩
abbrev S1x1x8192 : Shape := ⟨3, ![1, 1, 8192]⟩
abbrev S64x128x8192 : Shape := ⟨3, ![64, 128, 8192]⟩
abbrev S24x8192x8192 : Shape := ⟨3, ![24, 8192, 8192]⟩
abbrev S1x8192x1 : Shape := ⟨3, ![1, 8192, 1]⟩

abbrev nBuf : Space → Nat
  | .hbm => 31
  | .vmem => 11
  | .smem => 0
  | _ => 0

abbrev bufTy : (tb : Table) → Fin (tcTables nBuf tb) → BufTy
  | .hbm, ⟨0, _⟩ => ⟨S1x8192x16x576, .fp8e4m3⟩
  | .hbm, ⟨1, _⟩ => ⟨S1x8192x16, .f32⟩
  | .hbm, ⟨2, _⟩ => ⟨S1x8192x16, .f32⟩
  | .hbm, ⟨3, _⟩ => ⟨S1x8192x24x128, .fp8e4m3⟩
  | .hbm, ⟨4, _⟩ => ⟨S1x8192x24, .f32⟩
  | .hbm, ⟨5, _⟩ => ⟨S1x8192x24, .f32⟩
  | .hbm, ⟨6, _⟩ => ⟨S1x8192x576, .bf16⟩
  | .hbm, ⟨7, _⟩ => ⟨S1x8192x128, .fp8e4m3⟩
  | .hbm, ⟨8, _⟩ => ⟨S1x8192, .f32⟩
  | .hbm, ⟨9, _⟩ => ⟨S8192x16x576, .fp8e4m3⟩
  | .hbm, ⟨10, _⟩ => ⟨S16x8192x576, .fp8e4m3⟩
  | .hbm, ⟨11, _⟩ => ⟨S8192x16, .f32⟩
  | .hbm, ⟨12, _⟩ => ⟨S16x8192, .f32⟩
  | .hbm, ⟨13, _⟩ => ⟨S16x1x8192, .f32⟩
  | .hbm, ⟨14, _⟩ => ⟨S8192x16, .f32⟩
  | .hbm, ⟨15, _⟩ => ⟨S16x8192, .f32⟩
  | .hbm, ⟨16, _⟩ => ⟨S16x1x8192, .f32⟩
  | .hbm, ⟨17, _⟩ => ⟨S8192x24x128, .fp8e4m3⟩
  | .hbm, ⟨18, _⟩ => ⟨S24x8192x128, .fp8e4m3⟩
  | .hbm, ⟨19, _⟩ => ⟨S8192x24, .f32⟩
  | .hbm, ⟨20, _⟩ => ⟨S24x8192, .f32⟩
  | .hbm, ⟨21, _⟩ => ⟨S24x1x8192, .f32⟩
  | .hbm, ⟨22, _⟩ => ⟨S8192x24, .f32⟩
  | .hbm, ⟨23, _⟩ => ⟨S24x8192, .f32⟩
  | .hbm, ⟨24, _⟩ => ⟨S24x1x8192, .f32⟩
  | .hbm, ⟨25, _⟩ => ⟨S8192x576, .bf16⟩
  | .hbm, ⟨26, _⟩ => ⟨S8192x128, .fp8e4m3⟩
  | .hbm, ⟨27, _⟩ => ⟨S8192, .f32⟩
  | .hbm, ⟨28, _⟩ => ⟨S8192x1, .f32⟩
  | .hbm, ⟨29, _⟩ => ⟨S1x8192, .f32⟩
  | .hbm, ⟨30, _⟩ => ⟨S64x8192, .f32⟩
  | .local _ .vmem, ⟨0, _⟩ => ⟨S16x8192x576, .fp8e4m3⟩
  | .local _ .vmem, ⟨1, _⟩ => ⟨S16x1x8192, .f32⟩
  | .local _ .vmem, ⟨2, _⟩ => ⟨S16x1x8192, .f32⟩
  | .local _ .vmem, ⟨3, _⟩ => ⟨S24x8192x128, .fp8e4m3⟩
  | .local _ .vmem, ⟨4, _⟩ => ⟨S24x1x8192, .f32⟩
  | .local _ .vmem, ⟨5, _⟩ => ⟨S24x1x8192, .f32⟩
  | .local _ .vmem, ⟨6, _⟩ => ⟨S8192x576, .bf16⟩
  | .local _ .vmem, ⟨7, _⟩ => ⟨S8192x128, .fp8e4m3⟩
  | .local _ .vmem, ⟨8, _⟩ => ⟨S8192x1, .f32⟩
  | .local _ .vmem, ⟨9, _⟩ => ⟨S1x8192, .f32⟩
  | .local _ .vmem, ⟨10, _⟩ => ⟨S64x8192, .f32⟩
  | _, _ => ⟨S1x8192x16x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S16x8192x576 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x8192x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x576 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Project.lean ====
abbrev S1x8192x7168 : Shape := ⟨3, ![1, 8192, 7168]⟩
abbrev S1x8192x1536 : Shape := ⟨3, ![1, 8192, 1536]⟩
abbrev S1536x3072 : Shape := ⟨2, ![1536, 3072]⟩
abbrev S12x24 : Shape := ⟨2, ![12, 24]⟩
abbrev S7168x128 : Shape := ⟨2, ![7168, 128]⟩
abbrev S128 : Shape := ⟨1, ![128]⟩
abbrev S7168x24 : Shape := ⟨2, ![7168, 24]⟩
abbrev S1x8192x32 : Shape := ⟨3, ![1, 8192, 32]⟩
abbrev S1x8192x512 : Shape := ⟨3, ![1, 8192, 512]⟩
abbrev S1x8192x4 : Shape := ⟨3, ![1, 8192, 4]⟩
abbrev S1x8192x64 : Shape := ⟨3, ![1, 8192, 64]⟩
abbrev S_ : Shape := ⟨0, ![]⟩
abbrev S7168x104 : Shape := ⟨2, ![7168, 104]⟩
abbrev S7168x256 : Shape := ⟨2, ![7168, 256]⟩
abbrev S8192x7168 : Shape := ⟨2, ![8192, 7168]⟩
abbrev S8192x1536 : Shape := ⟨2, ![8192, 1536]⟩
abbrev S3072x1536 : Shape := ⟨2, ![3072, 1536]⟩
abbrev S1x128 : Shape := ⟨2, ![1, 128]⟩
abbrev S8192x32 : Shape := ⟨2, ![8192, 32]⟩
abbrev S32x8192 : Shape := ⟨2, ![32, 8192]⟩
abbrev S8192x512 : Shape := ⟨2, ![8192, 512]⟩
abbrev S8192x4 : Shape := ⟨2, ![8192, 4]⟩
abbrev S4x8192 : Shape := ⟨2, ![4, 8192]⟩
abbrev S8192x64 : Shape := ⟨2, ![8192, 64]⟩
abbrev S64x8192 : Shape := ⟨2, ![64, 8192]⟩
abbrev S12x8192 : Shape := ⟨2, ![12, 8192]⟩
abbrev S24x128x8192 : Shape := ⟨3, ![24, 128, 8192]⟩
abbrev S24x8192 : Shape := ⟨2, ![24, 8192]⟩
abbrev S8192x128 : Shape := ⟨2, ![8192, 128]⟩
abbrev S1x8192 : Shape := ⟨2, ![1, 8192]⟩
abbrev S8192x640 : Shape := ⟨2, ![8192, 640]⟩
abbrev S256x7168 : Shape := ⟨2, ![256, 7168]⟩
abbrev S256x1536 : Shape := ⟨2, ![256, 1536]⟩
abbrev S32x256 : Shape := ⟨2, ![32, 256]⟩
abbrev S256x512 : Shape := ⟨2, ![256, 512]⟩
abbrev S4x256 : Shape := ⟨2, ![4, 256]⟩
abbrev S64x256 : Shape := ⟨2, ![64, 256]⟩
abbrev S12x256 : Shape := ⟨2, ![12, 256]⟩
abbrev S24x128x256 : Shape := ⟨3, ![24, 128, 256]⟩
abbrev S24x256 : Shape := ⟨2, ![24, 256]⟩
abbrev S256x128 : Shape := ⟨2, ![256, 128]⟩
abbrev S1x256 : Shape := ⟨2, ![1, 256]⟩
abbrev S256x640 : Shape := ⟨2, ![256, 640]⟩
abbrev S768x256 : Shape := ⟨2, ![768, 256]⟩
abbrev S128x128 : Shape := ⟨2, ![128, 128]⟩
abbrev S1x1 : Shape := ⟨2, ![1, 1]⟩
abbrev S256 : Shape := ⟨1, ![256]⟩
abbrev S256x1 : Shape := ⟨2, ![256, 1]⟩
abbrev S256x116 : Shape := ⟨2, ![256, 116]⟩
abbrev S128x256 : Shape := ⟨2, ![128, 256]⟩
abbrev S256x256 : Shape := ⟨2, ![256, 256]⟩
abbrev S768x1536 : Shape := ⟨2, ![768, 1536]⟩
abbrev S1x128x256 : Shape := ⟨3, ![1, 128, 256]⟩
abbrev S124x256 : Shape := ⟨2, ![124, 256]⟩

abbrev nBuf : Space → Nat
  | .hbm => 39
  | .vmem => 39
  | .smem => 1
  | _ => 0

abbrev bufTy : (tb : Table) → Fin (tcTables nBuf tb) → BufTy
  | .hbm, ⟨0, _⟩ => ⟨S1x8192x7168, .bf16⟩
  | .hbm, ⟨1, _⟩ => ⟨S1x8192x1536, .bf16⟩
  | .hbm, ⟨2, _⟩ => ⟨S1536x3072, .fp8e4m3⟩
  | .hbm, ⟨3, _⟩ => ⟨S12x24, .f32⟩
  | .hbm, ⟨4, _⟩ => ⟨S7168x128, .bf16⟩
  | .hbm, ⟨5, _⟩ => ⟨S128, .f32⟩
  | .hbm, ⟨6, _⟩ => ⟨S128, .f32⟩
  | .hbm, ⟨7, _⟩ => ⟨S7168x24, .bf16⟩
  | .hbm, ⟨8, _⟩ => ⟨S1x8192x32, .f32⟩
  | .hbm, ⟨9, _⟩ => ⟨S1x8192x32, .f32⟩
  | .hbm, ⟨10, _⟩ => ⟨S1x8192x512, .fp8e4m3⟩
  | .hbm, ⟨11, _⟩ => ⟨S1x8192x4, .f32⟩
  | .hbm, ⟨12, _⟩ => ⟨S1x8192x64, .bf16⟩
  | .hbm, ⟨13, _⟩ => ⟨S_, .bf16⟩
  | .hbm, ⟨14, _⟩ => ⟨S7168x104, .bf16⟩
  | .hbm, ⟨15, _⟩ => ⟨S7168x256, .bf16⟩
  | .hbm, ⟨16, _⟩ => ⟨S8192x7168, .bf16⟩
  | .hbm, ⟨17, _⟩ => ⟨S8192x1536, .bf16⟩
  | .hbm, ⟨18, _⟩ => ⟨S3072x1536, .fp8e4m3⟩
  | .hbm, ⟨19, _⟩ => ⟨S1x128, .f32⟩
  | .hbm, ⟨20, _⟩ => ⟨S1x128, .f32⟩
  | .hbm, ⟨21, _⟩ => ⟨S8192x32, .f32⟩
  | .hbm, ⟨22, _⟩ => ⟨S32x8192, .f32⟩
  | .hbm, ⟨23, _⟩ => ⟨S8192x32, .f32⟩
  | .hbm, ⟨24, _⟩ => ⟨S32x8192, .f32⟩
  | .hbm, ⟨25, _⟩ => ⟨S8192x512, .fp8e4m3⟩
  | .hbm, ⟨26, _⟩ => ⟨S8192x4, .f32⟩
  | .hbm, ⟨27, _⟩ => ⟨S4x8192, .f32⟩
  | .hbm, ⟨28, _⟩ => ⟨S8192x64, .bf16⟩
  | .hbm, ⟨29, _⟩ => ⟨S64x8192, .bf16⟩
  | .hbm, ⟨30, _⟩ => ⟨S8192x1536, .fp8e4m3⟩
  | .hbm, ⟨31, _⟩ => ⟨S12x8192, .f32⟩
  | .hbm, ⟨32, _⟩ => ⟨S24x128x8192, .fp8e4m3⟩
  | .hbm, ⟨33, _⟩ => ⟨S24x8192, .f32⟩
  | .hbm, ⟨34, _⟩ => ⟨S8192x128, .fp8e4m3⟩
  | .hbm, ⟨35, _⟩ => ⟨S1x8192, .f32⟩
  | .hbm, ⟨36, _⟩ => ⟨S8192x128, .f32⟩
  | .hbm, ⟨37, _⟩ => ⟨S24x8192, .f32⟩
  | .hbm, ⟨38, _⟩ => ⟨S8192x640, .bf16⟩
  | .local _ .vmem, ⟨0, _⟩ => ⟨S256x7168, .bf16⟩
  | .local _ .vmem, ⟨1, _⟩ => ⟨S256x7168, .bf16⟩
  | .local _ .vmem, ⟨2, _⟩ => ⟨S256x1536, .bf16⟩
  | .local _ .vmem, ⟨3, _⟩ => ⟨S256x1536, .bf16⟩
  | .local _ .vmem, ⟨4, _⟩ => ⟨S3072x1536, .fp8e4m3⟩
  | .local _ .vmem, ⟨5, _⟩ => ⟨S7168x256, .bf16⟩
  | .local _ .vmem, ⟨6, _⟩ => ⟨S1x128, .f32⟩
  | .local _ .vmem, ⟨7, _⟩ => ⟨S1x128, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S256x512, .fp8e4m3⟩
  | .local _ .vmem, ⟨13, _⟩ => ⟨S256x512, .fp8e4m3⟩
  | .local _ .vmem, ⟨14, _⟩ => ⟨S4x256, .f32⟩
  | .local _ .vmem, ⟨15, _⟩ => ⟨S4x256, .f32⟩
  | .local _ .vmem, ⟨16, _⟩ => ⟨S64x256, .bf16⟩
  | .local _ .vmem, ⟨17, _⟩ => ⟨S64x256, .bf16⟩
  | .local _ .vmem, ⟨18, _⟩ => ⟨S256x1536, .fp8e4m3⟩
  | .local _ .vmem, ⟨19, _⟩ => ⟨S256x1536, .fp8e4m3⟩
  | .local _ .vmem, ⟨20, _⟩ => ⟨S12x256, .f32⟩
  | .local _ .vmem, ⟨21, _⟩ => ⟨S12x256, .f32⟩
  | .local _ .vmem, ⟨22, _⟩ => ⟨S24x128x256, .fp8e4m3⟩
  | .local _ .vmem, ⟨23, _⟩ => ⟨S24x128x256, .fp8e4m3⟩
  | .local _ .vmem, ⟨24, _⟩ => ⟨S24x256, .f32⟩
  | .local _ .vmem, ⟨25, _⟩ => ⟨S24x256, .f32⟩
  | .local _ .vmem, ⟨26, _⟩ => ⟨S256x128, .fp8e4m3⟩
  | .local _ .vmem, ⟨27, _⟩ => ⟨S256x128, .fp8e4m3⟩
  | .local _ .vmem, ⟨28, _⟩ => ⟨S1x256, .f32⟩
  | .local _ .vmem, ⟨29, _⟩ => ⟨S1x256, .f32⟩
  | .local _ .vmem, ⟨30, _⟩ => ⟨S256x128, .f32⟩
  | .local _ .vmem, ⟨31, _⟩ => ⟨S256x128, .f32⟩
  | .local _ .vmem, ⟨32, _⟩ => ⟨S24x256, .f32⟩
  | .local _ .vmem, ⟨33, _⟩ => ⟨S24x256, .f32⟩
  | .local _ .vmem, ⟨34, _⟩ => ⟨S256x640, .bf16⟩
  | .local _ .vmem, ⟨35, _⟩ => ⟨S256x640, .bf16⟩
  | .local _ .vmem, ⟨36, _⟩ => ⟨S3072x1536, .bf16⟩
  | .local _ .vmem, ⟨37, _⟩ => ⟨S256x1536, .bf16⟩
  | .local _ .vmem, ⟨38, _⟩ => ⟨S768x256, .f32⟩
  | .local _ .smem, ⟨0, _⟩ => ⟨S12x24, .f32⟩
  | _, _ => ⟨S1x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_v16_5 : Ref sig .tc := ⟨.hbm, 35, rfl⟩
abbrev main_v16_6 : Ref sig .tc := ⟨.hbm, 36, rfl⟩
abbrev main_v16_7 : Ref sig .tc := ⟨.hbm, 37, rfl⟩
abbrev main_v16_8 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S12x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7168x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1536 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S12x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S24x128x256 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S24x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S24x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x640 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== KeysIdeal.lean ====
abbrev S1x8192x7168 : Shape := ⟨3, ![1, 8192, 7168]⟩
abbrev S1x8192x1536 : Shape := ⟨3, ![1, 8192, 1536]⟩
abbrev S1536x3072 : Shape := ⟨2, ![1536, 3072]⟩
abbrev S12x24 : Shape := ⟨2, ![12, 24]⟩
abbrev S7168x128 : Shape := ⟨2, ![7168, 128]⟩
abbrev S128 : Shape := ⟨1, ![128]⟩
abbrev S7168x24 : Shape := ⟨2, ![7168, 24]⟩
abbrev S1x8192x32 : Shape := ⟨3, ![1, 8192, 32]⟩
abbrev S1x8192x512 : Shape := ⟨3, ![1, 8192, 512]⟩
abbrev S1x8192x4 : Shape := ⟨3, ![1, 8192, 4]⟩
abbrev S1x8192x64 : Shape := ⟨3, ![1, 8192, 64]⟩
abbrev S8192x7168 : Shape := ⟨2, ![8192, 7168]⟩
abbrev S1x128 : Shape := ⟨2, ![1, 128]⟩
abbrev S8192x32 : Shape := ⟨2, ![8192, 32]⟩
abbrev S8192x128 : Shape := ⟨2, ![8192, 128]⟩
abbrev S1x8192 : Shape := ⟨2, ![1, 8192]⟩
abbrev S8192 : Shape := ⟨1, ![8192]⟩
abbrev S8192x1 : Shape := ⟨2, ![8192, 1]⟩
abbrev S8192x64 : Shape := ⟨2, ![8192, 64]⟩

abbrev nBuf : Space → Nat
  | .hbm => 20
  | .vmem => 8
  | .smem => 0
  | _ => 0

abbrev bufTy : (tb : Table) → Fin (tcTables nBuf tb) → BufTy
  | .hbm, ⟨0, _⟩ => ⟨S1x8192x7168, .bf16⟩
  | .hbm, ⟨1, _⟩ => ⟨S1x8192x1536, .bf16⟩
  | .hbm, ⟨2, _⟩ => ⟨S1536x3072, .fp8e4m3⟩
  | .hbm, ⟨3, _⟩ => ⟨S12x24, .f32⟩
  | .hbm, ⟨4, _⟩ => ⟨S7168x128, .bf16⟩
  | .hbm, ⟨5, _⟩ => ⟨S128, .f32⟩
  | .hbm, ⟨6, _⟩ => ⟨S128, .f32⟩
  | .hbm, ⟨7, _⟩ => ⟨S7168x24, .bf16⟩
  | .hbm, ⟨8, _⟩ => ⟨S1x8192x32, .f32⟩
  | .hbm, ⟨9, _⟩ => ⟨S1x8192x32, .f32⟩
  | .hbm, ⟨10, _⟩ => ⟨S1x8192x512, .fp8e4m3⟩
  | .hbm, ⟨11, _⟩ => ⟨S1x8192x4, .f32⟩
  | .hbm, ⟨12, _⟩ => ⟨S1x8192x64, .bf16⟩
  | .hbm, ⟨13, _⟩ => ⟨S8192x7168, .bf16⟩
  | .hbm, ⟨14, _⟩ => ⟨S1x128, .f32⟩
  | .hbm, ⟨15, _⟩ => ⟨S1x128, .f32⟩
  | .hbm, ⟨16, _⟩ => ⟨S8192x32, .f32⟩
  | .hbm, ⟨17, _⟩ => ⟨S8192x32, .f32⟩
  | .hbm, ⟨18, _⟩ => ⟨S8192x128, .fp8e4m3⟩
  | .hbm, ⟨19, _⟩ => ⟨S1x8192, .f32⟩
  | .local _ .vmem, ⟨0, _⟩ => ⟨S8192x7168, .bf16⟩
  | .local _ .vmem, ⟨1, _⟩ => ⟨S7168x128, .bf16⟩
  | .local _ .vmem, ⟨2, _⟩ => ⟨S1x128, .f32⟩
  | .local _ .vmem, ⟨3, _⟩ => ⟨S1x128, .f32⟩
  | .local _ .vmem, ⟨4, _⟩ => ⟨S8192x32, .f32⟩
  | .local _ .vmem, ⟨5, _⟩ => ⟨S8192x32, .f32⟩
  | .local _ .vmem, ⟨6, _⟩ => ⟨S8192x128, .fp8e4m3⟩
  | .local _ .vmem, ⟨7, _⟩ => ⟨S1x8192, .f32⟩
  | _, _ => ⟨S1x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Compress.lean ====
abbrev S1x8192x7168 : Shape := ⟨3, ![1, 8192, 7168]⟩
abbrev S1x8192x1536 : Shape := ⟨3, ![1, 8192, 1536]⟩
abbrev S1536x3072 : Shape := ⟨2, ![1536, 3072]⟩
abbrev S12x24 : Shape := ⟨2, ![12, 24]⟩
abbrev S7168x128 : Shape := ⟨2, ![7168, 128]⟩
abbrev S128 : Shape := ⟨1, ![128]⟩
abbrev S7168x24 : Shape := ⟨2, ![7168, 24]⟩
abbrev S1x8192x32 : Shape := ⟨3, ![1, 8192, 32]⟩
abbrev S1x8192x512 : Shape := ⟨3, ![1, 8192, 512]⟩
abbrev S1x8192x4 : Shape := ⟨3, ![1, 8192, 4]⟩
abbrev S1x8192x64 : Shape := ⟨3, ![1, 8192, 64]⟩
abbrev S_ : Shape := ⟨0, ![]⟩
abbrev S7168x104 : Shape := ⟨2, ![7168, 104]⟩
abbrev S7168x256 : Shape := ⟨2, ![7168, 256]⟩
abbrev S8192x7168 : Shape := ⟨2, ![8192, 7168]⟩
abbrev S8192x1536 : Shape := ⟨2, ![8192, 1536]⟩
abbrev S3072x1536 : Shape := ⟨2, ![3072, 1536]⟩
abbrev S1x128 : Shape := ⟨2, ![1, 128]⟩
abbrev S8192x32 : Shape := ⟨2, ![8192, 32]⟩
abbrev S32x8192 : Shape := ⟨2, ![32, 8192]⟩
abbrev S8192x512 : Shape := ⟨2, ![8192, 512]⟩
abbrev S8192x4 : Shape := ⟨2, ![8192, 4]⟩
abbrev S4x8192 : Shape := ⟨2, ![4, 8192]⟩
abbrev S8192x64 : Shape := ⟨2, ![8192, 64]⟩
abbrev S64x8192 : Shape := ⟨2, ![64, 8192]⟩
abbrev S12x8192 : Shape := ⟨2, ![12, 8192]⟩
abbrev S24x128x8192 : Shape := ⟨3, ![24, 128, 8192]⟩
abbrev S24x8192 : Shape := ⟨2, ![24, 8192]⟩
abbrev S8192x128 : Shape := ⟨2, ![8192, 128]⟩
abbrev S1x8192 : Shape := ⟨2, ![1, 8192]⟩
abbrev S8192x640 : Shape := ⟨2, ![8192, 640]⟩
abbrev S256x7168 : Shape := ⟨2, ![256, 7168]⟩
abbrev S256x1536 : Shape := ⟨2, ![256, 1536]⟩
abbrev S32x256 : Shape := ⟨2, ![32, 256]⟩
abbrev S256x512 : Shape := ⟨2, ![256, 512]⟩
abbrev S4x256 : Shape := ⟨2, ![4, 256]⟩
abbrev S64x256 : Shape := ⟨2, ![64, 256]⟩
abbrev S12x256 : Shape := ⟨2, ![12, 256]⟩
abbrev S24x128x256 : Shape := ⟨3, ![24, 128, 256]⟩
abbrev S24x256 : Shape := ⟨2, ![24, 256]⟩
abbrev S256x128 : Shape := ⟨2, ![256, 128]⟩
abbrev S1x256 : Shape := ⟨2, ![1, 256]⟩
abbrev S256x640 : Shape := ⟨2, ![256, 640]⟩
abbrev S768x256 : Shape := ⟨2, ![768, 256]⟩
abbrev S128x128 : Shape := ⟨2, ![128, 128]⟩
abbrev S1x1 : Shape := ⟨2, ![1, 1]⟩
abbrev S256 : Shape := ⟨1, ![256]⟩
abbrev S256x1 : Shape := ⟨2, ![256, 1]⟩
abbrev S256x116 : Shape := ⟨2, ![256, 116]⟩
abbrev S128x256 : Shape := ⟨2, ![128, 256]⟩
abbrev S256x256 : Shape := ⟨2, ![256, 256]⟩
abbrev S768x1536 : Shape := ⟨2, ![768, 1536]⟩
abbrev S1x128x256 : Shape := ⟨3, ![1, 128, 256]⟩
abbrev S124x256 : Shape := ⟨2, ![124, 256]⟩

abbrev nBuf : Space → Nat
  | .hbm => 39
  | .vmem => 39
  | .smem => 1
  | _ => 0

abbrev bufTy : (tb : Table) → Fin (tcTables nBuf tb) → BufTy
  | .hbm, ⟨0, _⟩ => ⟨S1x8192x7168, .bf16⟩
  | .hbm, ⟨1, _⟩ => ⟨S1x8192x1536, .bf16⟩
  | .hbm, ⟨2, _⟩ => ⟨S1536x3072, .fp8e4m3⟩
  | .hbm, ⟨3, _⟩ => ⟨S12x24, .f32⟩
  | .hbm, ⟨4, _⟩ => ⟨S7168x128, .bf16⟩
  | .hbm, ⟨5, _⟩ => ⟨S128, .f32⟩
  | .hbm, ⟨6, _⟩ => ⟨S128, .f32⟩
  | .hbm, ⟨7, _⟩ => ⟨S7168x24, .bf16⟩
  | .hbm, ⟨8, _⟩ => ⟨S1x8192x32, .f32⟩
  | .hbm, ⟨9, _⟩ => ⟨S1x8192x32, .f32⟩
  | .hbm, ⟨10, _⟩ => ⟨S1x8192x512, .fp8e4m3⟩
  | .hbm, ⟨11, _⟩ => ⟨S1x8192x4, .f32⟩
  | .hbm, ⟨12, _⟩ => ⟨S1x8192x64, .bf16⟩
  | .hbm, ⟨13, _⟩ => ⟨S_, .bf16⟩
  | .hbm, ⟨14, _⟩ => ⟨S7168x104, .bf16⟩
  | .hbm, ⟨15, _⟩ => ⟨S7168x256, .bf16⟩
  | .hbm, ⟨16, _⟩ => ⟨S8192x7168, .bf16⟩
  | .hbm, ⟨17, _⟩ => ⟨S8192x1536, .bf16⟩
  | .hbm, ⟨18, _⟩ => ⟨S3072x1536, .fp8e4m3⟩
  | .hbm, ⟨19, _⟩ => ⟨S1x128, .f32⟩
  | .hbm, ⟨20, _⟩ => ⟨S1x128, .f32⟩
  | .hbm, ⟨21, _⟩ => ⟨S8192x32, .f32⟩
  | .hbm, ⟨22, _⟩ => ⟨S32x8192, .f32⟩
  | .hbm, ⟨23, _⟩ => ⟨S8192x32, .f32⟩
  | .hbm, ⟨24, _⟩ => ⟨S32x8192, .f32⟩
  | .hbm, ⟨25, _⟩ => ⟨S8192x512, .fp8e4m3⟩
  | .hbm, ⟨26, _⟩ => ⟨S8192x4, .f32⟩
  | .hbm, ⟨27, _⟩ => ⟨S4x8192, .f32⟩
  | .hbm, ⟨28, _⟩ => ⟨S8192x64, .bf16⟩
  | .hbm, ⟨29, _⟩ => ⟨S64x8192, .bf16⟩
  | .hbm, ⟨30, _⟩ => ⟨S8192x1536, .fp8e4m3⟩
  | .hbm, ⟨31, _⟩ => ⟨S12x8192, .f32⟩
  | .hbm, ⟨32, _⟩ => ⟨S24x128x8192, .fp8e4m3⟩
  | .hbm, ⟨33, _⟩ => ⟨S24x8192, .f32⟩
  | .hbm, ⟨34, _⟩ => ⟨S8192x128, .fp8e4m3⟩
  | .hbm, ⟨35, _⟩ => ⟨S1x8192, .f32⟩
  | .hbm, ⟨36, _⟩ => ⟨S8192x128, .f32⟩
  | .hbm, ⟨37, _⟩ => ⟨S24x8192, .f32⟩
  | .hbm, ⟨38, _⟩ => ⟨S8192x640, .bf16⟩
  | .local _ .vmem, ⟨0, _⟩ => ⟨S256x7168, .bf16⟩
  | .local _ .vmem, ⟨1, _⟩ => ⟨S256x7168, .bf16⟩
  | .local _ .vmem, ⟨2, _⟩ => ⟨S256x1536, .bf16⟩
  | .local _ .vmem, ⟨3, _⟩ => ⟨S256x1536, .bf16⟩
  | .local _ .vmem, ⟨4, _⟩ => ⟨S3072x1536, .fp8e4m3⟩
  | .local _ .vmem, ⟨5, _⟩ => ⟨S7168x256, .bf16⟩
  | .local _ .vmem, ⟨6, _⟩ => ⟨S1x128, .f32⟩
  | .local _ .vmem, ⟨7, _⟩ => ⟨S1x128, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S256x512, .fp8e4m3⟩
  | .local _ .vmem, ⟨13, _⟩ => ⟨S256x512, .fp8e4m3⟩
  | .local _ .vmem, ⟨14, _⟩ => ⟨S4x256, .f32⟩
  | .local _ .vmem, ⟨15, _⟩ => ⟨S4x256, .f32⟩
  | .local _ .vmem, ⟨16, _⟩ => ⟨S64x256, .bf16⟩
  | .local _ .vmem, ⟨17, _⟩ => ⟨S64x256, .bf16⟩
  | .local _ .vmem, ⟨18, _⟩ => ⟨S256x1536, .fp8e4m3⟩
  | .local _ .vmem, ⟨19, _⟩ => ⟨S256x1536, .fp8e4m3⟩
  | .local _ .vmem, ⟨20, _⟩ => ⟨S12x256, .f32⟩
  | .local _ .vmem, ⟨21, _⟩ => ⟨S12x256, .f32⟩
  | .local _ .vmem, ⟨22, _⟩ => ⟨S24x128x256, .fp8e4m3⟩
  | .local _ .vmem, ⟨23, _⟩ => ⟨S24x128x256, .fp8e4m3⟩
  | .local _ .vmem, ⟨24, _⟩ => ⟨S24x256, .f32⟩
  | .local _ .vmem, ⟨25, _⟩ => ⟨S24x256, .f32⟩
  | .local _ .vmem, ⟨26, _⟩ => ⟨S256x128, .fp8e4m3⟩
  | .local _ .vmem, ⟨27, _⟩ => ⟨S256x128, .fp8e4m3⟩
  | .local _ .vmem, ⟨28, _⟩ => ⟨S1x256, .f32⟩
  | .local _ .vmem, ⟨29, _⟩ => ⟨S1x256, .f32⟩
  | .local _ .vmem, ⟨30, _⟩ => ⟨S256x128, .f32⟩
  | .local _ .vmem, ⟨31, _⟩ => ⟨S256x128, .f32⟩
  | .local _ .vmem, ⟨32, _⟩ => ⟨S24x256, .f32⟩
  | .local _ .vmem, ⟨33, _⟩ => ⟨S24x256, .f32⟩
  | .local _ .vmem, ⟨34, _⟩ => ⟨S256x640, .bf16⟩
  | .local _ .vmem, ⟨35, _⟩ => ⟨S256x640, .bf16⟩
  | .local _ .vmem, ⟨36, _⟩ => ⟨S3072x1536, .bf16⟩
  | .local _ .vmem, ⟨37, _⟩ => ⟨S256x1536, .bf16⟩
  | .local _ .vmem, ⟨38, _⟩ => ⟨S768x256, .f32⟩
  | .local _ .smem, ⟨0, _⟩ => ⟨S12x24, .f32⟩
  | _, _ => ⟨S1x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_v16_5 : Ref sig .tc := ⟨.hbm, 35, rfl⟩
abbrev main_v16_6 : Ref sig .tc := ⟨.hbm, 36, rfl⟩
abbrev main_v16_7 : Ref sig .tc := ⟨.hbm, 37, rfl⟩
abbrev main_v16_8 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S12x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7168x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1536 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S12x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S24x128x256 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S24x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S24x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x640 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== CodesIdeal.lean ====
abbrev S1x8192x7168 : Shape := ⟨3, ![1, 8192, 7168]⟩
abbrev S1x8192x1536 : Shape := ⟨3, ![1, 8192, 1536]⟩
abbrev S1536x3072 : Shape := ⟨2, ![1536, 3072]⟩
abbrev S12x24 : Shape := ⟨2, ![12, 24]⟩
abbrev S7168x128 : Shape := ⟨2, ![7168, 128]⟩
abbrev S128 : Shape := ⟨1, ![128]⟩
abbrev S7168x24 : Shape := ⟨2, ![7168, 24]⟩
abbrev S1x8192x32 : Shape := ⟨3, ![1, 8192, 32]⟩
abbrev S1x8192x512 : Shape := ⟨3, ![1, 8192, 512]⟩
abbrev S1x8192x4 : Shape := ⟨3, ![1, 8192, 4]⟩
abbrev S1x8192x64 : Shape := ⟨3, ![1, 8192, 64]⟩
abbrev S8192x1536 : Shape := ⟨2, ![8192, 1536]⟩
abbrev S12x8192 : Shape := ⟨2, ![12, 8192]⟩
abbrev S8192x12x128 : Shape := ⟨3, ![8192, 12, 128]⟩
abbrev S8192x12 : Shape := ⟨2, ![8192, 12]⟩

abbrev nBuf : Space → Nat
  | .hbm => 15
  | .vmem => 2
  | .smem => 0
  | _ => 0

abbrev bufTy : (tb : Table) → Fin (tcTables nBuf tb) → BufTy
  | .hbm, ⟨0, _⟩ => ⟨S1x8192x7168, .bf16⟩
  | .hbm, ⟨1, _⟩ => ⟨S1x8192x1536, .bf16⟩
  | .hbm, ⟨2, _⟩ => ⟨S1536x3072, .fp8e4m3⟩
  | .hbm, ⟨3, _⟩ => ⟨S12x24, .f32⟩
  | .hbm, ⟨4, _⟩ => ⟨S7168x128, .bf16⟩
  | .hbm, ⟨5, _⟩ => ⟨S128, .f32⟩
  | .hbm, ⟨6, _⟩ => ⟨S128, .f32⟩
  | .hbm, ⟨7, _⟩ => ⟨S7168x24, .bf16⟩
  | .hbm, ⟨8, _⟩ => ⟨S1x8192x32, .f32⟩
  | .hbm, ⟨9, _⟩ => ⟨S1x8192x32, .f32⟩
  | .hbm, ⟨10, _⟩ => ⟨S1x8192x512, .fp8e4m3⟩
  | .hbm, ⟨11, _⟩ => ⟨S1x8192x4, .f32⟩
  | .hbm, ⟨12, _⟩ => ⟨S1x8192x64, .bf16⟩
  | .hbm, ⟨13, _⟩ => ⟨S8192x1536, .bf16⟩
  | .hbm, ⟨14, _⟩ => ⟨S12x8192, .f32⟩
  | .local _ .vmem, ⟨0, _⟩ => ⟨S8192x1536, .bf16⟩
  | .local _ .vmem, ⟨1, _⟩ => ⟨S12x8192, .f32⟩
  | _, _ => ⟨S1x8192x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8192x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Model.lean ====
/- What one call of the attention body computes, as functions of the blocks it reads: one key tile's probabilities and index scores, the
   four carried rows, the block sums, one attempt, and the two attempts together. The body's own order of operations, at any float values. -/
module

public import proofs.«01_k».proof.Proof.Gen.KernelIdeal.Loops
public import Idealize.ShloMosaic.Lib.Pipeline.FrameBody
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]

/-- Row `h` of a per-head scale block. -/
abbrev row16 (h : Fin 16) : Rect S16x256 := Rect.unit ![h.val, 0] S1x256.size (by revert h; decide)
/-- Row `h` of the index heads' weights. -/
abbrev row24 (h : Fin 24) : Rect S24x256 := Rect.unit ![h.val, 0] S1x256.size (by revert h; decide)
/-- Head `h`'s queries. -/
abbrev head16 (h : Fin 16) : Rect S16x576x256 := Rect.unit ![h.val, 0, 0] S1x576x256.size (by revert h; decide)
/-- Index head `h`'s queries. -/
abbrev head24 (h : Fin 24) : Rect S24x128x256 := Rect.unit ![h.val, 0, 0] S1x128x256.size (by revert h; decide)
/-- Key tile `k` of the keys. -/
abbrev keyTile (i : grid0.Coords) (k : Fin (k0_t1_loop i).trips) : Rect S8192x640 := Rect.unit (k0_off1 i k) S256x576.size (k0_off1_inb i k)
/-- Key tile `k` of the index keys and of their scales. -/
abbrev idxTile (i : grid0.Coords) (k : Fin (k0_t1_loop i).trips) : Rect S8192x128 := Rect.unit (k0_off2 i k) S256x128.size (k0_off2_inb i k)

/-- One head's scores on a key tile. -/
def headScore (kt : Vec F S256x576 .bf16) (q : Vec F S1x576x256 .fp8e4m3) (sc : Vec F S1x256 .f32) : FVec F S256x256 .f32 :=
  mulf (matmul dot_S256x576_S576x256_S256x256_1_0_0_1_n_n none (shapeCast S256x576 kt shapeCasts_S256x576_S256x576 : FVec F S256x576 .bf16)
    (shapeCast S576x256 q shapeCasts_S1x576x256_S576x256 : FVec F S576x256 .fp8e4m3) (constant S256x256 .f32 0x00000000#32))
    (broadcastTo S256x256 sc broadcasts_S1x256_S256x256)

/-- One head's exponentials on a key tile. -/
def headExp (kt : Vec F S256x576 .bf16) (q : Vec F S1x576x256 .fp8e4m3) (sc sh : Vec F S1x256 .f32) : FVec F S256x256 .f32 :=
  exp2 (subf (headScore kt q sc) (broadcastTo S256x256 sh broadcasts_S1x256_S256x256))

/-- The sixteen heads' exponentials on a key tile, added up from zero. -/
def probs (kt : Vec F S256x576 .bf16) (q : Vec F S16x576x256 .fp8e4m3) (sc sh : Vec F S16x256 .f32) : FVec F S256x256 .f32 :=
  (List.finRange 16).foldl (fun a h => addf a (headExp kt (View.ld q (head16 h)) (View.ld sc (row16 h)) (View.ld sh (row16 h))))
    (broadcast S256x256 (Scalar.ofBits .f32 0x00000000#32))

/-- One index head's weighted rectified scores on a key tile. -/
def idxHead (kt : Vec F S256x128 .fp8e4m3) (q : Vec F S1x128x256 .fp8e4m3) (w : Vec F S1x256 .f32) : FVec F S256x256 .f32 :=
  mulf (broadcastTo S256x256 (shapeCast S1x256 w shapeCasts_S1x256_S1x256 : FVec F S1x256 .f32) broadcasts_S1x256_S256x256)
    (maximumf (matmul dot_S256x128_S128x256_S256x256_1_0_0_1_n_n none (shapeCast S256x128 kt shapeCasts_S256x128_S256x128 : FVec F S256x128 .fp8e4m3)
      (shapeCast S128x256 q shapeCasts_S1x128x256_S128x256 : FVec F S128x256 .fp8e4m3) (constant S256x256 .f32 0x00000000#32))
      (broadcast S256x256 (Scalar.ofBits .f32 0x00000000#32)))

/-- The twenty-four index heads on a key tile, added up from zero. -/
def idxSum (kt : Vec F S256x128 .fp8e4m3) (q : Vec F S24x128x256 .fp8e4m3) (w : Vec F S24x256 .f32) : FVec F S256x256 .f32 :=
  (List.finRange 24).foldl (fun a h => addf a (idxHead kt (View.ld q (head24 h)) (View.ld w (row24 h))))
    (broadcast S256x256 (Scalar.ofBits .f32 0x00000000#32))

/-- The four carried rows: entropy sum, cross sum, running maximum, running denominator. -/
abbrev Rows (F : FTy → Type) := FVec F S1x256 .f32 × FVec F S1x256 .f32 × FVec F S1x256 .f32 × FVec F S1x256 .f32

/-- Where tile `k` of key rows is at or before the query. -/
def mask (v20 v19 : IVec S256x256 32) (k : ℕ) : IVec S256x256 1 := k0_pay45 v20 v19 (Scf.iv 0#32 1#32 k)

/-- One tile's step of the carried rows, from its unmasked probabilities `p`, its scale columns `cols` and its index sums `l`. -/
def rowsStep (mk : IVec S256x256 1) (p : Vec F S256x256 .f32) (cols : Vec F S256x128 .f32) (l : Vec F S256x256 .f32) (a : Rows F) : Rows F :=
  (k0_pay49 a.1 mk p, k0_pay50 a.2.1 mk p cols l, k0_pay52 a.2.2.1 mk cols l,
    k0_pay102 (k0_pay53 a.2.2.1 a.2.2.2 mk cols l) (k0_pay54 a.2.2.1 mk cols l))

/-- The eight input blocks of one grid point. -/
structure Blk (F : FTy → Type) where
  q : Vec F S16x576x256 .fp8e4m3
  qs : Vec F S16x256 .f32
  lse : Vec F S16x256 .f32
  qi : Vec F S24x128x256 .fp8e4m3
  w : Vec F S24x256 .f32
  keys : Vec F S8192x640 .bf16
  ki : Vec F S8192x128 .fp8e4m3
  cols : Vec F S8192x128 .f32

/-- A key's position within its tile. -/
def kidx : IVec S256x256 32 := iota .tc S256x256 32 [0] iota_S256x256_d0_w32

variable (i : grid0.Coords) (b : Blk F) (sc sh : Vec F S16x256 .f32)

/-- Where tile `k`'s keys are at or before the query. -/
def mk (k : ℕ) : IVec S256x256 1 := mask kidx (k0_pay3 i) k

/-- Tile `k`'s unmasked probabilities at the scales `sc` and shifts `sh`. -/
def tileP (k : Fin (k0_t1_loop i).trips) : Vec F S256x256 .f32 :=
  shapeCast S256x256 (probs (View.ld b.keys (keyTile i k)) b.q sc sh) shapeCasts_S256x256_S256x256

/-- Tile `k`'s index sums. -/
def tileL (k : Fin (k0_t1_loop i).trips) : Vec F S256x256 .f32 :=
  shapeCast S256x256 (idxSum (View.ld b.ki (idxTile i k)) b.qi b.w) shapeCasts_S256x256_S256x256

/-- The carried rows before tile `n`. -/
def rowsAt : ℕ → Rows F
  | 0 => (k0_pay100, k0_pay100, k0_pay101, k0_pay100)
  | n + 1 => if h : n < (k0_t1_loop i).trips then
      rowsStep (mk i n) (tileP i b sc sh ⟨n, h⟩) (View.ld b.cols (idxTile i ⟨n, h⟩)) (tileL i b ⟨n, h⟩) (rowsAt n)
    else rowsAt n

/-- The block sums before tile `n`: zero but for the tiles before. -/
def pbAt : ℕ → Vec F S32x2x256 .f32
  | 0 => k0_pay99
  | n + 1 => if h : n < (k0_t1_loop i).trips then
      VecWindow.put (pbAt n) ![n, 0, 0] S1x2x256.size (k0_pay48 (mk i n) (tileP i b sc sh ⟨n, h⟩))
    else pbAt n

theorem rowsAt_succ (k : Fin (k0_t1_loop i).trips) : rowsAt i b sc sh (k.val + 1)
    = rowsStep (mk i k.val) (tileP i b sc sh k) (View.ld b.cols (idxTile i k)) (tileL i b k) (rowsAt i b sc sh k.val) :=
  dif_pos k.isLt

theorem pbAt_succ (k : Fin (k0_t1_loop i).trips) : pbAt i b sc sh (k.val + 1)
    = VecWindow.put (pbAt i b sc sh k.val) ![k.val, 0, 0] S1x2x256.size (k0_pay48 (mk i k.val) (tileP i b sc sh k)) :=
  dif_pos k.isLt

/-- The rows and the block sums one attempt ends with. -/
def rowsEnd : Rows F := rowsAt i b sc sh (k0_t1_loop i).trips
def pbEnd : Vec F S32x2x256 .f32 := pbAt i b sc sh (k0_t1_loop i).trips

/-- One attempt's three results. -/
def attKl : Vec F S1x256 .f32 :=
  k0_pay4 (rowsEnd i b sc sh).2.1 (k0_pay106 (pbEnd i b sc sh)) (k0_pay107 (rowsEnd i b sc sh).2.2.1 (rowsEnd i b sc sh).2.2.2)
    (k0_pay108 (pbEnd i b sc sh)) (k0_pay109 (rowsEnd i b sc sh).1 (pbEnd i b sc sh)) (k0_pay110 (pbEnd i b sc sh))
def attLse : Vec F S1x256 .f32 := k0_pay107 (rowsEnd i b sc sh).2.2.1 (rowsEnd i b sc sh).2.2.2
def attBlk : Vec F S64x256 .f32 := k0_pay5 (k0_pay104 (pbEnd i b sc sh)) (k0_pay106 (pbEnd i b sc sh))

/-- Whether every query's total of the attempt is in range. -/
def good : BitVec 1 := Scalar.cmpf .ogt (k0_pay6 (k0_pay105 (pbEnd i b sc sh))) (Scalar.ofBits (F := F) .f32 0x3F000000#32)

/-- The scales, and the first attempt's shifts. -/
def sc0 : Vec F S16x256 .f32 := k0_pay1 b.qs
def sh0 : Vec F S16x256 .f32 := k0_pay2 b.lse

/-- One head's step of the running maximum of the masked scores of tile `k`. -/
def maxHead (k : Fin (k0_t3_loop i).trips) (m : FVec F S1x256 .f32) (h : Fin k0_t4_loop.trips) : FVec F S1x256 .f32 :=
  k0_pay8 i kidx (k0_pay3 i) k m (View.ld b.keys (Rect.unit (s := S8192x640) (k0_off7 i k) S256x576.size (k0_off7_inb i k)))
    (View.ld b.q (Rect.unit (s := S16x576x256) (k0_off8 h) S1x576x256.size (k0_off8_inb h)))
    (View.ld (sc0 b) (Rect.unit (s := S16x256) (k0_off9 h) S1x256.size (k0_off9_inb h)))
    (View.ld b.lse (Rect.unit (s := S16x256) (k0_off9 h) S1x256.size (k0_off9_inb h)))

/-- The running maximum within a tile, before head `n`. -/
def maxHeads (k : Fin (k0_t3_loop i).trips) (m : FVec F S1x256 .f32) : ℕ → FVec F S1x256 .f32
  | 0 => m
  | n + 1 => if h : n < k0_t4_loop.trips then maxHead i b k (maxHeads k m n) ⟨n, h⟩ else maxHeads k m n

/-- The running maximum before tile `n`. -/
def maxAt : ℕ → FVec F S1x256 .f32
  | 0 => k0_pay7
  | n + 1 => if h : n < (k0_t3_loop i).trips then maxHeads i b ⟨n, h⟩ (maxAt n) k0_t4_loop.trips else maxAt n

theorem maxHeads_succ (k : Fin (k0_t3_loop i).trips) (m : FVec F S1x256 .f32) (h : Fin k0_t4_loop.trips) :
    maxHeads i b k m (h.val + 1) = maxHead i b k (maxHeads i b k m h.val) h := dif_pos h.isLt

theorem maxAt_succ (k : Fin (k0_t3_loop i).trips) :
    maxAt i b (k.val + 1) = maxHeads i b k (maxAt i b k.val) k0_t4_loop.trips := dif_pos k.isLt

/-- The second attempt's shifts. -/
def sh1 : Vec F S16x256 .f32 := k0_pay10 (maxAt i b (k0_t3_loop i).trips) b.lse

/-- The shifts of the attempt that counts. -/
def shF : Vec F S16x256 .f32 := if good i b (sc0 b) (sh0 b) = 1#1 then sh0 b else sh1 i b

/-- The three results. -/
def outKl : Vec F S1x256 .f32 := attKl i b (sc0 b) (shF i b)
def outLse : Vec F S1x256 .f32 := attLse i b (sc0 b) (shF i b)
def outBlk : Vec F S64x256 .f32 := attBlk i b (sc0 b) (shF i b)

end Cert.KernelIdeal.Body

end
-- ==== Proof.Trip.lean ====
/- The generated run of one key tile's region, in the words of Model.lean. -/
module

public import proofs.«01_k».proof.Proof.Model
import all proofs.«01_k».proof.Proof.Gen.KernelIdeal.Loops

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem finRange16 : List.finRange 16 = [0, 1, 2, 3, 4, 5, 6, 7, 8, 9, 10, 11, 12, 13, 14, 15] := by decide
theorem finRange24 : List.finRange 24 = [0, 1, 2, 3, 4, 5, 6, 7, 8, 9, 10, 11, 12, 13, 14, 15, 16, 17, 18, 19, 20, 21, 22, 23] := by decide

variable (i : grid0.Coords) (arg6 : Memref sig .tc .vmem S8192x640 .bf16) (arg1 : Memref sig .tc .vmem S16x576x256 .fp8e4m3)
  (arg14 arg15 : Memref sig .tc .vmem S16x256 .f32) (arg12 arg13 : Memref sig .tc .vmem S256x256 .f32)
  (arg7 : Memref sig .tc .vmem S8192x128 .fp8e4m3) (arg4 : Memref sig .tc .vmem S24x128x256 .fp8e4m3)
  (arg5 : Memref sig .tc .vmem S24x256 .f32) (arg8 : Memref sig .tc .vmem S8192x128 .f32)
  (X6 : BufTy.Contents (Elt F) arg6.view.ty) (X1 : BufTy.Contents (Elt F) arg1.view.ty)
  (X14 : BufTy.Contents (Elt F) arg14.view.ty) (X15 : BufTy.Contents (Elt F) arg15.view.ty)
  (X7 : BufTy.Contents (Elt F) arg7.view.ty) (X4 : BufTy.Contents (Elt F) arg4.view.ty)
  (X5 : BufTy.Contents (Elt F) arg5.view.ty) (X8 : BufTy.Contents (Elt F) arg8.view.ty)
  (k : Fin (k0_t1_loop i).trips)

theorem v639_eq (b : Blk F) (sc sh : Vec F S16x256 .f32) (h6 : arg6.view.read _ X6 = b.keys) (h1 : arg1.view.read _ X1 = b.q)
    (h14 : arg14.view.read _ X14 = sc) (h15 : arg15.view.read _ X15 = sh) :
    trip_k0_t1.sl.v639 i arg6 arg1 arg14 arg15 arg12 X6 X1 X14 X15 k = tileP i b sc sh k := by
  subst h14 h15
  obtain ⟨q, qs, lse, qi, w, keys, ki, cols⟩ := b
  dsimp only at h6 h1
  subst h6 h1
  unfold tileP probs
  rw [finRange16]
  simp only [List.foldl_cons, List.foldl_nil]
  delta trip_k0_t1.sl.v639 trip_k0_t1.sl.HW_arg12_1
  rw [View.readCov_cons_toLoadRect]
  rfl

theorem v645_eq (b : Blk F) (h7 : arg7.view.read _ X7 = b.ki) (h4 : arg4.view.read _ X4 = b.qi) (h5 : arg5.view.read _ X5 = b.w) :
    trip_k0_t1.sl.v645 i arg7 arg4 arg5 arg13 X7 X4 X5 k = tileL i b k := by
  obtain ⟨q, qs, lse, qi, w, keys, ki, cols⟩ := b
  dsimp only at h7 h4 h5
  subst h7 h4 h5
  unfold tileL idxSum
  rw [finRange24]
  simp only [List.foldl_cons, List.foldl_nil]
  delta trip_k0_t1.sl.v645 trip_k0_t1.sl.HW_arg13_1
  rw [View.readCov_cons_toLoadRect]
  rfl

variable (arg16 : Memref sig .tc .vmem S32x2x256 .f32) (harg16 : arg16.IsWhole) (harg6 : arg6.IsWhole) (harg1 : arg1.IsWhole) (harg14 : arg14.IsWhole) (harg15 : arg15.IsWhole) (harg12 : arg12.IsWhole) (harg7 : arg7.IsWhole) (harg4 : arg4.IsWhole) (harg5 : arg5.IsWhole) (harg13 : arg13.IsWhole) (harg8 : arg8.IsWhole) (arg10 : Memref sig .tc .vmem S1x256 .f32) (harg10 : arg10.IsWhole) (arg9 : Memref sig .tc .vmem S1x256 .f32) (harg9 : arg9.IsWhole) (arg11 : Memref sig .tc .vmem S64x256 .f32) (harg11 : arg11.IsWhole) (arg3 : Memref sig .tc .vmem S16x256 .f32) (harg3 : arg3.IsWhole) (arg17 : BitVec 32) (arg18 : BitVec 1) (v1 : BitVec 32)

theorem tripR_eq (𝒱 : Variants) (c : Dev nD) (bd : Option 𝒱.V) (acc : Rows F) (f16 : BufTy.Contents (Elt F) arg16.view.ty)
    (f12 : BufTy.Contents (Elt F) arg12.view.ty) (f13 : BufTy.Contents (Elt F) arg13.view.ty)
    (b : Blk F) (sc sh : Vec F S16x256 .f32) (h6 : arg6.view.read _ X6 = b.keys) (h1 : arg1.view.read _ X1 = b.q)
    (h14 : arg14.view.read _ X14 = sc) (h15 : arg15.view.read _ X15 = sh)
    (h7 : arg7.view.read _ X7 = b.ki) (h4 : arg4.view.read _ X4 = b.qi) (h5 : arg5.view.read _ X5 = b.w) (h8 : arg8.view.read _ X8 = b.cols) :
    tripR_k0_t1 (F := F) 𝒱 c bd i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 arg18 v1 X6 X1 X14 X15 X7 X4 X5 X8 k acc f16 f12 f13
      = rowsStep (mk i k.val) (tileP i b sc sh k) (View.ld b.cols (idxTile i k)) (tileL i b k) acc := by
  rw [← v639_eq i arg6 arg1 arg14 arg15 arg12 X6 X1 X14 X15 k b sc sh h6 h1 h14 h15,
    ← v645_eq i arg13 arg7 arg4 arg5 X7 X4 X5 k b h7 h4 h5, ← h8]
  unfold tripR_k0_t1 trip_k0_t1 rowsStep
  dsimp only
  delta trip_k0_t1.sl.r_34 trip_k0_t1.sl.r_35 trip_k0_t1.sl.r_36 trip_k0_t1.sl.r_37 trip_k0_t1.sl.r_38 trip_k0_t1.sl.r_33
  rfl

theorem trip_writes (𝒱 : Variants) (c : Dev nD) (bd : Option 𝒱.V) (acc : Rows F) (f16 : BufTy.Contents (Elt F) arg16.view.ty)
    (f12 : BufTy.Contents (Elt F) arg12.view.ty) (f13 : BufTy.Contents (Elt F) arg13.view.ty)
    (b : Blk F) (sc sh : Vec F S16x256 .f32) (h6 : arg6.view.read _ X6 = b.keys) (h1 : arg1.view.read _ X1 = b.q)
    (h14 : arg14.view.read _ X14 = sc) (h15 : arg15.view.read _ X15 = sh) :
    arg16.view.read (Elt F) (arg16.view.writes (Elt F) f16 ((trip_k0_t1 (F := F) 𝒱 c bd i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 arg18 v1 X6 X1 X14 X15 X7 X4 X5 X8 k).2.1 acc f16 f12 f13))
      = VecWindow.put (arg16.view.read (Elt F) f16) ![k.val, 0, 0] S1x2x256.size (k0_pay48 (mk i k.val) (tileP i b sc sh k)) := by
  rw [← v639_eq i arg6 arg1 arg14 arg15 arg12 X6 X1 X14 X15 k b sc sh h6 h1 h14 h15]
  unfold trip_k0_t1
  dsimp only
  delta trip_k0_t1.sl.r_33
  exact View.read_writes_cons_put arg16.view f16 _ _ [] (k0_off3_eq i k)

/-- The generated state of the key-tile loop is the rows and the block sums. -/
theorem st_eq (𝒱 : Variants) (c : Dev nD) (bd : Option 𝒱.V) (G16 : BufTy.Contents (Elt F) arg16.view.ty)
    (G12 : BufTy.Contents (Elt F) arg12.view.ty) (G13 : BufTy.Contents (Elt F) arg13.view.ty)
    (b : Blk F) (sc sh : Vec F S16x256 .f32) (h6 : arg6.view.read _ X6 = b.keys) (h1 : arg1.view.read _ X1 = b.q)
    (h14 : arg14.view.read _ X14 = sc) (h15 : arg15.view.read _ X15 = sh)
    (h7 : arg7.view.read _ X7 = b.ki) (h4 : arg4.view.read _ X4 = b.qi) (h5 : arg5.view.read _ X5 = b.w) (h8 : arg8.view.read _ X8 = b.cols)
    (h16 : arg16.view.read _ G16 = k0_pay99) (n : ℕ) (hn : n ≤ (k0_t1_loop i).trips) :
    (st_k0_t1 (F := F) 𝒱 c bd i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 arg18 v1 X6 X1 X14 X15 X7 X4 X5 X8 G16 G12 G13 (k0_pay100, k0_pay100, k0_pay101, k0_pay100) n).1 = rowsAt i b sc sh n
      ∧ arg16.view.read _ (arg16.view.writes (Elt F) G16 (st_k0_t1 (F := F) 𝒱 c bd i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 arg18 v1 X6 X1 X14 X15 X7 X4 X5 X8 G16 G12 G13 (k0_pay100, k0_pay100, k0_pay101, k0_pay100) n).2.1) = pbAt i b sc sh n := by
  induction n with
  | zero => exact ⟨rfl, h16⟩
  | succ n ih =>
    obtain ⟨e1, e2⟩ := ih (by omega)
    have hs := st_k0_t1_succ (F := F) 𝒱 c bd i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 arg18 v1 X6 X1 X14 X15 X7 X4 X5 X8 G16 G12 G13 (k0_pay100, k0_pay100, k0_pay101, k0_pay100) ⟨n, hn⟩
    dsimp only at hs
    rw [hs]
    dsimp only
    rw [View.writes_append, e1]
    constructor
    · exact (tripR_eq i arg6 arg1 arg14 arg15 arg12 arg13 arg7 arg4 arg5 arg8 X6 X1 X14 X15 X7 X4 X5 X8 ⟨n, hn⟩ arg16 harg16 harg6 harg1 harg14 harg15 harg12 harg7 harg4 harg5 harg13 harg8 arg10 harg10 arg9 harg9 arg11 harg11 arg3 harg3 arg17 arg18 v1 𝒱 c bd _ _ _ _ b sc sh h6 h1 h14 h15 h7 h4 h5 h8).trans (rowsAt_succ i b sc sh ⟨n, hn⟩).symm
    · rw [trip_writes i arg6 arg1 arg14 arg15 arg12 arg13 arg7 arg4 arg5 arg8 X6 X1 X14 X15 X7 X4 X5 X8 ⟨n, hn⟩ arg16 harg16 harg6 harg1 harg14 harg15 harg12 harg7 harg4 harg5 harg13 harg8 arg10 harg10 arg9 harg9 arg11 harg11 arg3 harg3 arg17 arg18 v1 𝒱 c bd _ _ _ _ b sc sh h6 h1 h14 h15, e2]
      exact (pbAt_succ i b sc sh ⟨n, hn⟩).symm

end Cert.KernelIdeal.Body

end
-- ==== Proof.Attempt.lean ====
/- One attempt over the key tiles: what it stores and returns. -/
module

public import proofs.«01_k».proof.Proof.Trip
public import Idealize.ShloMosaic.Lib.LoopRemainder

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (i : grid0.Coords) (arg16 : Memref sig .tc .vmem S32x2x256 .f32) (harg16 : arg16.IsWhole) (arg6 : Memref sig .tc .vmem S8192x640 .bf16) (harg6 : arg6.IsWhole) (arg1 : Memref sig .tc .vmem S16x576x256 .fp8e4m3) (harg1 : arg1.IsWhole) (arg14 : Memref sig .tc .vmem S16x256 .f32) (harg14 : arg14.IsWhole) (arg15 : Memref sig .tc .vmem S16x256 .f32) (harg15 : arg15.IsWhole) (arg12 : Memref sig .tc .vmem S256x256 .f32) (harg12 : arg12.IsWhole) (arg7 : Memref sig .tc .vmem S8192x128 .fp8e4m3) (harg7 : arg7.IsWhole) (arg4 : Memref sig .tc .vmem S24x128x256 .fp8e4m3) (harg4 : arg4.IsWhole) (arg5 : Memref sig .tc .vmem S24x256 .f32) (harg5 : arg5.IsWhole) (arg13 : Memref sig .tc .vmem S256x256 .f32) (harg13 : arg13.IsWhole)
  (arg8 : Memref sig .tc .vmem S8192x128 .f32) (harg8 : arg8.IsWhole) (arg10 : Memref sig .tc .vmem S1x256 .f32) (harg10 : arg10.IsWhole) (arg9 : Memref sig .tc .vmem S1x256 .f32) (harg9 : arg9.IsWhole) (arg11 : Memref sig .tc .vmem S64x256 .f32) (harg11 : arg11.IsWhole) (arg3 : Memref sig .tc .vmem S16x256 .f32) (harg3 : arg3.IsWhole)

/-- The values an attempt hands on. -/
def attRet (b : Blk F) (sc sh : Vec F S16x256 .f32) : Σ' (v34_1 : FVec F S1x256 .f32) (v36 : FVec F S64x256 .f32) (v38 : FVec F S1x256 .f32) (v42 : FVec F S1x256 .f32) (v49 : FVec F S1x256 .f32) (v52 : IVec S1x256 1) (v53 : FVec F S1x256 .f32), FVec F S1x256 .f32 :=
  ⟨(rowsEnd i b sc sh).2.1, k0_pay104 (pbEnd i b sc sh), k0_pay105 (pbEnd i b sc sh), k0_pay106 (pbEnd i b sc sh), k0_pay107 (rowsEnd i b sc sh).2.2.1 (rowsEnd i b sc sh).2.2.2, k0_pay108 (pbEnd i b sc sh), k0_pay109 (rowsEnd i b sc sh).1 (pbEnd i b sc sh), k0_pay110 (pbEnd i b sc sh)⟩

theorem part33_sound (𝒱 : Variants) (c : Dev nD) (bd : Option 𝒱.V) (E : Set ℕ) (arg17 : BitVec 32) (arg18 : BitVec 1) (v1 : BitVec 32)
    (X6 : BufTy.Contents (Elt F) arg6.view.ty) (X1 : BufTy.Contents (Elt F) arg1.view.ty)
    (X14 : BufTy.Contents (Elt F) arg14.view.ty) (X15 : BufTy.Contents (Elt F) arg15.view.ty)
    (X7 : BufTy.Contents (Elt F) arg7.view.ty) (X4 : BufTy.Contents (Elt F) arg4.view.ty)
    (X5 : BufTy.Contents (Elt F) arg5.view.ty) (X8 : BufTy.Contents (Elt F) arg8.view.ty)
    (X16 : BufTy.Contents (Elt F) arg16.view.ty) (X10 : BufTy.Contents (Elt F) arg10.view.ty)
    (X12 : BufTy.Contents (Elt F) arg12.view.ty) (X13 : BufTy.Contents (Elt F) arg13.view.ty)
    (b : Blk F) (sc sh : Vec F S16x256 .f32) (h6 : arg6.view.read _ X6 = b.keys) (h1 : arg1.view.read _ X1 = b.q)
    (h14 : arg14.view.read _ X14 = sc) (h15 : arg15.view.read _ X15 = sh)
    (h7 : arg7.view.read _ X7 = b.ki) (h4 : arg4.view.read _ X4 = b.qi) (h5 : arg5.view.read _ X5 = b.w) (h8 : arg8.view.read _ X8 = b.cols)
    (Q : (Σ' (v34_1 : FVec F S1x256 .f32) (v36 : FVec F S64x256 .f32) (v38 : FVec F S1x256 .f32) (v42 : FVec F S1x256 .f32) (v49 : FVec F S1x256 .f32) (v52 : IVec S1x256 1) (v53 : FVec F S1x256 .f32), FVec F S1x256 .f32) → sProp (MT nD τ sig Unit (Elt F) ℕ (UR sig nD τ) ℕ)) :
    iprop((arg6.view.loc (c : Thread nD τ) ↦[arg6.view.set]{fullShare} X6) ∗ (arg1.view.loc (c : Thread nD τ) ↦[arg1.view.set]{fullShare} X1) ∗ (arg14.view.loc (c : Thread nD τ) ↦[arg14.view.set]{fullShare} X14) ∗ (arg15.view.loc (c : Thread nD τ) ↦[arg15.view.set]{fullShare} X15) ∗ (arg7.view.loc (c : Thread nD τ) ↦[arg7.view.set]{fullShare} X7) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗
      (arg16.view.loc (c : Thread nD τ) ↦[arg16.view.set]{fullShare} X16) ∗ (arg12.view.loc (c : Thread nD τ) ↦[arg12.view.set]{fullShare} X12) ∗ (arg13.view.loc (c : Thread nD τ) ↦[arg13.view.set]{fullShare} X13) ∗ (arg10.view.loc (c : Thread nD τ) ↦[arg10.view.set]{fullShare} X10) ∗
      ((arg6.view.loc (c : Thread nD τ) ↦[arg6.view.set]{fullShare} X6) -∗ (arg1.view.loc (c : Thread nD τ) ↦[arg1.view.set]{fullShare} X1) -∗ (arg14.view.loc (c : Thread nD τ) ↦[arg14.view.set]{fullShare} X14) -∗ (arg15.view.loc (c : Thread nD τ) ↦[arg15.view.set]{fullShare} X15) -∗ (arg7.view.loc (c : Thread nD τ) ↦[arg7.view.set]{fullShare} X7) -∗ (arg4.view.loc (c : Thread nD τ) ↦[arg4.view.set]{fullShare} X4) -∗ (arg5.view.loc (c : Thread nD τ) ↦[arg5.view.set]{fullShare} X5) -∗ (arg8.view.loc (c : Thread nD τ) ↦[arg8.view.set]{fullShare} X8) -∗
        (∃ f, arg16.view.loc (c : Thread nD τ) ↦[arg16.view.set]{fullShare} f) -∗ (∃ f, arg12.view.loc (c : Thread nD τ) ↦[arg12.view.set]{fullShare} f) -∗ (∃ f, arg13.view.loc (c : Thread nD τ) ↦[arg13.view.set]{fullShare} f) -∗
        (∃ f, (arg10.view.loc (c : Thread nD τ) ↦[arg10.view.set]{fullShare} f) ∗ ⌜arg10.view.read (Elt F) f = attLse i b sc sh⌝) -∗ Q (attRet i b sc sh)))
      ⊢ wp Idealize.ShloMosaic.frame (wpE (defs₀ (F := F)) 𝒱 (c : Thread nD τ) bd) E
        (k0_part33 (F := F) i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 arg18 v1) Q := by
  rw [k0_part33_eq_skeleton]
  unfold k0_part33_skel
  iintro ⟨H6, H1, H14, H15, H7, H4, H5, H8, H16, H12, H13, H10, Hk⟩
  sl_exec
  sl_step
  obtain ⟨e1, e2⟩ := st_eq i arg6 arg1 arg14 arg15 arg12 arg13 arg7 arg4 arg5 arg8 X6 X1 X14 X15 X7 X4 X5 X8 arg16 harg16 harg6 harg1 harg14 harg15 harg12 harg7 harg4 harg5 harg13 harg8 arg10 harg10 arg9 harg9 arg11 harg11 arg3 harg3 arg17 arg18 v1 𝒱 c bd
    (arg16.view.writes (Elt F) arg16.view.junk part33_sound.sl.H16_1) X12 X13 b sc sh h6 h1 h14 h15 h7 h4 h5 h8
    (View.read_writes_full arg16.view _ _ _ []) (Scf.trips (k0_t1_loop i).lb (k0_t1_loop i).ub (k0_t1_loop i).st) (le_refl _)
  have hv : part33_sound.sl.v35 i arg16 harg16 arg6 harg6 arg1 harg1 arg14 harg14 arg15 harg15 arg12 harg12 arg7 harg7 arg4 harg4 arg5 harg5 arg13 harg13 arg8 harg8 arg10 harg10 arg9 harg9 arg11 harg11 arg3 harg3 𝒱 c bd arg17 arg18 v1 X6 X1 X14 X15 X7 X4 X5 X8 X12 X13 = pbEnd i b sc sh := by
    delta part33_sound.sl.v35
    refine (View.readAt_full arg16.view _ _).trans ?_
    rw [View.writes_append]
    exact e2
  have key : ∀ (r : Rows F) (v : Vec F S32x2x256 .f32), r = rowsEnd i b sc sh → v = pbEnd i b sc sh →
      (⟨r.2.1, k0_pay104 v, k0_pay105 v, k0_pay106 v, k0_pay107 r.2.2.1 r.2.2.2, k0_pay108 v, k0_pay109 r.1 v, k0_pay110 v⟩ : Σ' (v34_1 : FVec F S1x256 .f32) (v36 : FVec F S64x256 .f32) (v38 : FVec F S1x256 .f32) (v42 : FVec F S1x256 .f32) (v49 : FVec F S1x256 .f32) (v52 : IVec S1x256 1) (v53 : FVec F S1x256 .f32), FVec F S1x256 .f32)
        = attRet i b sc sh := by
    rintro _ _ rfl rfl; rfl
  have e3 := e1.trans (show _ = rowsEnd i b sc sh from rfl)
  rw [key _ _ e3 hv]
  iapply Hk $$ H6 H1 H14 H15 H7 H4 H5 H8 [H16] [H12] [H13] [H10]
  · iexists _; iexact H16
  · iexists _; iexact H12
  · iexists _; iexact H13
  · iexists _; isplitl [H10]; · iexact H10
    ipureintro
    refine (View.read_writes_full arg10.view _ _ _ _).trans ?_
    unfold attLse
    rw [← e3]

end Cert.KernelIdeal.Body

end
-- ==== Proof.While.lean ====
/- The retry loop: the second attempt ends it, the first ends it or is followed by the second. -/
module

public import proofs.«01_k».proof.Proof.Attempt
public import Idealize.ShloMosaic.Lib.LoopRemainder

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (i : grid0.Coords) (arg16 : Memref sig .tc .vmem S32x2x256 .f32) (harg16 : arg16.IsWhole) (arg6 : Memref sig .tc .vmem S8192x640 .bf16) (harg6 : arg6.IsWhole) (arg1 : Memref sig .tc .vmem S16x576x256 .fp8e4m3) (harg1 : arg1.IsWhole) (arg14 : Memref sig .tc .vmem S16x256 .f32) (harg14 : arg14.IsWhole) (arg15 : Memref sig .tc .vmem S16x256 .f32) (harg15 : arg15.IsWhole) (arg12 : Memref sig .tc .vmem S256x256 .f32) (harg12 : arg12.IsWhole) (arg7 : Memref sig .tc .vmem S8192x128 .fp8e4m3) (harg7 : arg7.IsWhole) (arg4 : Memref sig .tc .vmem S24x128x256 .fp8e4m3) (harg4 : arg4.IsWhole) (arg5 : Memref sig .tc .vmem S24x256 .f32) (harg5 : arg5.IsWhole) (arg13 : Memref sig .tc .vmem S256x256 .f32) (harg13 : arg13.IsWhole)
  (arg8 : Memref sig .tc .vmem S8192x128 .f32) (harg8 : arg8.IsWhole) (arg10 : Memref sig .tc .vmem S1x256 .f32) (harg10 : arg10.IsWhole) (arg9 : Memref sig .tc .vmem S1x256 .f32) (harg9 : arg9.IsWhole) (arg11 : Memref sig .tc .vmem S64x256 .f32) (harg11 : arg11.IsWhole) (arg3 : Memref sig .tc .vmem S16x256 .f32) (harg3 : arg3.IsWhole)

variable (X6 : BufTy.Contents (Elt F) arg6.view.ty) (X1 : BufTy.Contents (Elt F) arg1.view.ty)
    (X14 : BufTy.Contents (Elt F) arg14.view.ty) (X7 : BufTy.Contents (Elt F) arg7.view.ty) (X4 : BufTy.Contents (Elt F) arg4.view.ty)
    (X5 : BufTy.Contents (Elt F) arg5.view.ty) (X8 : BufTy.Contents (Elt F) arg8.view.ty) (X3 : BufTy.Contents (Elt F) arg3.view.ty)

/-- What the loop holds on entry: the blocks it reads, the shifts, and the buffers it writes at any contents. -/
def loopPre (c : Dev nD) (sh : Vec F S16x256 .f32) : sProp (MT nD τ sig Unit (Elt F) ℕ (UR sig nD τ) ℕ) :=
  iprop((arg6.view.loc (c : Thread nD τ) ↦[arg6.view.set]{fullShare} X6) ∗ (arg1.view.loc (c : Thread nD τ) ↦[arg1.view.set]{fullShare} X1) ∗ (arg14.view.loc (c : Thread nD τ) ↦[arg14.view.set]{fullShare} X14) ∗ (arg7.view.loc (c : Thread nD τ) ↦[arg7.view.set]{fullShare} X7) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (arg3.view.loc (c : Thread nD τ) ↦[arg3.view.set]{fullShare} X3) ∗ (∃ f, (arg15.view.loc (c : Thread nD τ) ↦[arg15.view.set]{fullShare} f) ∗ ⌜arg15.view.read (Elt F) f = sh⌝) ∗ (∃ f, arg16.view.loc (c : Thread nD τ) ↦[arg16.view.set]{fullShare} f) ∗ (∃ f, arg12.view.loc (c : Thread nD τ) ↦[arg12.view.set]{fullShare} f) ∗ (∃ f, arg13.view.loc (c : Thread nD τ) ↦[arg13.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f))

/-- What the loop holds at exit: as on entry, the three results at the values given. -/
def loopPost (c : Dev nD) (o9 o10 : Vec F S1x256 .f32) (o11 : Vec F S64x256 .f32) : sProp (MT nD τ sig Unit (Elt F) ℕ (UR sig nD τ) ℕ) :=
  iprop((arg6.view.loc (c : Thread nD τ) ↦[arg6.view.set]{fullShare} X6) ∗ (arg1.view.loc (c : Thread nD τ) ↦[arg1.view.set]{fullShare} X1) ∗ (arg14.view.loc (c : Thread nD τ) ↦[arg14.view.set]{fullShare} X14) ∗ (arg7.view.loc (c : Thread nD τ) ↦[arg7.view.set]{fullShare} X7) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (arg3.view.loc (c : Thread nD τ) ↦[arg3.view.set]{fullShare} X3) ∗ (∃ f, arg15.view.loc (c : Thread nD τ) ↦[arg15.view.set]{fullShare} f) ∗ (∃ f, arg16.view.loc (c : Thread nD τ) ↦[arg16.view.set]{fullShare} f) ∗ (∃ f, arg12.view.loc (c : Thread nD τ) ↦[arg12.view.set]{fullShare} f) ∗ (∃ f, arg13.view.loc (c : Thread nD τ) ↦[arg13.view.set]{fullShare} f) ∗ (∃ f, (arg9.view.loc (c : Thread nD τ) ↦[arg9.view.set]{fullShare} f) ∗ ⌜arg9.view.read (Elt F) f = o9⌝) ∗ (∃ f, (arg10.view.loc (c : Thread nD τ) ↦[arg10.view.set]{fullShare} f) ∗ ⌜arg10.view.read (Elt F) f = o10⌝) ∗ (∃ f, (arg11.view.loc (c : Thread nD τ) ↦[arg11.view.set]{fullShare} f) ∗ ⌜arg11.view.read (Elt F) f = o11⌝))

/-- Entered done, the loop returns. -/
theorem while_done (𝒱 : Variants) (c : Dev nD) (bd : Option 𝒱.V) (E : Set ℕ) (arg17 : BitVec 32)
    (Q : BitVec 32 × BitVec 1 → sProp (MT nD τ sig Unit (Elt F) ℕ (UR sig nD τ) ℕ)) :
    Q (arg17, 1#1) ⊢ wp Idealize.ShloMosaic.frame (wpE (defs₀ (F := F)) 𝒱 (c : Thread nD τ) bd) E
        (cc0_while1 (F := F) i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 1#1) Q := by
  rw [cc0_while1_eq_skeleton]
  unfold cc0_while1_skel
  dsimp only
  rw [if_neg (by decide +kernel)]
  exact le_wp_ret _ _ _ _ _

/-- A call of the loop's label is the loop. -/
theorem while_call (c : Dev nD) (bd : Option ℕ) (E : Set ℕ) (arg17 : BitVec 32) (arg18 : BitVec 1) (v : ℕ) (hv : ∀ u ∈ bd, v < u) {α : Type}
    (k : BitVec 32 × BitVec 1 → Prog (TpuEff nD τ sig (Elt F) (Λ₀ F) .tc) α)
    (Q : α → sProp (MT nD τ sig Unit (Elt F) ℕ (UR sig nD τ) ℕ)) :
    wp Idealize.ShloMosaic.frame (wpE (defs₀ (F := F)) Variants.nat (c : Thread nD τ) (some v)) E
        (cc0_while1 (F := F) i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 arg18)
        (fun x => wp Idealize.ShloMosaic.frame (wpE (defs₀ (F := F)) Variants.nat (c : Thread nD τ) bd) E (k x) Q)
      ⊢ wp Idealize.ShloMosaic.frame (wpE (defs₀ (F := F)) Variants.nat (c : Thread nD τ) bd) E
        (.op (.call (1 : (Λ₀ F).Label) ⟨i, arg16, harg16, arg6, harg6, arg1, harg1, arg14, harg14, arg15, harg15, arg12, harg12, arg7, harg7, arg4, harg4, arg5, harg5, arg13, harg13, kidx, k0_pay3 i, arg8, harg8, arg10, harg10, arg9, harg9, arg11, harg11, arg3, harg3, arg17, arg18⟩) k) Q :=
  wp_call (defs := defs₀ (F := F)) (Γ := PendingWaitsCtx.empty) (ℓ := (1 : (Λ₀ F).Label)) (a := ⟨i, arg16, harg16, arg6, harg6, arg1, harg1, arg14, harg14, arg15, harg15, arg12, harg12, arg7, harg7, arg4, harg4, arg5, harg5, arg13, harg13, kidx, k0_pay3 i, arg8, harg8, arg10, harg10, arg9, harg9, arg11, harg11, arg3, harg3, arg17, arg18⟩)
    (k := k) (Q := Q) Variants.nat (c : Thread nD τ) bd E v hv

/-- The second attempt, whose totals are not looked at. -/
theorem while_second (c : Dev nD) (E : Set ℕ) (b : Blk F) (sc sh : Vec F S16x256 .f32) (h6 : arg6.view.read _ X6 = b.keys) (h1 : arg1.view.read _ X1 = b.q)
    (h14 : arg14.view.read _ X14 = sc)
    (h7 : arg7.view.read _ X7 = b.ki) (h4 : arg4.view.read _ X4 = b.qi) (h5 : arg5.view.read _ X5 = b.w) (h8 : arg8.view.read _ X8 = b.cols)
    (Q : BitVec 32 × BitVec 1 → sProp (MT nD τ sig Unit (Elt F) ℕ (UR sig nD τ) ℕ)) :
    iprop(loopPre arg16 arg6 arg1 arg14 arg15 arg12 arg7 arg4 arg5 arg13 arg8 arg10 arg9 arg11 arg3 X6 X1 X14 X7 X4 X5 X8 X3 c sh ∗ (∀ r, loopPost arg16 arg6 arg1 arg14 arg15 arg12 arg7 arg4 arg5 arg13 arg8 arg10 arg9 arg11 arg3 X6 X1 X14 X7 X4 X5 X8 X3 c (attKl i b sc sh) (attLse i b sc sh) (attBlk i b sc sh) -∗ Q r))
      ⊢ wp Idealize.ShloMosaic.frame (wpE (defs₀ (F := F)) Variants.nat (c : Thread nD τ) (some 1)) E
        (cc0_while1 (F := F) i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 1#32 0#1) Q := by
  rw [cc0_while1_eq_skeleton]
  unfold cc0_while1_skel loopPre
  dsimp only
  rw [if_pos (by decide +kernel)]
  iintro ⟨⟨H6, H1, H14, H7, H4, H5, H8, H3, ⟨%X15, H15, %h15⟩, ⟨%X16, H16⟩, ⟨%X12, H12⟩, ⟨%X13, H13⟩, ⟨%X9, H9⟩, ⟨%X10, H10⟩, ⟨%X11, H11⟩⟩, Hk⟩
  rw [wp_bind]
  iapply (part33_sound i arg16 harg16 arg6 harg6 arg1 harg1 arg14 harg14 arg15 harg15 arg12 harg12 arg7 harg7 arg4 harg4 arg5 harg5 arg13 harg13 arg8 harg8 arg10 harg10 arg9 harg9 arg11 harg11 arg3 harg3 Variants.nat c _ E _ _ _ X6 X1 X14 X15 X7 X4 X5 X8 X16 X10 X12 X13 b sc sh h6 h1 h14 h15 h7 h4 h5 h8)
  isplitl [H6]; · iexact H6
  isplitl [H1]; · iexact H1
  isplitl [H14]; · iexact H14
  isplitl [H15]; · iexact H15
  isplitl [H7]; · iexact H7
  isplitl [H4]; · iexact H4
  isplitl [H5]; · iexact H5
  isplitl [H8]; · iexact H8
  isplitl [H16]; · iexact H16
  isplitl [H12]; · iexact H12
  isplitl [H13]; · iexact H13
  isplitl [H10]; · iexact H10
  iintro H6 H1 H14 H15 H7 H4 H5 H8 ⟨%Y16, H16⟩ ⟨%Y12, H12⟩ ⟨%Y13, H13⟩ ⟨%Y10, H10, %e10⟩
  unfold attRet
  dsimp only
  sl_exec
  have hor : ∀ g : BitVec 1, Scalar.ori g (Scalar.cmpi .sgt (1#32) 0#32) = 1#1 := by decide
  simp only [hor]
  rw [if_neg (by decide +kernel)]
  simp only [Prog.lift]
  iapply (while_call i arg16 harg16 arg6 harg6 arg1 harg1 arg14 harg14 arg15 harg15 arg12 harg12 arg7 harg7 arg4 harg4 arg5 harg5 arg13 harg13 arg8 harg8 arg10 harg10 arg9 harg9 arg11 harg11 arg3 harg3 c (some 1) E _ _ 0 (fun u hu => by cases hu; exact Nat.lt_succ_self 0))
  iapply (while_done i arg16 harg16 arg6 harg6 arg1 harg1 arg14 harg14 arg15 harg15 arg12 harg12 arg7 harg7 arg4 harg4 arg5 harg5 arg13 harg13 arg8 harg8 arg10 harg10 arg9 harg9 arg11 harg11 arg3 harg3 Variants.nat c (some 0) E)
  rw [wp_ret]
  imodintro
  iapply Hk
  unfold loopPost
  isplitl [H6]; · iexact H6
  isplitl [H1]; · iexact H1
  isplitl [H14]; · iexact H14
  isplitl [H7]; · iexact H7
  isplitl [H4]; · iexact H4
  isplitl [H5]; · iexact H5
  isplitl [H8]; · iexact H8
  isplitl [H3]; · iexact H3
  isplitl [H15]; · iexists _; iexact H15
  isplitl [H16]; · iexists _; iexact H16
  isplitl [H12]; · iexists _; iexact H12
  isplitl [H13]; · iexists _; iexact H13
  isplitl [H9]
  · iexists _; isplitl [H9]; · iexact H9
    ipureintro; exact View.read_writes_full arg9.view _ _ _ _
  isplitl [H10]
  · iexists _; isplitl [H10]; · iexact H10
    ipureintro; exact e10
  iexists _; isplitl [H11]; · iexact H11
  ipureintro; exact View.read_writes_full arg11.view _ _ _ _

/-- The loop from the start. -/
theorem while_first (c : Dev nD) (E : Set ℕ) (b : Blk F) (h6 : arg6.view.read _ X6 = b.keys) (h1 : arg1.view.read _ X1 = b.q)
    (h14 : arg14.view.read _ X14 = sc0 b) (h3 : arg3.view.read _ X3 = b.lse)
    (h7 : arg7.view.read _ X7 = b.ki) (h4 : arg4.view.read _ X4 = b.qi) (h5 : arg5.view.read _ X5 = b.w) (h8 : arg8.view.read _ X8 = b.cols)
    (Q : BitVec 32 × BitVec 1 → sProp (MT nD τ sig Unit (Elt F) ℕ (UR sig nD τ) ℕ)) :
    iprop(loopPre arg16 arg6 arg1 arg14 arg15 arg12 arg7 arg4 arg5 arg13 arg8 arg10 arg9 arg11 arg3 X6 X1 X14 X7 X4 X5 X8 X3 c (sh0 b) ∗ (∀ r, loopPost arg16 arg6 arg1 arg14 arg15 arg12 arg7 arg4 arg5 arg13 arg8 arg10 arg9 arg11 arg3 X6 X1 X14 X7 X4 X5 X8 X3 c (outKl i b) (outLse i b) (outBlk i b) -∗ Q r))
      ⊢ wp Idealize.ShloMosaic.frame (wpE (defs₀ (F := F)) Variants.nat (c : Thread nD τ) (some 2)) E
        (cc0_while1 (F := F) i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 0#32 0#1) Q := by
  rw [cc0_while1_eq_skeleton]
  unfold cc0_while1_skel loopPre
  dsimp only
  rw [if_pos (by decide +kernel)]
  iintro ⟨⟨H6, H1, H14, H7, H4, H5, H8, H3, ⟨%X15, H15, %h15⟩, ⟨%X16, H16⟩, ⟨%X12, H12⟩, ⟨%X13, H13⟩, ⟨%X9, H9⟩, ⟨%X10, H10⟩, ⟨%X11, H11⟩⟩, Hk⟩
  rw [wp_bind]
  iapply (part33_sound i arg16 harg16 arg6 harg6 arg1 harg1 arg14 harg14 arg15 harg15 arg12 harg12 arg7 harg7 arg4 harg4 arg5 harg5 arg13 harg13 arg8 harg8 arg10 harg10 arg9 harg9 arg11 harg11 arg3 harg3 Variants.nat c _ E _ _ _ X6 X1 X14 X15 X7 X4 X5 X8 X16 X10 X12 X13 b (sc0 b) (sh0 b) h6 h1 h14 h15 h7 h4 h5 h8)
  isplitl [H6]; · iexact H6
  isplitl [H1]; · iexact H1
  isplitl [H14]; · iexact H14
  isplitl [H15]; · iexact H15
  isplitl [H7]; · iexact H7
  isplitl [H4]; · iexact H4
  isplitl [H5]; · iexact H5
  isplitl [H8]; · iexact H8
  isplitl [H16]; · iexact H16
  isplitl [H12]; · iexact H12
  isplitl [H13]; · iexact H13
  isplitl [H10]; · iexact H10
  iintro H6 H1 H14 H15 H7 H4 H5 H8 ⟨%Y16, H16⟩ ⟨%Y12, H12⟩ ⟨%Y13, H13⟩ ⟨%Y10, H10, %e10⟩
  unfold attRet
  dsimp only
  sl_exec
  by_cases hg : good i b (sc0 b) (sh0 b) = 1#1
  · have hor : Scalar.ori (Scalar.cmpf CmpFPredicate.ogt (k0_pay6 (k0_pay105 (pbEnd i b (sc0 b) (sh0 b)))) (FloatOps.ofBits FTy.f32 0x3F000000#32)) (Scalar.cmpi .sgt (0#32) 0#32) = 1#1 :=
      (show ∀ g : BitVec 1, g = 1#1 → Scalar.ori g (Scalar.cmpi .sgt (0#32) 0#32) = 1#1 by decide) _ hg
    simp only [hor]
    rw [if_neg (by decide +kernel)]
    simp only [Prog.lift]
    iapply (while_call i arg16 harg16 arg6 harg6 arg1 harg1 arg14 harg14 arg15 harg15 arg12 harg12 arg7 harg7 arg4 harg4 arg5 harg5 arg13 harg13 arg8 harg8 arg10 harg10 arg9 harg9 arg11 harg11 arg3 harg3 c (some 2) E _ _ 0 (fun u hu => by cases hu; decide))
    iapply (while_done i arg16 harg16 arg6 harg6 arg1 harg1 arg14 harg14 arg15 harg15 arg12 harg12 arg7 harg7 arg4 harg4 arg5 harg5 arg13 harg13 arg8 harg8 arg10 harg10 arg9 harg9 arg11 harg11 arg3 harg3 Variants.nat c (some 0) E)
    rw [wp_ret]
    imodintro
    iapply Hk
    unfold loopPost
    isplitl [H6]; · iexact H6
    isplitl [H1]; · iexact H1
    isplitl [H14]; · iexact H14
    isplitl [H7]; · iexact H7
    isplitl [H4]; · iexact H4
    isplitl [H5]; · iexact H5
    isplitl [H8]; · iexact H8
    isplitl [H3]; · iexact H3
    isplitl [H15]; · iexists _; iexact H15
    isplitl [H16]; · iexists _; iexact H16
    isplitl [H12]; · iexists _; iexact H12
    isplitl [H13]; · iexists _; iexact H13
    isplitl [H9]
    · iexists _; isplitl [H9]; · iexact H9
      ipureintro; exact (View.read_writes_full arg9.view _ _ _ _).trans (by rw [outKl, shF, if_pos hg]; rfl)
    isplitl [H10]
    · iexists _; isplitl [H10]; · iexact H10
      ipureintro; exact e10.trans (by rw [outLse, shF, if_pos hg])
    iexists _; isplitl [H11]; · iexact H11
    ipureintro; exact (View.read_writes_full arg11.view _ _ _ _).trans (by rw [outBlk, shF, if_pos hg]; rfl)

  · have hor : Scalar.ori (Scalar.cmpf CmpFPredicate.ogt (k0_pay6 (k0_pay105 (pbEnd i b (sc0 b) (sh0 b)))) (FloatOps.ofBits FTy.f32 0x3F000000#32)) (Scalar.cmpi .sgt (0#32) 0#32) = 0#1 :=
      (show ∀ g : BitVec 1, g ≠ 1#1 → Scalar.ori g (Scalar.cmpi .sgt (0#32) 0#32) = 0#1 by decide) _ hg
    simp only [hor]
    rw [if_pos (by decide +kernel)]
    sl_for (fun (k : ℕ) (acc : FVec F S1x256 .f32) => iprop((arg6.view.loc (c : Thread nD τ) ↦[arg6.view.set]{fullShare} X6) ∗ (arg1.view.loc (c : Thread nD τ) ↦[arg1.view.set]{fullShare} X1) ∗ (arg14.view.loc (c : Thread nD τ) ↦[arg14.view.set]{fullShare} X14) ∗ (arg3.view.loc (c : Thread nD τ) ↦[arg3.view.set]{fullShare} X3) ∗ ⌜acc = maxAt i b k⌝)) $$ [H6 H1 H14 H3]
    case region =>
      intro k acc
      iintro ⟨H6, H1, H14, H3, %hacc⟩
      subst hacc
      sl_for (fun (h : ℕ) (acc : FVec F S1x256 .f32) => iprop((arg6.view.loc (c : Thread nD τ) ↦[arg6.view.set]{fullShare} X6) ∗ (arg1.view.loc (c : Thread nD τ) ↦[arg1.view.set]{fullShare} X1) ∗ (arg14.view.loc (c : Thread nD τ) ↦[arg14.view.set]{fullShare} X14) ∗ (arg3.view.loc (c : Thread nD τ) ↦[arg3.view.set]{fullShare} X3) ∗ ⌜acc = maxHeads i b k (maxAt i b k) h⌝)) $$ [H6 H1 H14 H3]
      case region =>
        intro h acc
        iintro ⟨H6, H1, H14, H3, %hacc⟩
        subst hacc
        sl_exec
        sl_step
        isplitl [H6]; · iexact H6
        isplitl [H1]; · iexact H1
        isplitl [H14]; · iexact H14
        isplitl [H3]; · iexact H3
        ipureintro
        rw [maxHeads_succ]
        unfold maxHead
        rw [← h6, ← h1, ← h14, ← h3]
        rfl
      · isplitl [H6]; · iexact H6
        isplitl [H1]; · iexact H1
        isplitl [H14]; · iexact H14
        isplitl [H3]; · iexact H3
        ipureintro; rfl
      iintro %acc ⟨H6, H1, H14, H3, %hacc⟩
      sl_exec
      sl_step
      isplitl [H6]; · iexact H6
      isplitl [H1]; · iexact H1
      isplitl [H14]; · iexact H14
      isplitl [H3]; · iexact H3
      ipureintro
      rw [maxAt_succ]
      exact hacc
    · isplitl [H6]; · iexact H6
      isplitl [H1]; · iexact H1
      isplitl [H14]; · iexact H14
      isplitl [H3]; · iexact H3
      ipureintro; rfl
    iintro %acc ⟨H6, H1, H14, H3, %hacc⟩
    subst hacc
    sl_exec
    iapply (while_call i arg16 harg16 arg6 harg6 arg1 harg1 arg14 harg14 arg15 harg15 arg12 harg12 arg7 harg7 arg4 harg4 arg5 harg5 arg13 harg13 arg8 harg8 arg10 harg10 arg9 harg9 arg11 harg11 arg3 harg3 c (some 2) E _ _ 1 (fun u hu => by cases hu; decide))
    iapply (while_second i arg16 harg16 arg6 harg6 arg1 harg1 arg14 harg14 arg15 harg15 arg12 harg12 arg7 harg7 arg4 harg4 arg5 harg5 arg13 harg13 arg8 harg8 arg10 harg10 arg9 harg9 arg11 harg11 arg3 harg3 X6 X1 X14 X7 X4 X5 X8 X3 c E b (sc0 b) (sh1 i b) h6 h1 h14 h7 h4 h5 h8)
    unfold loopPre
    isplitl [H6 H1 H14 H7 H4 H5 H8 H3 H15 H16 H12 H13 H9 H10 H11]
    · isplitl [H6]; · iexact H6
      isplitl [H1]; · iexact H1
      isplitl [H14]; · iexact H14
      isplitl [H7]; · iexact H7
      isplitl [H4]; · iexact H4
      isplitl [H5]; · iexact H5
      isplitl [H8]; · iexact H8
      isplitl [H3]; · iexact H3
      isplitl [H15]
      · iexists _; isplitl [H15]; · iexact H15
        ipureintro
        refine (View.read_writes_full arg15.view _ _ _ _).trans ?_
        have hl := View.readAt_full arg3.view X3 (off := ![0, 0]) inb_S16x256_S16x256_0_0
        unfold sh1
        rw [← h3, ← hl]
      isplitl [H16]; · iexists _; iexact H16
      isplitl [H12]; · iexists _; iexact H12
      isplitl [H13]; · iexists _; iexact H13
      isplitl [H9]; · iexists _; iexact H9
      isplitl [H10]; · iexists _; iexact H10
      iexists _; iexact H11
    iintro %r HP
    rw [wp_ret]
    imodintro
    iapply Hk
    have e9 : outKl i b = attKl i b (sc0 b) (sh1 i b) := by rw [outKl, shF, if_neg hg]
    have e10 : outLse i b = attLse i b (sc0 b) (sh1 i b) := by rw [outLse, shF, if_neg hg]
    have e11 : outBlk i b = attBlk i b (sc0 b) (sh1 i b) := by rw [outBlk, shF, if_neg hg]
    rw [e9, e10, e11]
    iexact HP

end Cert.KernelIdeal.Body

end
-- ==== Proof.Frame.lean ====
/- The runs of the whole program: its host operations, then the grid, every point of which runs the body. What the
three results' windows hold after each point is named here, and the arguments end unchanged. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.While
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.LoopRemainder

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (show ∀ w : Fin 11, (spec0 w).arr.view.ref ≠ main_arg0 by decide))).trans (V_main_arg0 m c),
      ((h c).2 main_arg1 (Pipeline.mem_restRefs_of main_arg1 (by decide) (show ∀ w : Fin 11, (spec0 w).arr.view.ref ≠ main_arg1 by decide))).trans (V_main_arg1 m c),
      ((h c).2 main_arg2 (Pipeline.mem_restRefs_of main_arg2 (by decide) (show ∀ w : Fin 11, (spec0 w).arr.view.ref ≠ main_arg2 by decide))).trans (V_main_arg2 m c),
      ((h c).2 main_arg3 (Pipeline.mem_restRefs_of main_arg3 (by decide) (show ∀ w : Fin 11, (spec0 w).arr.view.ref ≠ main_arg3 by decide))).trans (V_main_arg3 m c),
      ((h c).2 main_arg4 (Pipeline.mem_restRefs_of main_arg4 (by decide) (show ∀ w : Fin 11, (spec0 w).arr.view.ref ≠ main_arg4 by decide))).trans (V_main_arg4 m c),
      ((h c).2 main_arg5 (Pipeline.mem_restRefs_of main_arg5 (by decide) (show ∀ w : Fin 11, (spec0 w).arr.view.ref ≠ main_arg5 by decide))).trans (V_main_arg5 m c),
      ((h c).2 main_arg6 (Pipeline.mem_restRefs_of main_arg6 (by decide) (show ∀ w : Fin 11, (spec0 w).arr.view.ref ≠ main_arg6 by decide))).trans (V_main_arg6 m c),
      ((h c).2 main_arg7 (Pipeline.mem_restRefs_of main_arg7 (by decide) (show ∀ w : Fin 11, (spec0 w).arr.view.ref ≠ main_arg7 by decide))).trans (V_main_arg7 m c),
      ((h c).2 main_arg8 (Pipeline.mem_restRefs_of main_arg8 (by decide) (show ∀ w : Fin 11, (spec0 w).arr.view.ref ≠ main_arg8 by decide))).trans (V_main_arg8 m c)⟩) h

/-! ## The body -/

/-- The body at any point: from the eight blocks it leaves the three results. -/
theorem sound_kernel (c : Dev nD) (E : Set ℕ) (i : grid0.Coords) (arg1 : Memref sig .tc .vmem S16x576x256 .fp8e4m3) (harg1 : arg1.IsWhole) (arg2 : Memref sig .tc .vmem S16x256 .f32) (harg2 : arg2.IsWhole) (arg3 : Memref sig .tc .vmem S16x256 .f32) (harg3 : arg3.IsWhole) (arg4 : Memref sig .tc .vmem S24x128x256 .fp8e4m3) (harg4 : arg4.IsWhole) (arg5 : Memref sig .tc .vmem S24x256 .f32) (harg5 : arg5.IsWhole) (arg6 : Memref sig .tc .vmem S8192x640 .bf16) (harg6 : arg6.IsWhole) (arg7 : Memref sig .tc .vmem S8192x128 .fp8e4m3) (harg7 : arg7.IsWhole) (arg8 : Memref sig .tc .vmem S8192x128 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S64x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S16x256 .f32) (harg14 : arg14.IsWhole) (arg15 : Memref sig .tc .vmem S16x256 .f32) (harg15 : arg15.IsWhole) (arg16 : Memref sig .tc .vmem S32x2x256 .f32) (harg16 : arg16.IsWhole) (b : Blk F) (Q : PUnit → sProp 𝕄) :
    iprop(owns (c : Thread nD τ) arg1 fullShare b.q ∗ owns (c : Thread nD τ) arg2 fullShare b.qs ∗ owns (c : Thread nD τ) arg3 fullShare b.lse ∗ owns (c : Thread nD τ) arg4 fullShare b.qi ∗ owns (c : Thread nD τ) arg5 fullShare b.w ∗ owns (c : Thread nD τ) arg6 fullShare b.keys ∗ owns (c : Thread nD τ) arg7 fullShare b.ki ∗ owns (c : Thread nD τ) arg8 fullShare b.cols ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ ((owns (c : Thread nD τ) arg1 fullShare b.q ∗ owns (c : Thread nD τ) arg2 fullShare b.qs ∗ owns (c : Thread nD τ) arg3 fullShare b.lse ∗ owns (c : Thread nD τ) arg4 fullShare b.qi ∗ owns (c : Thread nD τ) arg5 fullShare b.w ∗ owns (c : Thread nD τ) arg6 fullShare b.keys ∗ owns (c : Thread nD τ) arg7 fullShare b.ki ∗ owns (c : Thread nD τ) arg8 fullShare b.cols ∗ owns (c : Thread nD τ) arg9 fullShare (outKl i b) ∗ owns (c : Thread nD τ) arg10 fullShare (outLse i b) ∗ owns (c : Thread nD τ) arg11 fullShare (outBlk i b) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X)) -∗ Q ⟨⟩))
      ⊢ wp frame (wpE (defs₀ (F := F)) Variants.nat c none) E (cc0_indexer_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  rw [cc0_indexer_attn_eq_skeleton]
  unfold cc0_indexer_attn_skel owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%Y9, %f9, %h9, H9⟩, ⟨%Y10, %f10, %h10, H10⟩, ⟨%Y11, %f11, %h11, H11⟩, ⟨%Y12, %f12, %h12, H12⟩, ⟨%Y13, %f13, %h13, H13⟩, ⟨%Y14, %f14, %h14, H14⟩, ⟨%Y15, %f15, %h15, H15⟩, ⟨%Y16, %f16, %h16, H16⟩, Hk⟩
  sl_exec
  iapply (while_call i arg16 harg16 arg6 harg6 arg1 harg1 arg14 harg14 arg15 harg15 arg12 harg12 arg7 harg7 arg4 harg4 arg5 harg5 arg13 harg13 arg8 harg8 arg10 harg10 arg9 harg9 arg11 harg11 arg3 harg3 c none E _ _ 2 (fun u hu => by cases hu))
  iapply (while_first i arg16 harg16 arg6 harg6 arg1 harg1 arg14 harg14 arg15 harg15 arg12 harg12 arg7 harg7 arg4 harg4 arg5 harg5 arg13 harg13 arg8 harg8 arg10 harg10 arg9 harg9 arg11 harg11 arg3 harg3 f6 f1 (arg14.view.writes (Elt F) f14 [⟨Rect.unit ![0, 0] S16x256.size inb_S16x256_S16x256_0_0, k0_pay1 (View.readAt (Elt F) arg2.view (Rect.unit ![0, 0] S16x256.size inb_S16x256_S16x256_0_0).toLoadRect f2)⟩]) f7 f4 f5 f8 f3 c E b h6 h1 ?h14 h3 h7 h4 h5 h8)
  case h14 =>
    refine (View.read_writes_full arg14.view _ _ _ _).trans ?_
    have hl := View.readAt_full arg2.view f2 (off := ![0, 0]) inb_S16x256_S16x256_0_0
    unfold sc0
    rw [← h2, ← hl]
  unfold loopPre
  isplitl [H6 H1 H14 H7 H4 H5 H8 H3 H15 H16 H12 H13 H9 H10 H11]
  · isplitl [H6]; · iexact H6
    isplitl [H1]; · iexact H1
    isplitl [H14]; · iexact H14
    isplitl [H7]; · iexact H7
    isplitl [H4]; · iexact H4
    isplitl [H5]; · iexact H5
    isplitl [H8]; · iexact H8
    isplitl [H3]; · iexact H3
    isplitl [H15]
    · iexists _; isplitl [H15]; · iexact H15
      ipureintro
      refine (View.read_writes_full arg15.view _ _ _ _).trans ?_
      have hl := View.readAt_full arg3.view f3 (off := ![0, 0]) inb_S16x256_S16x256_0_0
      unfold sh0
      rw [← h3, ← hl]
    isplitl [H16]; · iexists _; iexact H16
    isplitl [H12]; · iexists _; iexact H12
    isplitl [H13]; · iexists _; iexact H13
    isplitl [H9]; · iexists _; iexact H9
    isplitl [H10]; · iexists _; iexact H10
    iexists _; iexact H11
  iintro %r HP
  unfold loopPost
  icases HP with ⟨H6, H1, H14, H7, H4, H5, H8, H3, ⟨%g15, H15⟩, ⟨%g16, H16⟩, ⟨%g12, H12⟩, ⟨%g13, H13⟩, ⟨%g9, H9, %e9⟩, ⟨%g10, H10, %e10⟩, ⟨%g11, H11, %e11⟩⟩
  sl_exec
  sl_step
  iapply Hk
  isplitl [H1]
  · iexists f1; isplitr [H1]; · ipureintro; exact h1
    iexact H1
  isplitl [H2]
  · iexists f2; isplitr [H2]; · ipureintro; exact h2
    iexact H2
  isplitl [H3]
  · iexists f3; isplitr [H3]; · ipureintro; exact h3
    iexact H3
  isplitl [H4]
  · iexists f4; isplitr [H4]; · ipureintro; exact h4
    iexact H4
  isplitl [H5]
  · iexists f5; isplitr [H5]; · ipureintro; exact h5
    iexact H5
  isplitl [H6]
  · iexists f6; isplitr [H6]; · ipureintro; exact h6
    iexact H6
  isplitl [H7]
  · iexists f7; isplitr [H7]; · ipureintro; exact h7
    iexact H7
  isplitl [H8]
  · iexists f8; isplitr [H8]; · ipureintro; exact h8
    iexact H8
  isplitl [H9]
  · iexists g9; isplitr [H9]; · ipureintro; exact e9
    iexact H9
  isplitl [H10]
  · iexists g10; isplitr [H10]; · ipureintro; exact e10
    iexact H10
  isplitl [H11]
  · iexists g11; isplitr [H11]; · ipureintro; exact e11
    iexact H11
  isplitl [H12]
  · iexists (arg12.view.read (Elt F) g12), g12; isplitr [H12]; · ipureintro; rfl
    iexact H12
  isplitl [H13]
  · iexists (arg13.view.read (Elt F) g13), g13; isplitr [H13]; · ipureintro; rfl
    iexact H13
  isplitl [H14]
  · iexists (arg14.view.read (Elt F) (arg14.view.writes (Elt F) f14 [⟨Rect.unit ![0, 0] S16x256.size inb_S16x256_S16x256_0_0, k0_pay1 (View.readAt (Elt F) arg2.view (Rect.unit ![0, 0] S16x256.size inb_S16x256_S16x256_0_0).toLoadRect f2)⟩])), (arg14.view.writes (Elt F) f14 [⟨Rect.unit ![0, 0] S16x256.size inb_S16x256_S16x256_0_0, k0_pay1 (View.readAt (Elt F) arg2.view (Rect.unit ![0, 0] S16x256.size inb_S16x256_S16x256_0_0).toLoadRect f2)⟩]); isplitr [H14]; · ipureintro; rfl
    iexact H14
  isplitl [H15]
  · iexists (arg15.view.read (Elt F) g15), g15; isplitr [H15]; · ipureintro; rfl
    iexact H15
  iexists (arg16.view.read (Elt F) g16), g16; isplitr [H16]; · ipureintro; rfl
  iexact H16

/-! ## The proof data -/

/-- The blocks the body reads at point `t`. -/
def blkAt (c : Dev nD) (t : Fin (cfg0 (F := F)).N) : Blk F where
  q := iblk m c 0 t
  qs := iblk m c 1 t
  lse := iblk m c 2 t
  qi := iblk m c 3 t
  w := iblk m c 4 t
  keys := iblk m c 5 t
  ki := iblk m c 6 t
  cols := iblk m c 7 t

/-- The arrays as the region finds them; after each point an input's buffer at its block, a result's at what the body
    computes from the blocks. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outKl (grid0.coords t) (blkAt m c t)
    | ⟨9, _⟩ => outLse (grid0.coords t) (blkAt m c t)
    | ⟨10, _⟩ => outBlk (grid0.coords t) (blkAt m c t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = iblk m c 6 t := by dsimp only [dats]; rfl
theorem after0_7 (c : Dev nD) (t : Fin (cfg0 (F := F)).N) : (dats m 0 c).after 7 t = iblk m c 7 t := by dsimp only [dats]; rfl
theorem after0_8 (c : Dev nD) (t : Fin (cfg0 (F := F)).N) : (dats m 0 c).after 8 t = outKl (grid0.coords t) (blkAt m c t) := by dsimp only [dats]; rfl
theorem after0_9 (c : Dev nD) (t : Fin (cfg0 (F := F)).N) : (dats m 0 c).after 9 t = outLse (grid0.coords t) (blkAt m c t) := by dsimp only [dats]; rfl
theorem after0_10 (c : Dev nD) (t : Fin (cfg0 (F := F)).N) : (dats m 0 c).after 10 t = outBlk (grid0.coords t) (blkAt m c t) := by dsimp only [dats]; rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d
theorem before0_6 (c : Dev nD) (t : Fin (cfg0 (F := F)).N) (d) : (dats m 0 c).before 6 t d = iblk m c 6 t :=
  before0_6_of m (dats m 0 c) (A_eq m c 6) (after0_6 m c) t d
theorem before0_7 (c : Dev nD) (t : Fin (cfg0 (F := F)).N) (d) : (dats m 0 c).before 7 t d = iblk m c 7 t :=
  before0_7_of m (dats m 0 c) (A_eq m c 7) (after0_7 m c) t d
/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 2000000 in
/-- The body at any point: the inputs' buffers hold their blocks and the five scratch buffers come out of the invariant. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10]
  unfold Pipeline.ΦA
  rw [scopedRest0_eq]
  simp only [← owns_whole]
  iintro ⟨⟨⟨⟨%s0, S0⟩, ⟨%s1, S1⟩, ⟨%s2, S2⟩, ⟨%s3, S3⟩, ⟨%s4, S4⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ _ _ _ _ _ _ _ _ _ _ (blkAt m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexists _; iexact S0
  isplitl [S1]; · iexists _; iexact S1
  isplitl [S2]; · iexists _; iexact S2
  isplitl [S3]; · iexists _; iexact S3
  isplitl [S4]; · iexists _; iexact S4
  iintro ⟨H0, H1, H2, H3, H4, H5, H6, H7, H8, H9, H10, ⟨%r0, S0⟩, ⟨%r1, S1⟩, ⟨%r2, S2⟩, ⟨%r3, S3⟩, ⟨%r4, S4⟩⟩
  isplitl [S0 S1 S2 S3 S4 Hp]
  · isplitl [S0 S1 S2 S3 S4]
    · isplitl [S0]; · iexists _; iexact S0
      isplitl [S1]; · iexists _; iexact S1
      isplitl [S2]; · iexists _; iexact S2
      isplitl [S3]; · iexists _; iexact S3
      iexists _; iexact S4
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame (Q' := _) (cfgs (F := F)) (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost (cfgs (F := F)) (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- Every run ends with the arguments as given and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Body

end
-- ==== Proof.Bits.Model.lean ====
/- What one call of the attention body computes, as functions of the blocks it reads: one key tile's probabilities and index scores, the
   four carried rows, the block sums, one attempt, and the two attempts together. The body's own order of operations, at any float values. -/
module

public import proofs.«01_k».proof.Proof.Gen.Kernel.Loops
public import Idealize.ShloMosaic.Lib.Pipeline.FrameBody
public import Idealize.ShloMosaic.Lib.VecWindow

@[expose] public section

set_option maxRecDepth 16384

noncomputable section

namespace Cert.Kernel.Body

open Cert.Kernel Cert.Kernel.Gen
open Idealize.ShloMosaic Idealize.ShloMosaic.TcCoe

variable {F : FTy → Type} [FloatOps F]

/-- Row `h` of a per-head scale block. -/
abbrev row16 (h : Fin 16) : Rect S16x256 := Rect.unit ![h.val, 0] S1x256.size (by revert h; decide)
/-- Row `h` of the index heads' weights. -/
abbrev row24 (h : Fin 24) : Rect S24x256 := Rect.unit ![h.val, 0] S1x256.size (by revert h; decide)
/-- Head `h`'s queries. -/
abbrev head16 (h : Fin 16) : Rect S16x576x256 := Rect.unit ![h.val, 0, 0] S1x576x256.size (by revert h; decide)
/-- Index head `h`'s queries. -/
abbrev head24 (h : Fin 24) : Rect S24x128x256 := Rect.unit ![h.val, 0, 0] S1x128x256.size (by revert h; decide)
/-- Key tile `k` of the keys. -/
abbrev keyTile (i : grid0.Coords) (k : Fin (k0_t1_loop i).trips) : Rect S8192x640 := Rect.unit (k0_off1 i k) S256x576.size (k0_off1_inb i k)
/-- Key tile `k` of the index keys and of their scales. -/
abbrev idxTile (i : grid0.Coords) (k : Fin (k0_t1_loop i).trips) : Rect S8192x128 := Rect.unit (k0_off2 i k) S256x128.size (k0_off2_inb i k)

/-- One head's scores on a key tile. -/
def headScore (kt : Vec F S256x576 .bf16) (q : Vec F S1x576x256 .fp8e4m3) (sc : Vec F S1x256 .f32) : FVec F S256x256 .f32 :=
  mulf (matmul dot_S256x576_S576x256_S256x256_1_0_0_1_n_n none (shapeCast S256x576 kt shapeCasts_S256x576_S256x576 : FVec F S256x576 .bf16)
    (shapeCast S576x256 q shapeCasts_S1x576x256_S576x256 : FVec F S576x256 .fp8e4m3) (constant S256x256 .f32 0x00000000#32))
    (broadcastTo S256x256 sc broadcasts_S1x256_S256x256)

/-- One head's exponentials on a key tile. -/
def headExp (kt : Vec F S256x576 .bf16) (q : Vec F S1x576x256 .fp8e4m3) (sc sh : Vec F S1x256 .f32) : FVec F S256x256 .f32 :=
  exp2 (subf (headScore kt q sc) (broadcastTo S256x256 sh broadcasts_S1x256_S256x256))

/-- The sixteen heads' exponentials on a key tile, added up from zero. -/
def probs (kt : Vec F S256x576 .bf16) (q : Vec F S16x576x256 .fp8e4m3) (sc sh : Vec F S16x256 .f32) : FVec F S256x256 .f32 :=
  (List.finRange 16).foldl (fun a h => addf a (headExp kt (View.ld q (head16 h)) (View.ld sc (row16 h)) (View.ld sh (row16 h))))
    (broadcast S256x256 (Scalar.ofBits .f32 0x00000000#32))

/-- One index head's weighted rectified scores on a key tile. -/
def idxHead (kt : Vec F S256x128 .fp8e4m3) (q : Vec F S1x128x256 .fp8e4m3) (w : Vec F S1x256 .f32) : FVec F S256x256 .f32 :=
  mulf (broadcastTo S256x256 (shapeCast S1x256 w shapeCasts_S1x256_S1x256 : FVec F S1x256 .f32) broadcasts_S1x256_S256x256)
    (maximumf (matmul dot_S256x128_S128x256_S256x256_1_0_0_1_n_n none (shapeCast S256x128 kt shapeCasts_S256x128_S256x128 : FVec F S256x128 .fp8e4m3)
      (shapeCast S128x256 q shapeCasts_S1x128x256_S128x256 : FVec F S128x256 .fp8e4m3) (constant S256x256 .f32 0x00000000#32))
      (broadcast S256x256 (Scalar.ofBits .f32 0x00000000#32)))

/-- The twenty-four index heads on a key tile, added up from zero. -/
def idxSum (kt : Vec F S256x128 .fp8e4m3) (q : Vec F S24x128x256 .fp8e4m3) (w : Vec F S24x256 .f32) : FVec F S256x256 .f32 :=
  (List.finRange 24).foldl (fun a h => addf a (idxHead kt (View.ld q (head24 h)) (View.ld w (row24 h))))
    (broadcast S256x256 (Scalar.ofBits .f32 0x00000000#32))

/-- The four carried rows: entropy sum, cross sum, running maximum, running denominator. -/
abbrev Rows (F : FTy → Type) := FVec F S1x256 .f32 × FVec F S1x256 .f32 × FVec F S1x256 .f32 × FVec F S1x256 .f32

/-- Where tile `k` of key rows is at or before the query. -/
def mask (v20 v19 : IVec S256x256 32) (k : ℕ) : IVec S256x256 1 := k0_pay45 v20 v19 (Scf.iv 0#32 1#32 k)

/-- One tile's step of the carried rows, from its unmasked probabilities `p`, its scale columns `cols` and its index sums `l`. -/
def rowsStep (mk : IVec S256x256 1) (p : Vec F S256x256 .f32) (cols : Vec F S256x128 .f32) (l : Vec F S256x256 .f32) (a : Rows F) : Rows F :=
  (k0_pay49 a.1 mk p, k0_pay50 a.2.1 mk p cols l, k0_pay52 a.2.2.1 mk cols l,
    k0_pay102 (k0_pay53 a.2.2.1 a.2.2.2 mk cols l) (k0_pay54 a.2.2.1 mk cols l))

/-- The eight input blocks of one grid point. -/
structure Blk (F : FTy → Type) where
  q : Vec F S16x576x256 .fp8e4m3
  qs : Vec F S16x256 .f32
  lse : Vec F S16x256 .f32
  qi : Vec F S24x128x256 .fp8e4m3
  w : Vec F S24x256 .f32
  keys : Vec F S8192x640 .bf16
  ki : Vec F S8192x128 .fp8e4m3
  cols : Vec F S8192x128 .f32

/-- A key's position within its tile. -/
def kidx : IVec S256x256 32 := iota .tc S256x256 32 [0] iota_S256x256_d0_w32

variable (i : grid0.Coords) (b : Blk F) (sc sh : Vec F S16x256 .f32)

/-- Where tile `k`'s keys are at or before the query. -/
def mk (k : ℕ) : IVec S256x256 1 := mask kidx (k0_pay3 i) k

/-- Tile `k`'s unmasked probabilities at the scales `sc` and shifts `sh`. -/
def tileP (k : Fin (k0_t1_loop i).trips) : Vec F S256x256 .f32 :=
  shapeCast S256x256 (probs (View.ld b.keys (keyTile i k)) b.q sc sh) shapeCasts_S256x256_S256x256

/-- Tile `k`'s index sums. -/
def tileL (k : Fin (k0_t1_loop i).trips) : Vec F S256x256 .f32 :=
  shapeCast S256x256 (idxSum (View.ld b.ki (idxTile i k)) b.qi b.w) shapeCasts_S256x256_S256x256

/-- The carried rows before tile `n`. -/
def rowsAt : ℕ → Rows F
  | 0 => (k0_pay100, k0_pay100, k0_pay101, k0_pay100)
  | n + 1 => if h : n < (k0_t1_loop i).trips then
      rowsStep (mk i n) (tileP i b sc sh ⟨n, h⟩) (View.ld b.cols (idxTile i ⟨n, h⟩)) (tileL i b ⟨n, h⟩) (rowsAt n)
    else rowsAt n

/-- The block sums before tile `n`: zero but for the tiles before. -/
def pbAt : ℕ → Vec F S32x2x256 .f32
  | 0 => k0_pay99
  | n + 1 => if h : n < (k0_t1_loop i).trips then
      VecWindow.put (pbAt n) ![n, 0, 0] S1x2x256.size (k0_pay48 (mk i n) (tileP i b sc sh ⟨n, h⟩))
    else pbAt n

theorem rowsAt_succ (k : Fin (k0_t1_loop i).trips) : rowsAt i b sc sh (k.val + 1)
    = rowsStep (mk i k.val) (tileP i b sc sh k) (View.ld b.cols (idxTile i k)) (tileL i b k) (rowsAt i b sc sh k.val) :=
  dif_pos k.isLt

theorem pbAt_succ (k : Fin (k0_t1_loop i).trips) : pbAt i b sc sh (k.val + 1)
    = VecWindow.put (pbAt i b sc sh k.val) ![k.val, 0, 0] S1x2x256.size (k0_pay48 (mk i k.val) (tileP i b sc sh k)) :=
  dif_pos k.isLt

/-- The rows and the block sums one attempt ends with. -/
def rowsEnd : Rows F := rowsAt i b sc sh (k0_t1_loop i).trips
def pbEnd : Vec F S32x2x256 .f32 := pbAt i b sc sh (k0_t1_loop i).trips

/-- One attempt's three results. -/
def attKl : Vec F S1x256 .f32 :=
  k0_pay4 (rowsEnd i b sc sh).2.1 (k0_pay106 (pbEnd i b sc sh)) (k0_pay107 (rowsEnd i b sc sh).2.2.1 (rowsEnd i b sc sh).2.2.2)
    (k0_pay108 (pbEnd i b sc sh)) (k0_pay109 (rowsEnd i b sc sh).1 (pbEnd i b sc sh)) (k0_pay110 (pbEnd i b sc sh))
def attLse : Vec F S1x256 .f32 := k0_pay107 (rowsEnd i b sc sh).2.2.1 (rowsEnd i b sc sh).2.2.2
def attBlk : Vec F S64x256 .f32 := k0_pay5 (k0_pay104 (pbEnd i b sc sh)) (k0_pay106 (pbEnd i b sc sh))

/-- Whether every query's total of the attempt is in range. -/
def good : BitVec 1 := Scalar.cmpf .ogt (k0_pay6 (k0_pay105 (pbEnd i b sc sh))) (Scalar.ofBits (F := F) .f32 0x3F000000#32)

/-- The scales, and the first attempt's shifts. -/
def sc0 : Vec F S16x256 .f32 := k0_pay1 b.qs
def sh0 : Vec F S16x256 .f32 := k0_pay2 b.lse

/-- One head's step of the running maximum of the masked scores of tile `k`. -/
def maxHead (k : Fin (k0_t3_loop i).trips) (m : FVec F S1x256 .f32) (h : Fin k0_t4_loop.trips) : FVec F S1x256 .f32 :=
  k0_pay8 i kidx (k0_pay3 i) k m (View.ld b.keys (Rect.unit (s := S8192x640) (k0_off7 i k) S256x576.size (k0_off7_inb i k)))
    (View.ld b.q (Rect.unit (s := S16x576x256) (k0_off8 h) S1x576x256.size (k0_off8_inb h)))
    (View.ld (sc0 b) (Rect.unit (s := S16x256) (k0_off9 h) S1x256.size (k0_off9_inb h)))
    (View.ld b.lse (Rect.unit (s := S16x256) (k0_off9 h) S1x256.size (k0_off9_inb h)))

/-- The running maximum within a tile, before head `n`. -/
def maxHeads (k : Fin (k0_t3_loop i).trips) (m : FVec F S1x256 .f32) : ℕ → FVec F S1x256 .f32
  | 0 => m
  | n + 1 => if h : n < k0_t4_loop.trips then maxHead i b k (maxHeads k m n) ⟨n, h⟩ else maxHeads k m n

/-- The running maximum before tile `n`. -/
def maxAt : ℕ → FVec F S1x256 .f32
  | 0 => k0_pay7
  | n + 1 => if h : n < (k0_t3_loop i).trips then maxHeads i b ⟨n, h⟩ (maxAt n) k0_t4_loop.trips else maxAt n

theorem maxHeads_succ (k : Fin (k0_t3_loop i).trips) (m : FVec F S1x256 .f32) (h : Fin k0_t4_loop.trips) :
    maxHeads i b k m (h.val + 1) = maxHead i b k (maxHeads i b k m h.val) h := dif_pos h.isLt

theorem maxAt_succ (k : Fin (k0_t3_loop i).trips) :
    maxAt i b (k.val + 1) = maxHeads i b k (maxAt i b k.val) k0_t4_loop.trips := dif_pos k.isLt

/-- The second attempt's shifts. -/
def sh1 : Vec F S16x256 .f32 := k0_pay10 (maxAt i b (k0_t3_loop i).trips) b.lse

/-- The shifts of the attempt that counts. -/
def shF : Vec F S16x256 .f32 := if good i b (sc0 b) (sh0 b) = 1#1 then sh0 b else sh1 i b

/-- The three results. -/
def outKl : Vec F S1x256 .f32 := attKl i b (sc0 b) (shF i b)
def outLse : Vec F S1x256 .f32 := attLse i b (sc0 b) (shF i b)
def outBlk : Vec F S64x256 .f32 := attBlk i b (sc0 b) (shF i b)

end Cert.Kernel.Body

end
-- ==== Proof.Bits.Trip.lean ====
/- The generated run of one key tile's region, in the words of Model.lean. -/
module

public import proofs.«01_k».proof.Proof.Bits.Model
import all proofs.«01_k».proof.Proof.Gen.Kernel.Loops

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem finRange16 : List.finRange 16 = [0, 1, 2, 3, 4, 5, 6, 7, 8, 9, 10, 11, 12, 13, 14, 15] := by decide
theorem finRange24 : List.finRange 24 = [0, 1, 2, 3, 4, 5, 6, 7, 8, 9, 10, 11, 12, 13, 14, 15, 16, 17, 18, 19, 20, 21, 22, 23] := by decide

variable (i : grid0.Coords) (arg6 : Memref sig .tc .vmem S8192x640 .bf16) (arg1 : Memref sig .tc .vmem S16x576x256 .fp8e4m3)
  (arg14 arg15 : Memref sig .tc .vmem S16x256 .f32) (arg12 arg13 : Memref sig .tc .vmem S256x256 .f32)
  (arg7 : Memref sig .tc .vmem S8192x128 .fp8e4m3) (arg4 : Memref sig .tc .vmem S24x128x256 .fp8e4m3)
  (arg5 : Memref sig .tc .vmem S24x256 .f32) (arg8 : Memref sig .tc .vmem S8192x128 .f32)
  (X6 : BufTy.Contents (Elt F) arg6.view.ty) (X1 : BufTy.Contents (Elt F) arg1.view.ty)
  (X14 : BufTy.Contents (Elt F) arg14.view.ty) (X15 : BufTy.Contents (Elt F) arg15.view.ty)
  (X7 : BufTy.Contents (Elt F) arg7.view.ty) (X4 : BufTy.Contents (Elt F) arg4.view.ty)
  (X5 : BufTy.Contents (Elt F) arg5.view.ty) (X8 : BufTy.Contents (Elt F) arg8.view.ty)
  (k : Fin (k0_t1_loop i).trips)

theorem v639_eq (b : Blk F) (sc sh : Vec F S16x256 .f32) (h6 : arg6.view.read _ X6 = b.keys) (h1 : arg1.view.read _ X1 = b.q)
    (h14 : arg14.view.read _ X14 = sc) (h15 : arg15.view.read _ X15 = sh) :
    trip_k0_t1.sl.v639 i arg6 arg1 arg14 arg15 arg12 X6 X1 X14 X15 k = tileP i b sc sh k := by
  subst h14 h15
  obtain ⟨q, qs, lse, qi, w, keys, ki, cols⟩ := b
  dsimp only at h6 h1
  subst h6 h1
  unfold tileP probs
  rw [finRange16]
  simp only [List.foldl_cons, List.foldl_nil]
  delta trip_k0_t1.sl.v639 trip_k0_t1.sl.HW_arg12_1
  rw [View.readCov_cons_toLoadRect]
  rfl

theorem v645_eq (b : Blk F) (h7 : arg7.view.read _ X7 = b.ki) (h4 : arg4.view.read _ X4 = b.qi) (h5 : arg5.view.read _ X5 = b.w) :
    trip_k0_t1.sl.v645 i arg7 arg4 arg5 arg13 X7 X4 X5 k = tileL i b k := by
  obtain ⟨q, qs, lse, qi, w, keys, ki, cols⟩ := b
  dsimp only at h7 h4 h5
  subst h7 h4 h5
  unfold tileL idxSum
  rw [finRange24]
  simp only [List.foldl_cons, List.foldl_nil]
  delta trip_k0_t1.sl.v645 trip_k0_t1.sl.HW_arg13_1
  rw [View.readCov_cons_toLoadRect]
  rfl

variable (arg16 : Memref sig .tc .vmem S32x2x256 .f32) (harg16 : arg16.IsWhole) (harg6 : arg6.IsWhole) (harg1 : arg1.IsWhole) (harg14 : arg14.IsWhole) (harg15 : arg15.IsWhole) (harg12 : arg12.IsWhole) (harg7 : arg7.IsWhole) (harg4 : arg4.IsWhole) (harg5 : arg5.IsWhole) (harg13 : arg13.IsWhole) (harg8 : arg8.IsWhole) (arg10 : Memref sig .tc .vmem S1x256 .f32) (harg10 : arg10.IsWhole) (arg9 : Memref sig .tc .vmem S1x256 .f32) (harg9 : arg9.IsWhole) (arg11 : Memref sig .tc .vmem S64x256 .f32) (harg11 : arg11.IsWhole) (arg3 : Memref sig .tc .vmem S16x256 .f32) (harg3 : arg3.IsWhole) (arg17 : BitVec 32) (arg18 : BitVec 1) (v1 : BitVec 32)

theorem tripR_eq (𝒱 : Variants) (c : Dev nD) (bd : Option 𝒱.V) (acc : Rows F) (f16 : BufTy.Contents (Elt F) arg16.view.ty)
    (f12 : BufTy.Contents (Elt F) arg12.view.ty) (f13 : BufTy.Contents (Elt F) arg13.view.ty)
    (b : Blk F) (sc sh : Vec F S16x256 .f32) (h6 : arg6.view.read _ X6 = b.keys) (h1 : arg1.view.read _ X1 = b.q)
    (h14 : arg14.view.read _ X14 = sc) (h15 : arg15.view.read _ X15 = sh)
    (h7 : arg7.view.read _ X7 = b.ki) (h4 : arg4.view.read _ X4 = b.qi) (h5 : arg5.view.read _ X5 = b.w) (h8 : arg8.view.read _ X8 = b.cols) :
    tripR_k0_t1 (F := F) 𝒱 c bd i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 arg18 v1 X6 X1 X14 X15 X7 X4 X5 X8 k acc f16 f12 f13
      = rowsStep (mk i k.val) (tileP i b sc sh k) (View.ld b.cols (idxTile i k)) (tileL i b k) acc := by
  rw [← v639_eq i arg6 arg1 arg14 arg15 arg12 X6 X1 X14 X15 k b sc sh h6 h1 h14 h15,
    ← v645_eq i arg13 arg7 arg4 arg5 X7 X4 X5 k b h7 h4 h5, ← h8]
  unfold tripR_k0_t1 trip_k0_t1 rowsStep
  dsimp only
  delta trip_k0_t1.sl.r_34 trip_k0_t1.sl.r_35 trip_k0_t1.sl.r_36 trip_k0_t1.sl.r_37 trip_k0_t1.sl.r_38 trip_k0_t1.sl.r_33
  rfl

theorem trip_writes (𝒱 : Variants) (c : Dev nD) (bd : Option 𝒱.V) (acc : Rows F) (f16 : BufTy.Contents (Elt F) arg16.view.ty)
    (f12 : BufTy.Contents (Elt F) arg12.view.ty) (f13 : BufTy.Contents (Elt F) arg13.view.ty)
    (b : Blk F) (sc sh : Vec F S16x256 .f32) (h6 : arg6.view.read _ X6 = b.keys) (h1 : arg1.view.read _ X1 = b.q)
    (h14 : arg14.view.read _ X14 = sc) (h15 : arg15.view.read _ X15 = sh) :
    arg16.view.read (Elt F) (arg16.view.writes (Elt F) f16 ((trip_k0_t1 (F := F) 𝒱 c bd i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 arg18 v1 X6 X1 X14 X15 X7 X4 X5 X8 k).2.1 acc f16 f12 f13))
      = VecWindow.put (arg16.view.read (Elt F) f16) ![k.val, 0, 0] S1x2x256.size (k0_pay48 (mk i k.val) (tileP i b sc sh k)) := by
  rw [← v639_eq i arg6 arg1 arg14 arg15 arg12 X6 X1 X14 X15 k b sc sh h6 h1 h14 h15]
  unfold trip_k0_t1
  dsimp only
  delta trip_k0_t1.sl.r_33
  exact View.read_writes_cons_put arg16.view f16 _ _ [] (k0_off3_eq i k)

/-- The generated state of the key-tile loop is the rows and the block sums. -/
theorem st_eq (𝒱 : Variants) (c : Dev nD) (bd : Option 𝒱.V) (G16 : BufTy.Contents (Elt F) arg16.view.ty)
    (G12 : BufTy.Contents (Elt F) arg12.view.ty) (G13 : BufTy.Contents (Elt F) arg13.view.ty)
    (b : Blk F) (sc sh : Vec F S16x256 .f32) (h6 : arg6.view.read _ X6 = b.keys) (h1 : arg1.view.read _ X1 = b.q)
    (h14 : arg14.view.read _ X14 = sc) (h15 : arg15.view.read _ X15 = sh)
    (h7 : arg7.view.read _ X7 = b.ki) (h4 : arg4.view.read _ X4 = b.qi) (h5 : arg5.view.read _ X5 = b.w) (h8 : arg8.view.read _ X8 = b.cols)
    (h16 : arg16.view.read _ G16 = k0_pay99) (n : ℕ) (hn : n ≤ (k0_t1_loop i).trips) :
    (st_k0_t1 (F := F) 𝒱 c bd i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 arg18 v1 X6 X1 X14 X15 X7 X4 X5 X8 G16 G12 G13 (k0_pay100, k0_pay100, k0_pay101, k0_pay100) n).1 = rowsAt i b sc sh n
      ∧ arg16.view.read _ (arg16.view.writes (Elt F) G16 (st_k0_t1 (F := F) 𝒱 c bd i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 arg18 v1 X6 X1 X14 X15 X7 X4 X5 X8 G16 G12 G13 (k0_pay100, k0_pay100, k0_pay101, k0_pay100) n).2.1) = pbAt i b sc sh n := by
  induction n with
  | zero => exact ⟨rfl, h16⟩
  | succ n ih =>
    obtain ⟨e1, e2⟩ := ih (by omega)
    have hs := st_k0_t1_succ (F := F) 𝒱 c bd i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 arg18 v1 X6 X1 X14 X15 X7 X4 X5 X8 G16 G12 G13 (k0_pay100, k0_pay100, k0_pay101, k0_pay100) ⟨n, hn⟩
    dsimp only at hs
    rw [hs]
    dsimp only
    rw [View.writes_append, e1]
    constructor
    · exact (tripR_eq i arg6 arg1 arg14 arg15 arg12 arg13 arg7 arg4 arg5 arg8 X6 X1 X14 X15 X7 X4 X5 X8 ⟨n, hn⟩ arg16 harg16 harg6 harg1 harg14 harg15 harg12 harg7 harg4 harg5 harg13 harg8 arg10 harg10 arg9 harg9 arg11 harg11 arg3 harg3 arg17 arg18 v1 𝒱 c bd _ _ _ _ b sc sh h6 h1 h14 h15 h7 h4 h5 h8).trans (rowsAt_succ i b sc sh ⟨n, hn⟩).symm
    · rw [trip_writes i arg6 arg1 arg14 arg15 arg12 arg13 arg7 arg4 arg5 arg8 X6 X1 X14 X15 X7 X4 X5 X8 ⟨n, hn⟩ arg16 harg16 harg6 harg1 harg14 harg15 harg12 harg7 harg4 harg5 harg13 harg8 arg10 harg10 arg9 harg9 arg11 harg11 arg3 harg3 arg17 arg18 v1 𝒱 c bd _ _ _ _ b sc sh h6 h1 h14 h15, e2]
      exact (pbAt_succ i b sc sh ⟨n, hn⟩).symm

end Cert.Kernel.Body

end
-- ==== Proof.Bits.Attempt.lean ====
/- One attempt over the key tiles: what it stores and returns. -/
module

public import proofs.«01_k».proof.Proof.Bits.Trip
public import Idealize.ShloMosaic.Lib.LoopRemainder

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (i : grid0.Coords) (arg16 : Memref sig .tc .vmem S32x2x256 .f32) (harg16 : arg16.IsWhole) (arg6 : Memref sig .tc .vmem S8192x640 .bf16) (harg6 : arg6.IsWhole) (arg1 : Memref sig .tc .vmem S16x576x256 .fp8e4m3) (harg1 : arg1.IsWhole) (arg14 : Memref sig .tc .vmem S16x256 .f32) (harg14 : arg14.IsWhole) (arg15 : Memref sig .tc .vmem S16x256 .f32) (harg15 : arg15.IsWhole) (arg12 : Memref sig .tc .vmem S256x256 .f32) (harg12 : arg12.IsWhole) (arg7 : Memref sig .tc .vmem S8192x128 .fp8e4m3) (harg7 : arg7.IsWhole) (arg4 : Memref sig .tc .vmem S24x128x256 .fp8e4m3) (harg4 : arg4.IsWhole) (arg5 : Memref sig .tc .vmem S24x256 .f32) (harg5 : arg5.IsWhole) (arg13 : Memref sig .tc .vmem S256x256 .f32) (harg13 : arg13.IsWhole)
  (arg8 : Memref sig .tc .vmem S8192x128 .f32) (harg8 : arg8.IsWhole) (arg10 : Memref sig .tc .vmem S1x256 .f32) (harg10 : arg10.IsWhole) (arg9 : Memref sig .tc .vmem S1x256 .f32) (harg9 : arg9.IsWhole) (arg11 : Memref sig .tc .vmem S64x256 .f32) (harg11 : arg11.IsWhole) (arg3 : Memref sig .tc .vmem S16x256 .f32) (harg3 : arg3.IsWhole)

/-- The values an attempt hands on. -/
def attRet (b : Blk F) (sc sh : Vec F S16x256 .f32) : Σ' (v34_1 : FVec F S1x256 .f32) (v36 : FVec F S64x256 .f32) (v38 : FVec F S1x256 .f32) (v42 : FVec F S1x256 .f32) (v49 : FVec F S1x256 .f32) (v52 : IVec S1x256 1) (v53 : FVec F S1x256 .f32), FVec F S1x256 .f32 :=
  ⟨(rowsEnd i b sc sh).2.1, k0_pay104 (pbEnd i b sc sh), k0_pay105 (pbEnd i b sc sh), k0_pay106 (pbEnd i b sc sh), k0_pay107 (rowsEnd i b sc sh).2.2.1 (rowsEnd i b sc sh).2.2.2, k0_pay108 (pbEnd i b sc sh), k0_pay109 (rowsEnd i b sc sh).1 (pbEnd i b sc sh), k0_pay110 (pbEnd i b sc sh)⟩

theorem part33_sound (𝒱 : Variants) (c : Dev nD) (bd : Option 𝒱.V) (E : Set ℕ) (arg17 : BitVec 32) (arg18 : BitVec 1) (v1 : BitVec 32)
    (X6 : BufTy.Contents (Elt F) arg6.view.ty) (X1 : BufTy.Contents (Elt F) arg1.view.ty)
    (X14 : BufTy.Contents (Elt F) arg14.view.ty) (X15 : BufTy.Contents (Elt F) arg15.view.ty)
    (X7 : BufTy.Contents (Elt F) arg7.view.ty) (X4 : BufTy.Contents (Elt F) arg4.view.ty)
    (X5 : BufTy.Contents (Elt F) arg5.view.ty) (X8 : BufTy.Contents (Elt F) arg8.view.ty)
    (X16 : BufTy.Contents (Elt F) arg16.view.ty) (X10 : BufTy.Contents (Elt F) arg10.view.ty)
    (X12 : BufTy.Contents (Elt F) arg12.view.ty) (X13 : BufTy.Contents (Elt F) arg13.view.ty)
    (b : Blk F) (sc sh : Vec F S16x256 .f32) (h6 : arg6.view.read _ X6 = b.keys) (h1 : arg1.view.read _ X1 = b.q)
    (h14 : arg14.view.read _ X14 = sc) (h15 : arg15.view.read _ X15 = sh)
    (h7 : arg7.view.read _ X7 = b.ki) (h4 : arg4.view.read _ X4 = b.qi) (h5 : arg5.view.read _ X5 = b.w) (h8 : arg8.view.read _ X8 = b.cols)
    (Q : (Σ' (v34_1 : FVec F S1x256 .f32) (v36 : FVec F S64x256 .f32) (v38 : FVec F S1x256 .f32) (v42 : FVec F S1x256 .f32) (v49 : FVec F S1x256 .f32) (v52 : IVec S1x256 1) (v53 : FVec F S1x256 .f32), FVec F S1x256 .f32) → sProp (MT nD τ sig Unit (Elt F) ℕ (UR sig nD τ) ℕ)) :
    iprop((arg6.view.loc (c : Thread nD τ) ↦[arg6.view.set]{fullShare} X6) ∗ (arg1.view.loc (c : Thread nD τ) ↦[arg1.view.set]{fullShare} X1) ∗ (arg14.view.loc (c : Thread nD τ) ↦[arg14.view.set]{fullShare} X14) ∗ (arg15.view.loc (c : Thread nD τ) ↦[arg15.view.set]{fullShare} X15) ∗ (arg7.view.loc (c : Thread nD τ) ↦[arg7.view.set]{fullShare} X7) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗
      (arg16.view.loc (c : Thread nD τ) ↦[arg16.view.set]{fullShare} X16) ∗ (arg12.view.loc (c : Thread nD τ) ↦[arg12.view.set]{fullShare} X12) ∗ (arg13.view.loc (c : Thread nD τ) ↦[arg13.view.set]{fullShare} X13) ∗ (arg10.view.loc (c : Thread nD τ) ↦[arg10.view.set]{fullShare} X10) ∗
      ((arg6.view.loc (c : Thread nD τ) ↦[arg6.view.set]{fullShare} X6) -∗ (arg1.view.loc (c : Thread nD τ) ↦[arg1.view.set]{fullShare} X1) -∗ (arg14.view.loc (c : Thread nD τ) ↦[arg14.view.set]{fullShare} X14) -∗ (arg15.view.loc (c : Thread nD τ) ↦[arg15.view.set]{fullShare} X15) -∗ (arg7.view.loc (c : Thread nD τ) ↦[arg7.view.set]{fullShare} X7) -∗ (arg4.view.loc (c : Thread nD τ) ↦[arg4.view.set]{fullShare} X4) -∗ (arg5.view.loc (c : Thread nD τ) ↦[arg5.view.set]{fullShare} X5) -∗ (arg8.view.loc (c : Thread nD τ) ↦[arg8.view.set]{fullShare} X8) -∗
        (∃ f, arg16.view.loc (c : Thread nD τ) ↦[arg16.view.set]{fullShare} f) -∗ (∃ f, arg12.view.loc (c : Thread nD τ) ↦[arg12.view.set]{fullShare} f) -∗ (∃ f, arg13.view.loc (c : Thread nD τ) ↦[arg13.view.set]{fullShare} f) -∗
        (∃ f, (arg10.view.loc (c : Thread nD τ) ↦[arg10.view.set]{fullShare} f) ∗ ⌜arg10.view.read (Elt F) f = attLse i b sc sh⌝) -∗ Q (attRet i b sc sh)))
      ⊢ wp Idealize.ShloMosaic.frame (wpE (defs₀ (F := F)) 𝒱 (c : Thread nD τ) bd) E
        (k0_part33 (F := F) i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 arg18 v1) Q := by
  rw [k0_part33_eq_skeleton]
  unfold k0_part33_skel
  iintro ⟨H6, H1, H14, H15, H7, H4, H5, H8, H16, H12, H13, H10, Hk⟩
  sl_exec
  sl_step
  obtain ⟨e1, e2⟩ := st_eq i arg6 arg1 arg14 arg15 arg12 arg13 arg7 arg4 arg5 arg8 X6 X1 X14 X15 X7 X4 X5 X8 arg16 harg16 harg6 harg1 harg14 harg15 harg12 harg7 harg4 harg5 harg13 harg8 arg10 harg10 arg9 harg9 arg11 harg11 arg3 harg3 arg17 arg18 v1 𝒱 c bd
    (arg16.view.writes (Elt F) arg16.view.junk part33_sound.sl.H16_1) X12 X13 b sc sh h6 h1 h14 h15 h7 h4 h5 h8
    (View.read_writes_full arg16.view _ _ _ []) (Scf.trips (k0_t1_loop i).lb (k0_t1_loop i).ub (k0_t1_loop i).st) (le_refl _)
  have hv : part33_sound.sl.v35 i arg16 harg16 arg6 harg6 arg1 harg1 arg14 harg14 arg15 harg15 arg12 harg12 arg7 harg7 arg4 harg4 arg5 harg5 arg13 harg13 arg8 harg8 arg10 harg10 arg9 harg9 arg11 harg11 arg3 harg3 𝒱 c bd arg17 arg18 v1 X6 X1 X14 X15 X7 X4 X5 X8 X12 X13 = pbEnd i b sc sh := by
    delta part33_sound.sl.v35
    refine (View.readAt_full arg16.view _ _).trans ?_
    rw [View.writes_append]
    exact e2
  have key : ∀ (r : Rows F) (v : Vec F S32x2x256 .f32), r = rowsEnd i b sc sh → v = pbEnd i b sc sh →
      (⟨r.2.1, k0_pay104 v, k0_pay105 v, k0_pay106 v, k0_pay107 r.2.2.1 r.2.2.2, k0_pay108 v, k0_pay109 r.1 v, k0_pay110 v⟩ : Σ' (v34_1 : FVec F S1x256 .f32) (v36 : FVec F S64x256 .f32) (v38 : FVec F S1x256 .f32) (v42 : FVec F S1x256 .f32) (v49 : FVec F S1x256 .f32) (v52 : IVec S1x256 1) (v53 : FVec F S1x256 .f32), FVec F S1x256 .f32)
        = attRet i b sc sh := by
    rintro _ _ rfl rfl; rfl
  have e3 := e1.trans (show _ = rowsEnd i b sc sh from rfl)
  rw [key _ _ e3 hv]
  iapply Hk $$ H6 H1 H14 H15 H7 H4 H5 H8 [H16] [H12] [H13] [H10]
  · iexists _; iexact H16
  · iexists _; iexact H12
  · iexists _; iexact H13
  · iexists _; isplitl [H10]; · iexact H10
    ipureintro
    refine (View.read_writes_full arg10.view _ _ _ _).trans ?_
    unfold attLse
    rw [← e3]

end Cert.Kernel.Body

end
-- ==== Proof.Bits.While.lean ====
/- The retry loop: the second attempt ends it, the first ends it or is followed by the second. -/
module

public import proofs.«01_k».proof.Proof.Bits.Attempt
public import Idealize.ShloMosaic.Lib.LoopRemainder

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (i : grid0.Coords) (arg16 : Memref sig .tc .vmem S32x2x256 .f32) (harg16 : arg16.IsWhole) (arg6 : Memref sig .tc .vmem S8192x640 .bf16) (harg6 : arg6.IsWhole) (arg1 : Memref sig .tc .vmem S16x576x256 .fp8e4m3) (harg1 : arg1.IsWhole) (arg14 : Memref sig .tc .vmem S16x256 .f32) (harg14 : arg14.IsWhole) (arg15 : Memref sig .tc .vmem S16x256 .f32) (harg15 : arg15.IsWhole) (arg12 : Memref sig .tc .vmem S256x256 .f32) (harg12 : arg12.IsWhole) (arg7 : Memref sig .tc .vmem S8192x128 .fp8e4m3) (harg7 : arg7.IsWhole) (arg4 : Memref sig .tc .vmem S24x128x256 .fp8e4m3) (harg4 : arg4.IsWhole) (arg5 : Memref sig .tc .vmem S24x256 .f32) (harg5 : arg5.IsWhole) (arg13 : Memref sig .tc .vmem S256x256 .f32) (harg13 : arg13.IsWhole)
  (arg8 : Memref sig .tc .vmem S8192x128 .f32) (harg8 : arg8.IsWhole) (arg10 : Memref sig .tc .vmem S1x256 .f32) (harg10 : arg10.IsWhole) (arg9 : Memref sig .tc .vmem S1x256 .f32) (harg9 : arg9.IsWhole) (arg11 : Memref sig .tc .vmem S64x256 .f32) (harg11 : arg11.IsWhole) (arg3 : Memref sig .tc .vmem S16x256 .f32) (harg3 : arg3.IsWhole)

variable (X6 : BufTy.Contents (Elt F) arg6.view.ty) (X1 : BufTy.Contents (Elt F) arg1.view.ty)
    (X14 : BufTy.Contents (Elt F) arg14.view.ty) (X7 : BufTy.Contents (Elt F) arg7.view.ty) (X4 : BufTy.Contents (Elt F) arg4.view.ty)
    (X5 : BufTy.Contents (Elt F) arg5.view.ty) (X8 : BufTy.Contents (Elt F) arg8.view.ty) (X3 : BufTy.Contents (Elt F) arg3.view.ty)

/-- What the loop holds on entry: the blocks it reads, the shifts, and the buffers it writes at any contents. -/
def loopPre (c : Dev nD) (sh : Vec F S16x256 .f32) : sProp (MT nD τ sig Unit (Elt F) ℕ (UR sig nD τ) ℕ) :=
  iprop((arg6.view.loc (c : Thread nD τ) ↦[arg6.view.set]{fullShare} X6) ∗ (arg1.view.loc (c : Thread nD τ) ↦[arg1.view.set]{fullShare} X1) ∗ (arg14.view.loc (c : Thread nD τ) ↦[arg14.view.set]{fullShare} X14) ∗ (arg7.view.loc (c : Thread nD τ) ↦[arg7.view.set]{fullShare} X7) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (arg3.view.loc (c : Thread nD τ) ↦[arg3.view.set]{fullShare} X3) ∗ (∃ f, (arg15.view.loc (c : Thread nD τ) ↦[arg15.view.set]{fullShare} f) ∗ ⌜arg15.view.read (Elt F) f = sh⌝) ∗ (∃ f, arg16.view.loc (c : Thread nD τ) ↦[arg16.view.set]{fullShare} f) ∗ (∃ f, arg12.view.loc (c : Thread nD τ) ↦[arg12.view.set]{fullShare} f) ∗ (∃ f, arg13.view.loc (c : Thread nD τ) ↦[arg13.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f))

/-- What the loop holds at exit: as on entry, the three results at the values given. -/
def loopPost (c : Dev nD) (o9 o10 : Vec F S1x256 .f32) (o11 : Vec F S64x256 .f32) : sProp (MT nD τ sig Unit (Elt F) ℕ (UR sig nD τ) ℕ) :=
  iprop((arg6.view.loc (c : Thread nD τ) ↦[arg6.view.set]{fullShare} X6) ∗ (arg1.view.loc (c : Thread nD τ) ↦[arg1.view.set]{fullShare} X1) ∗ (arg14.view.loc (c : Thread nD τ) ↦[arg14.view.set]{fullShare} X14) ∗ (arg7.view.loc (c : Thread nD τ) ↦[arg7.view.set]{fullShare} X7) ∗ (arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (arg3.view.loc (c : Thread nD τ) ↦[arg3.view.set]{fullShare} X3) ∗ (∃ f, arg15.view.loc (c : Thread nD τ) ↦[arg15.view.set]{fullShare} f) ∗ (∃ f, arg16.view.loc (c : Thread nD τ) ↦[arg16.view.set]{fullShare} f) ∗ (∃ f, arg12.view.loc (c : Thread nD τ) ↦[arg12.view.set]{fullShare} f) ∗ (∃ f, arg13.view.loc (c : Thread nD τ) ↦[arg13.view.set]{fullShare} f) ∗ (∃ f, (arg9.view.loc (c : Thread nD τ) ↦[arg9.view.set]{fullShare} f) ∗ ⌜arg9.view.read (Elt F) f = o9⌝) ∗ (∃ f, (arg10.view.loc (c : Thread nD τ) ↦[arg10.view.set]{fullShare} f) ∗ ⌜arg10.view.read (Elt F) f = o10⌝) ∗ (∃ f, (arg11.view.loc (c : Thread nD τ) ↦[arg11.view.set]{fullShare} f) ∗ ⌜arg11.view.read (Elt F) f = o11⌝))

/-- Entered done, the loop returns. -/
theorem while_done (𝒱 : Variants) (c : Dev nD) (bd : Option 𝒱.V) (E : Set ℕ) (arg17 : BitVec 32)
    (Q : BitVec 32 × BitVec 1 → sProp (MT nD τ sig Unit (Elt F) ℕ (UR sig nD τ) ℕ)) :
    Q (arg17, 1#1) ⊢ wp Idealize.ShloMosaic.frame (wpE (defs₀ (F := F)) 𝒱 (c : Thread nD τ) bd) E
        (cc0_while1 (F := F) i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 1#1) Q := by
  rw [cc0_while1_eq_skeleton]
  unfold cc0_while1_skel
  dsimp only
  rw [if_neg (by decide +kernel)]
  exact le_wp_ret _ _ _ _ _

/-- A call of the loop's label is the loop. -/
theorem while_call (c : Dev nD) (bd : Option ℕ) (E : Set ℕ) (arg17 : BitVec 32) (arg18 : BitVec 1) (v : ℕ) (hv : ∀ u ∈ bd, v < u) {α : Type}
    (k : BitVec 32 × BitVec 1 → Prog (TpuEff nD τ sig (Elt F) (Λ₀ F) .tc) α)
    (Q : α → sProp (MT nD τ sig Unit (Elt F) ℕ (UR sig nD τ) ℕ)) :
    wp Idealize.ShloMosaic.frame (wpE (defs₀ (F := F)) Variants.nat (c : Thread nD τ) (some v)) E
        (cc0_while1 (F := F) i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 arg17 arg18)
        (fun x => wp Idealize.ShloMosaic.frame (wpE (defs₀ (F := F)) Variants.nat (c : Thread nD τ) bd) E (k x) Q)
      ⊢ wp Idealize.ShloMosaic.frame (wpE (defs₀ (F := F)) Variants.nat (c : Thread nD τ) bd) E
        (.op (.call (1 : (Λ₀ F).Label) ⟨i, arg16, harg16, arg6, harg6, arg1, harg1, arg14, harg14, arg15, harg15, arg12, harg12, arg7, harg7, arg4, harg4, arg5, harg5, arg13, harg13, kidx, k0_pay3 i, arg8, harg8, arg10, harg10, arg9, harg9, arg11, harg11, arg3, harg3, arg17, arg18⟩) k) Q :=
  wp_call (defs := defs₀ (F := F)) (Γ := PendingWaitsCtx.empty) (ℓ := (1 : (Λ₀ F).Label)) (a := ⟨i, arg16, harg16, arg6, harg6, arg1, harg1, arg14, harg14, arg15, harg15, arg12, harg12, arg7, harg7, arg4, harg4, arg5, harg5, arg13, harg13, kidx, k0_pay3 i, arg8, harg8, arg10, harg10, arg9, harg9, arg11, harg11, arg3, harg3, arg17, arg18⟩)
    (k := k) (Q := Q) Variants.nat (c : Thread nD τ) bd E v hv

/-- The second attempt, whose totals are not looked at. -/
theorem while_second (c : Dev nD) (E : Set ℕ) (b : Blk F) (sc sh : Vec F S16x256 .f32) (h6 : arg6.view.read _ X6 = b.keys) (h1 : arg1.view.read _ X1 = b.q)
    (h14 : arg14.view.read _ X14 = sc)
    (h7 : arg7.view.read _ X7 = b.ki) (h4 : arg4.view.read _ X4 = b.qi) (h5 : arg5.view.read _ X5 = b.w) (h8 : arg8.view.read _ X8 = b.cols)
    (Q : BitVec 32 × BitVec 1 → sProp (MT nD τ sig Unit (Elt F) ℕ (UR sig nD τ) ℕ)) :
    iprop(loopPre arg16 arg6 arg1 arg14 arg15 arg12 arg7 arg4 arg5 arg13 arg8 arg10 arg9 arg11 arg3 X6 X1 X14 X7 X4 X5 X8 X3 c sh ∗ (∀ r, loopPost arg16 arg6 arg1 arg14 arg15 arg12 arg7 arg4 arg5 arg13 arg8 arg10 arg9 arg11 arg3 X6 X1 X14 X7 X4 X5 X8 X3 c (attKl i b sc sh) (attLse i b sc sh) (attBlk i b sc sh) -∗ Q r))
      ⊢ wp Idealize.ShloMosaic.frame (wpE (defs₀ (F := F)) Variants.nat (c : Thread nD τ) (some 1)) E
        (cc0_while1 (F := F) i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 1#32 0#1) Q := by
  rw [cc0_while1_eq_skeleton]
  unfold cc0_while1_skel loopPre
  dsimp only
  rw [if_pos (by decide +kernel)]
  iintro ⟨⟨H6, H1, H14, H7, H4, H5, H8, H3, ⟨%X15, H15, %h15⟩, ⟨%X16, H16⟩, ⟨%X12, H12⟩, ⟨%X13, H13⟩, ⟨%X9, H9⟩, ⟨%X10, H10⟩, ⟨%X11, H11⟩⟩, Hk⟩
  rw [wp_bind]
  iapply (part33_sound i arg16 harg16 arg6 harg6 arg1 harg1 arg14 harg14 arg15 harg15 arg12 harg12 arg7 harg7 arg4 harg4 arg5 harg5 arg13 harg13 arg8 harg8 arg10 harg10 arg9 harg9 arg11 harg11 arg3 harg3 Variants.nat c _ E _ _ _ X6 X1 X14 X15 X7 X4 X5 X8 X16 X10 X12 X13 b sc sh h6 h1 h14 h15 h7 h4 h5 h8)
  isplitl [H6]; · iexact H6
  isplitl [H1]; · iexact H1
  isplitl [H14]; · iexact H14
  isplitl [H15]; · iexact H15
  isplitl [H7]; · iexact H7
  isplitl [H4]; · iexact H4
  isplitl [H5]; · iexact H5
  isplitl [H8]; · iexact H8
  isplitl [H16]; · iexact H16
  isplitl [H12]; · iexact H12
  isplitl [H13]; · iexact H13
  isplitl [H10]; · iexact H10
  iintro H6 H1 H14 H15 H7 H4 H5 H8 ⟨%Y16, H16⟩ ⟨%Y12, H12⟩ ⟨%Y13, H13⟩ ⟨%Y10, H10, %e10⟩
  unfold attRet
  dsimp only
  sl_exec
  have hor : ∀ g : BitVec 1, Scalar.ori g (Scalar.cmpi .sgt (1#32) 0#32) = 1#1 := by decide
  simp only [hor]
  rw [if_neg (by decide +kernel)]
  simp only [Prog.lift]
  iapply (while_call i arg16 harg16 arg6 harg6 arg1 harg1 arg14 harg14 arg15 harg15 arg12 harg12 arg7 harg7 arg4 harg4 arg5 harg5 arg13 harg13 arg8 harg8 arg10 harg10 arg9 harg9 arg11 harg11 arg3 harg3 c (some 1) E _ _ 0 (fun u hu => by cases hu; exact Nat.lt_succ_self 0))
  iapply (while_done i arg16 harg16 arg6 harg6 arg1 harg1 arg14 harg14 arg15 harg15 arg12 harg12 arg7 harg7 arg4 harg4 arg5 harg5 arg13 harg13 arg8 harg8 arg10 harg10 arg9 harg9 arg11 harg11 arg3 harg3 Variants.nat c (some 0) E)
  rw [wp_ret]
  imodintro
  iapply Hk
  unfold loopPost
  isplitl [H6]; · iexact H6
  isplitl [H1]; · iexact H1
  isplitl [H14]; · iexact H14
  isplitl [H7]; · iexact H7
  isplitl [H4]; · iexact H4
  isplitl [H5]; · iexact H5
  isplitl [H8]; · iexact H8
  isplitl [H3]; · iexact H3
  isplitl [H15]; · iexists _; iexact H15
  isplitl [H16]; · iexists _; iexact H16
  isplitl [H12]; · iexists _; iexact H12
  isplitl [H13]; · iexists _; iexact H13
  isplitl [H9]
  · iexists _; isplitl [H9]; · iexact H9
    ipureintro; exact View.read_writes_full arg9.view _ _ _ _
  isplitl [H10]
  · iexists _; isplitl [H10]; · iexact H10
    ipureintro; exact e10
  iexists _; isplitl [H11]; · iexact H11
  ipureintro; exact View.read_writes_full arg11.view _ _ _ _

/-- The loop from the start. -/
theorem while_first (c : Dev nD) (E : Set ℕ) (b : Blk F) (h6 : arg6.view.read _ X6 = b.keys) (h1 : arg1.view.read _ X1 = b.q)
    (h14 : arg14.view.read _ X14 = sc0 b) (h3 : arg3.view.read _ X3 = b.lse)
    (h7 : arg7.view.read _ X7 = b.ki) (h4 : arg4.view.read _ X4 = b.qi) (h5 : arg5.view.read _ X5 = b.w) (h8 : arg8.view.read _ X8 = b.cols)
    (Q : BitVec 32 × BitVec 1 → sProp (MT nD τ sig Unit (Elt F) ℕ (UR sig nD τ) ℕ)) :
    iprop(loopPre arg16 arg6 arg1 arg14 arg15 arg12 arg7 arg4 arg5 arg13 arg8 arg10 arg9 arg11 arg3 X6 X1 X14 X7 X4 X5 X8 X3 c (sh0 b) ∗ (∀ r, loopPost arg16 arg6 arg1 arg14 arg15 arg12 arg7 arg4 arg5 arg13 arg8 arg10 arg9 arg11 arg3 X6 X1 X14 X7 X4 X5 X8 X3 c (outKl i b) (outLse i b) (outBlk i b) -∗ Q r))
      ⊢ wp Idealize.ShloMosaic.frame (wpE (defs₀ (F := F)) Variants.nat (c : Thread nD τ) (some 2)) E
        (cc0_while1 (F := F) i arg16 harg16 arg6 harg6 arg1 harg1 arg14 harg14 arg15 harg15 arg12 harg12 arg7 harg7 arg4 harg4 arg5 harg5 arg13 harg13 kidx (k0_pay3 i) arg8 harg8 arg10 harg10 arg9 harg9 arg11 harg11 arg3 harg3 0#32 0#1) Q := by
  rw [cc0_while1_eq_skeleton]
  unfold cc0_while1_skel loopPre
  dsimp only
  rw [if_pos (by decide +kernel)]
  iintro ⟨⟨H6, H1, H14, H7, H4, H5, H8, H3, ⟨%X15, H15, %h15⟩, ⟨%X16, H16⟩, ⟨%X12, H12⟩, ⟨%X13, H13⟩, ⟨%X9, H9⟩, ⟨%X10, H10⟩, ⟨%X11, H11⟩⟩, Hk⟩
  rw [wp_bind]
  iapply (part33_sound i arg16 harg16 arg6 harg6 arg1 harg1 arg14 harg14 arg15 harg15 arg12 harg12 arg7 harg7 arg4 harg4 arg5 harg5 arg13 harg13 arg8 harg8 arg10 harg10 arg9 harg9 arg11 harg11 arg3 harg3 Variants.nat c _ E _ _ _ X6 X1 X14 X15 X7 X4 X5 X8 X16 X10 X12 X13 b (sc0 b) (sh0 b) h6 h1 h14 h15 h7 h4 h5 h8)
  isplitl [H6]; · iexact H6
  isplitl [H1]; · iexact H1
  isplitl [H14]; · iexact H14
  isplitl [H15]; · iexact H15
  isplitl [H7]; · iexact H7
  isplitl [H4]; · iexact H4
  isplitl [H5]; · iexact H5
  isplitl [H8]; · iexact H8
  isplitl [H16]; · iexact H16
  isplitl [H12]; · iexact H12
  isplitl [H13]; · iexact H13
  isplitl [H10]; · iexact H10
  iintro H6 H1 H14 H15 H7 H4 H5 H8 ⟨%Y16, H16⟩ ⟨%Y12, H12⟩ ⟨%Y13, H13⟩ ⟨%Y10, H10, %e10⟩
  unfold attRet
  dsimp only
  sl_exec
  by_cases hg : good i b (sc0 b) (sh0 b) = 1#1
  · have hor : Scalar.ori (Scalar.cmpf CmpFPredicate.ogt (k0_pay6 (k0_pay105 (pbEnd i b (sc0 b) (sh0 b)))) (FloatOps.ofBits FTy.f32 0x3F000000#32)) (Scalar.cmpi .sgt (0#32) 0#32) = 1#1 :=
      (show ∀ g : BitVec 1, g = 1#1 → Scalar.ori g (Scalar.cmpi .sgt (0#32) 0#32) = 1#1 by decide) _ hg
    simp only [hor]
    rw [if_neg (by decide +kernel)]
    simp only [Prog.lift]
    iapply (while_call i arg16 harg16 arg6 harg6 arg1 harg1 arg14 harg14 arg15 harg15 arg12 harg12 arg7 harg7 arg4 harg4 arg5 harg5 arg13 harg13 arg8 harg8 arg10 harg10 arg9 harg9 arg11 harg11 arg3 harg3 c (some 2) E _ _ 0 (fun u hu => by cases hu; decide))
    iapply (while_done i arg16 harg16 arg6 harg6 arg1 harg1 arg14 harg14 arg15 harg15 arg12 harg12 arg7 harg7 arg4 harg4 arg5 harg5 arg13 harg13 arg8 harg8 arg10 harg10 arg9 harg9 arg11 harg11 arg3 harg3 Variants.nat c (some 0) E)
    rw [wp_ret]
    imodintro
    iapply Hk
    unfold loopPost
    isplitl [H6]; · iexact H6
    isplitl [H1]; · iexact H1
    isplitl [H14]; · iexact H14
    isplitl [H7]; · iexact H7
    isplitl [H4]; · iexact H4
    isplitl [H5]; · iexact H5
    isplitl [H8]; · iexact H8
    isplitl [H3]; · iexact H3
    isplitl [H15]; · iexists _; iexact H15
    isplitl [H16]; · iexists _; iexact H16
    isplitl [H12]; · iexists _; iexact H12
    isplitl [H13]; · iexists _; iexact H13
    isplitl [H9]
    · iexists _; isplitl [H9]; · iexact H9
      ipureintro; exact (View.read_writes_full arg9.view _ _ _ _).trans (by rw [outKl, shF, if_pos hg]; rfl)
    isplitl [H10]
    · iexists _; isplitl [H10]; · iexact H10
      ipureintro; exact e10.trans (by rw [outLse, shF, if_pos hg])
    iexists _; isplitl [H11]; · iexact H11
    ipureintro; exact (View.read_writes_full arg11.view _ _ _ _).trans (by rw [outBlk, shF, if_pos hg]; rfl)

  · have hor : Scalar.ori (Scalar.cmpf CmpFPredicate.ogt (k0_pay6 (k0_pay105 (pbEnd i b (sc0 b) (sh0 b)))) (FloatOps.ofBits FTy.f32 0x3F000000#32)) (Scalar.cmpi .sgt (0#32) 0#32) = 0#1 :=
      (show ∀ g : BitVec 1, g ≠ 1#1 → Scalar.ori g (Scalar.cmpi .sgt (0#32) 0#32) = 0#1 by decide) _ hg
    simp only [hor]
    rw [if_pos (by decide +kernel)]
    sl_for (fun (k : ℕ) (acc : FVec F S1x256 .f32) => iprop((arg6.view.loc (c : Thread nD τ) ↦[arg6.view.set]{fullShare} X6) ∗ (arg1.view.loc (c : Thread nD τ) ↦[arg1.view.set]{fullShare} X1) ∗ (arg14.view.loc (c : Thread nD τ) ↦[arg14.view.set]{fullShare} X14) ∗ (arg3.view.loc (c : Thread nD τ) ↦[arg3.view.set]{fullShare} X3) ∗ ⌜acc = maxAt i b k⌝)) $$ [H6 H1 H14 H3]
    case region =>
      intro k acc
      iintro ⟨H6, H1, H14, H3, %hacc⟩
      subst hacc
      sl_for (fun (h : ℕ) (acc : FVec F S1x256 .f32) => iprop((arg6.view.loc (c : Thread nD τ) ↦[arg6.view.set]{fullShare} X6) ∗ (arg1.view.loc (c : Thread nD τ) ↦[arg1.view.set]{fullShare} X1) ∗ (arg14.view.loc (c : Thread nD τ) ↦[arg14.view.set]{fullShare} X14) ∗ (arg3.view.loc (c : Thread nD τ) ↦[arg3.view.set]{fullShare} X3) ∗ ⌜acc = maxHeads i b k (maxAt i b k) h⌝)) $$ [H6 H1 H14 H3]
      case region =>
        intro h acc
        iintro ⟨H6, H1, H14, H3, %hacc⟩
        subst hacc
        sl_exec
        sl_step
        isplitl [H6]; · iexact H6
        isplitl [H1]; · iexact H1
        isplitl [H14]; · iexact H14
        isplitl [H3]; · iexact H3
        ipureintro
        rw [maxHeads_succ]
        unfold maxHead
        rw [← h6, ← h1, ← h14, ← h3]
        rfl
      · isplitl [H6]; · iexact H6
        isplitl [H1]; · iexact H1
        isplitl [H14]; · iexact H14
        isplitl [H3]; · iexact H3
        ipureintro; rfl
      iintro %acc ⟨H6, H1, H14, H3, %hacc⟩
      sl_exec
      sl_step
      isplitl [H6]; · iexact H6
      isplitl [H1]; · iexact H1
      isplitl [H14]; · iexact H14
      isplitl [H3]; · iexact H3
      ipureintro
      rw [maxAt_succ]
      exact hacc
    · isplitl [H6]; · iexact H6
      isplitl [H1]; · iexact H1
      isplitl [H14]; · iexact H14
      isplitl [H3]; · iexact H3
      ipureintro; rfl
    iintro %acc ⟨H6, H1, H14, H3, %hacc⟩
    subst hacc
    sl_exec
    iapply (while_call i arg16 harg16 arg6 harg6 arg1 harg1 arg14 harg14 arg15 harg15 arg12 harg12 arg7 harg7 arg4 harg4 arg5 harg5 arg13 harg13 arg8 harg8 arg10 harg10 arg9 harg9 arg11 harg11 arg3 harg3 c (some 2) E _ _ 1 (fun u hu => by cases hu; decide))
    iapply (while_second i arg16 harg16 arg6 harg6 arg1 harg1 arg14 harg14 arg15 harg15 arg12 harg12 arg7 harg7 arg4 harg4 arg5 harg5 arg13 harg13 arg8 harg8 arg10 harg10 arg9 harg9 arg11 harg11 arg3 harg3 X6 X1 X14 X7 X4 X5 X8 X3 c E b (sc0 b) (sh1 i b) h6 h1 h14 h7 h4 h5 h8)
    unfold loopPre
    isplitl [H6 H1 H14 H7 H4 H5 H8 H3 H15 H16 H12 H13 H9 H10 H11]
    · isplitl [H6]; · iexact H6
      isplitl [H1]; · iexact H1
      isplitl [H14]; · iexact H14
      isplitl [H7]; · iexact H7
      isplitl [H4]; · iexact H4
      isplitl [H5]; · iexact H5
      isplitl [H8]; · iexact H8
      isplitl [H3]; · iexact H3
      isplitl [H15]
      · iexists _; isplitl [H15]; · iexact H15
        ipureintro
        refine (View.read_writes_full arg15.view _ _ _ _).trans ?_
        have hl := View.readAt_full arg3.view X3 (off := ![0, 0]) inb_S16x256_S16x256_0_0
        unfold sh1
        rw [← h3, ← hl]
      isplitl [H16]; · iexists _; iexact H16
      isplitl [H12]; · iexists _; iexact H12
      isplitl [H13]; · iexists _; iexact H13
      isplitl [H9]; · iexists _; iexact H9
      isplitl [H10]; · iexists _; iexact H10
      iexists _; iexact H11
    iintro %r HP
    rw [wp_ret]
    imodintro
    iapply Hk
    have e9 : outKl i b = attKl i b (sc0 b) (sh1 i b) := by rw [outKl, shF, if_neg hg]
    have e10 : outLse i b = attLse i b (sc0 b) (sh1 i b) := by rw [outLse, shF, if_neg hg]
    have e11 : outBlk i b = attBlk i b (sc0 b) (sh1 i b) := by rw [outBlk, shF, if_neg hg]
    rw [e9, e10, e11]
    iexact HP

end Cert.Kernel.Body

end
-- ==== Proof.Bits.Frame.lean ====
/- The runs of the whole program: its host operations, then the grid, every point of which runs the body. What the
three results' windows hold after each point is named here, and the arguments end unchanged. -/
module

public import proofs.«01_k».proof.Proof.Gen.Kernel.Launch
public import proofs.«01_k».proof.Proof.Gen.Kernel.Skeleton
public import proofs.«01_k».proof.Proof.Gen.Kernel.Points
public import proofs.«01_k».proof.Proof.Bits.While
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.LoopRemainder

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (show ∀ w : Fin 11, (spec0 w).arr.view.ref ≠ main_arg0 by decide))).trans (V_main_arg0 m c),
      ((h c).2 main_arg1 (Pipeline.mem_restRefs_of main_arg1 (by decide) (show ∀ w : Fin 11, (spec0 w).arr.view.ref ≠ main_arg1 by decide))).trans (V_main_arg1 m c),
      ((h c).2 main_arg2 (Pipeline.mem_restRefs_of main_arg2 (by decide) (show ∀ w : Fin 11, (spec0 w).arr.view.ref ≠ main_arg2 by decide))).trans (V_main_arg2 m c),
      ((h c).2 main_arg3 (Pipeline.mem_restRefs_of main_arg3 (by decide) (show ∀ w : Fin 11, (spec0 w).arr.view.ref ≠ main_arg3 by decide))).trans (V_main_arg3 m c),
      ((h c).2 main_arg4 (Pipeline.mem_restRefs_of main_arg4 (by decide) (show ∀ w : Fin 11, (spec0 w).arr.view.ref ≠ main_arg4 by decide))).trans (V_main_arg4 m c),
      ((h c).2 main_arg5 (Pipeline.mem_restRefs_of main_arg5 (by decide) (show ∀ w : Fin 11, (spec0 w).arr.view.ref ≠ main_arg5 by decide))).trans (V_main_arg5 m c),
      ((h c).2 main_arg6 (Pipeline.mem_restRefs_of main_arg6 (by decide) (show ∀ w : Fin 11, (spec0 w).arr.view.ref ≠ main_arg6 by decide))).trans (V_main_arg6 m c),
      ((h c).2 main_arg7 (Pipeline.mem_restRefs_of main_arg7 (by decide) (show ∀ w : Fin 11, (spec0 w).arr.view.ref ≠ main_arg7 by decide))).trans (V_main_arg7 m c),
      ((h c).2 main_arg8 (Pipeline.mem_restRefs_of main_arg8 (by decide) (show ∀ w : Fin 11, (spec0 w).arr.view.ref ≠ main_arg8 by decide))).trans (V_main_arg8 m c)⟩) h

/-! ## The body -/

/-- The body at any point: from the eight blocks it leaves the three results. -/
theorem sound_kernel (c : Dev nD) (E : Set ℕ) (i : grid0.Coords) (arg1 : Memref sig .tc .vmem S16x576x256 .fp8e4m3) (harg1 : arg1.IsWhole) (arg2 : Memref sig .tc .vmem S16x256 .f32) (harg2 : arg2.IsWhole) (arg3 : Memref sig .tc .vmem S16x256 .f32) (harg3 : arg3.IsWhole) (arg4 : Memref sig .tc .vmem S24x128x256 .fp8e4m3) (harg4 : arg4.IsWhole) (arg5 : Memref sig .tc .vmem S24x256 .f32) (harg5 : arg5.IsWhole) (arg6 : Memref sig .tc .vmem S8192x640 .bf16) (harg6 : arg6.IsWhole) (arg7 : Memref sig .tc .vmem S8192x128 .fp8e4m3) (harg7 : arg7.IsWhole) (arg8 : Memref sig .tc .vmem S8192x128 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S64x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S16x256 .f32) (harg14 : arg14.IsWhole) (arg15 : Memref sig .tc .vmem S16x256 .f32) (harg15 : arg15.IsWhole) (arg16 : Memref sig .tc .vmem S32x2x256 .f32) (harg16 : arg16.IsWhole) (b : Blk F) (Q : PUnit → sProp 𝕄) :
    iprop(owns (c : Thread nD τ) arg1 fullShare b.q ∗ owns (c : Thread nD τ) arg2 fullShare b.qs ∗ owns (c : Thread nD τ) arg3 fullShare b.lse ∗ owns (c : Thread nD τ) arg4 fullShare b.qi ∗ owns (c : Thread nD τ) arg5 fullShare b.w ∗ owns (c : Thread nD τ) arg6 fullShare b.keys ∗ owns (c : Thread nD τ) arg7 fullShare b.ki ∗ owns (c : Thread nD τ) arg8 fullShare b.cols ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ ((owns (c : Thread nD τ) arg1 fullShare b.q ∗ owns (c : Thread nD τ) arg2 fullShare b.qs ∗ owns (c : Thread nD τ) arg3 fullShare b.lse ∗ owns (c : Thread nD τ) arg4 fullShare b.qi ∗ owns (c : Thread nD τ) arg5 fullShare b.w ∗ owns (c : Thread nD τ) arg6 fullShare b.keys ∗ owns (c : Thread nD τ) arg7 fullShare b.ki ∗ owns (c : Thread nD τ) arg8 fullShare b.cols ∗ owns (c : Thread nD τ) arg9 fullShare (outKl i b) ∗ owns (c : Thread nD τ) arg10 fullShare (outLse i b) ∗ owns (c : Thread nD τ) arg11 fullShare (outBlk i b) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X)) -∗ Q ⟨⟩))
      ⊢ wp frame (wpE (defs₀ (F := F)) Variants.nat c none) E (cc0_indexer_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  rw [cc0_indexer_attn_eq_skeleton]
  unfold cc0_indexer_attn_skel owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%Y9, %f9, %h9, H9⟩, ⟨%Y10, %f10, %h10, H10⟩, ⟨%Y11, %f11, %h11, H11⟩, ⟨%Y12, %f12, %h12, H12⟩, ⟨%Y13, %f13, %h13, H13⟩, ⟨%Y14, %f14, %h14, H14⟩, ⟨%Y15, %f15, %h15, H15⟩, ⟨%Y16, %f16, %h16, H16⟩, Hk⟩
  sl_exec
  iapply (while_call i arg16 harg16 arg6 harg6 arg1 harg1 arg14 harg14 arg15 harg15 arg12 harg12 arg7 harg7 arg4 harg4 arg5 harg5 arg13 harg13 arg8 harg8 arg10 harg10 arg9 harg9 arg11 harg11 arg3 harg3 c none E _ _ 2 (fun u hu => by cases hu))
  iapply (while_first i arg16 harg16 arg6 harg6 arg1 harg1 arg14 harg14 arg15 harg15 arg12 harg12 arg7 harg7 arg4 harg4 arg5 harg5 arg13 harg13 arg8 harg8 arg10 harg10 arg9 harg9 arg11 harg11 arg3 harg3 f6 f1 (arg14.view.writes (Elt F) f14 [⟨Rect.unit ![0, 0] S16x256.size inb_S16x256_S16x256_0_0, k0_pay1 (View.readAt (Elt F) arg2.view (Rect.unit ![0, 0] S16x256.size inb_S16x256_S16x256_0_0).toLoadRect f2)⟩]) f7 f4 f5 f8 f3 c E b h6 h1 ?h14 h3 h7 h4 h5 h8)
  case h14 =>
    refine (View.read_writes_full arg14.view _ _ _ _).trans ?_
    have hl := View.readAt_full arg2.view f2 (off := ![0, 0]) inb_S16x256_S16x256_0_0
    unfold sc0
    rw [← h2, ← hl]
  unfold loopPre
  isplitl [H6 H1 H14 H7 H4 H5 H8 H3 H15 H16 H12 H13 H9 H10 H11]
  · isplitl [H6]; · iexact H6
    isplitl [H1]; · iexact H1
    isplitl [H14]; · iexact H14
    isplitl [H7]; · iexact H7
    isplitl [H4]; · iexact H4
    isplitl [H5]; · iexact H5
    isplitl [H8]; · iexact H8
    isplitl [H3]; · iexact H3
    isplitl [H15]
    · iexists _; isplitl [H15]; · iexact H15
      ipureintro
      refine (View.read_writes_full arg15.view _ _ _ _).trans ?_
      have hl := View.readAt_full arg3.view f3 (off := ![0, 0]) inb_S16x256_S16x256_0_0
      unfold sh0
      rw [← h3, ← hl]
    isplitl [H16]; · iexists _; iexact H16
    isplitl [H12]; · iexists _; iexact H12
    isplitl [H13]; · iexists _; iexact H13
    isplitl [H9]; · iexists _; iexact H9
    isplitl [H10]; · iexists _; iexact H10
    iexists _; iexact H11
  iintro %r HP
  unfold loopPost
  icases HP with ⟨H6, H1, H14, H7, H4, H5, H8, H3, ⟨%g15, H15⟩, ⟨%g16, H16⟩, ⟨%g12, H12⟩, ⟨%g13, H13⟩, ⟨%g9, H9, %e9⟩, ⟨%g10, H10, %e10⟩, ⟨%g11, H11, %e11⟩⟩
  sl_exec
  sl_step
  iapply Hk
  isplitl [H1]
  · iexists f1; isplitr [H1]; · ipureintro; exact h1
    iexact H1
  isplitl [H2]
  · iexists f2; isplitr [H2]; · ipureintro; exact h2
    iexact H2
  isplitl [H3]
  · iexists f3; isplitr [H3]; · ipureintro; exact h3
    iexact H3
  isplitl [H4]
  · iexists f4; isplitr [H4]; · ipureintro; exact h4
    iexact H4
  isplitl [H5]
  · iexists f5; isplitr [H5]; · ipureintro; exact h5
    iexact H5
  isplitl [H6]
  · iexists f6; isplitr [H6]; · ipureintro; exact h6
    iexact H6
  isplitl [H7]
  · iexists f7; isplitr [H7]; · ipureintro; exact h7
    iexact H7
  isplitl [H8]
  · iexists f8; isplitr [H8]; · ipureintro; exact h8
    iexact H8
  isplitl [H9]
  · iexists g9; isplitr [H9]; · ipureintro; exact e9
    iexact H9
  isplitl [H10]
  · iexists g10; isplitr [H10]; · ipureintro; exact e10
    iexact H10
  isplitl [H11]
  · iexists g11; isplitr [H11]; · ipureintro; exact e11
    iexact H11
  isplitl [H12]
  · iexists (arg12.view.read (Elt F) g12), g12; isplitr [H12]; · ipureintro; rfl
    iexact H12
  isplitl [H13]
  · iexists (arg13.view.read (Elt F) g13), g13; isplitr [H13]; · ipureintro; rfl
    iexact H13
  isplitl [H14]
  · iexists (arg14.view.read (Elt F) (arg14.view.writes (Elt F) f14 [⟨Rect.unit ![0, 0] S16x256.size inb_S16x256_S16x256_0_0, k0_pay1 (View.readAt (Elt F) arg2.view (Rect.unit ![0, 0] S16x256.size inb_S16x256_S16x256_0_0).toLoadRect f2)⟩])), (arg14.view.writes (Elt F) f14 [⟨Rect.unit ![0, 0] S16x256.size inb_S16x256_S16x256_0_0, k0_pay1 (View.readAt (Elt F) arg2.view (Rect.unit ![0, 0] S16x256.size inb_S16x256_S16x256_0_0).toLoadRect f2)⟩]); isplitr [H14]; · ipureintro; rfl
    iexact H14
  isplitl [H15]
  · iexists (arg15.view.read (Elt F) g15), g15; isplitr [H15]; · ipureintro; rfl
    iexact H15
  iexists (arg16.view.read (Elt F) g16), g16; isplitr [H16]; · ipureintro; rfl
  iexact H16

/-! ## The proof data -/

/-- The blocks the body reads at point `t`. -/
def blkAt (c : Dev nD) (t : Fin (cfg0 (F := F)).N) : Blk F where
  q := iblk m c 0 t
  qs := iblk m c 1 t
  lse := iblk m c 2 t
  qi := iblk m c 3 t
  w := iblk m c 4 t
  keys := iblk m c 5 t
  ki := iblk m c 6 t
  cols := iblk m c 7 t

/-- The arrays as the region finds them; after each point an input's buffer at its block, a result's at what the body
    computes from the blocks. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outKl (grid0.coords t) (blkAt m c t)
    | ⟨9, _⟩ => outLse (grid0.coords t) (blkAt m c t)
    | ⟨10, _⟩ => outBlk (grid0.coords t) (blkAt m c t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = iblk m c 6 t := by dsimp only [dats]; rfl
theorem after0_7 (c : Dev nD) (t : Fin (cfg0 (F := F)).N) : (dats m 0 c).after 7 t = iblk m c 7 t := by dsimp only [dats]; rfl
theorem after0_8 (c : Dev nD) (t : Fin (cfg0 (F := F)).N) : (dats m 0 c).after 8 t = outKl (grid0.coords t) (blkAt m c t) := by dsimp only [dats]; rfl
theorem after0_9 (c : Dev nD) (t : Fin (cfg0 (F := F)).N) : (dats m 0 c).after 9 t = outLse (grid0.coords t) (blkAt m c t) := by dsimp only [dats]; rfl
theorem after0_10 (c : Dev nD) (t : Fin (cfg0 (F := F)).N) : (dats m 0 c).after 10 t = outBlk (grid0.coords t) (blkAt m c t) := by dsimp only [dats]; rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d
theorem before0_6 (c : Dev nD) (t : Fin (cfg0 (F := F)).N) (d) : (dats m 0 c).before 6 t d = iblk m c 6 t :=
  before0_6_of m (dats m 0 c) (A_eq m c 6) (after0_6 m c) t d
theorem before0_7 (c : Dev nD) (t : Fin (cfg0 (F := F)).N) (d) : (dats m 0 c).before 7 t d = iblk m c 7 t :=
  before0_7_of m (dats m 0 c) (A_eq m c 7) (after0_7 m c) t d
/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 2000000 in
/-- The body at any point: the inputs' buffers hold their blocks and the five scratch buffers come out of the invariant. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10]
  unfold Pipeline.ΦA
  rw [scopedRest0_eq]
  simp only [← owns_whole]
  iintro ⟨⟨⟨⟨%s0, S0⟩, ⟨%s1, S1⟩, ⟨%s2, S2⟩, ⟨%s3, S3⟩, ⟨%s4, S4⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ _ _ _ _ _ _ _ _ _ _ (blkAt m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexists _; iexact S0
  isplitl [S1]; · iexists _; iexact S1
  isplitl [S2]; · iexists _; iexact S2
  isplitl [S3]; · iexists _; iexact S3
  isplitl [S4]; · iexists _; iexact S4
  iintro ⟨H0, H1, H2, H3, H4, H5, H6, H7, H8, H9, H10, ⟨%r0, S0⟩, ⟨%r1, S1⟩, ⟨%r2, S2⟩, ⟨%r3, S3⟩, ⟨%r4, S4⟩⟩
  isplitl [S0 S1 S2 S3 S4 Hp]
  · isplitl [S0 S1 S2 S3 S4]
    · isplitl [S0]; · iexists _; iexact S0
      isplitl [S1]; · iexists _; iexact S1
      isplitl [S2]; · iexists _; iexact S2
      isplitl [S3]; · iexists _; iexact S3
      iexists _; iexact S4
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame (Q' := _) (cfgs (F := F)) (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost (cfgs (F := F)) (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- Every run ends with the arguments as given and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Body

end
-- ==== Proof.Math.lean ====
/- Extended-real facts behind the two value claims: powers of two against a shifted maximum, a softmax denominator carried over tiles
   with its running integer maximum, and block sums divided by their total. No shapes and no programs. -/
module

public import Idealize.ShloMosaic.PureOps.Ideal
public import Idealize.ShloMosaic.PureOps.Ideal.Laws

@[expose] public section

noncomputable section

namespace Cert.Maths

open Idealize.ShloMosaic

/-- The least integer at or above, the infinities fixed. -/
abbrev ceilE (x : EReal) : EReal := Ideal.liftRound Int.ceil x

theorem exp2_nonneg (x : EReal) : 0 ≤ Ideal.exp2 x := by
  induction x with
  | bot => simp
  | top => simp
  | coe r => simp only [Ideal.exp2_coe]; exact_mod_cast (Real.rpow_pos_of_pos (by norm_num) r).le

theorem bot_sub' (x : EReal) : (⊥ : EReal) - x = ⊥ := EReal.bot_sub _

theorem ceilE_bot : ceilE ⊥ = ⊥ := rfl
theorem ceilE_top : ceilE ⊤ = ⊤ := rfl
theorem ceilE_coe (r : ℝ) : ceilE (r : EReal) = ((⌈r⌉ : ℝ) : EReal) := rfl

theorem le_ceilE (x : EReal) : x ≤ ceilE x := by
  induction x with
  | bot => exact bot_le
  | top => exact le_of_eq ceilE_top.symm
  | coe r => rw [ceilE_coe]; exact_mod_cast Int.le_ceil r

theorem ceilE_mono : Monotone ceilE := by
  intro x y h
  induction x with
  | bot => exact bot_le
  | top => obtain rfl := top_le_iff.mp h; exact le_rfl
  | coe r =>
    induction y with
    | bot => simp at h
    | top => exact le_top
    | coe q => rw [ceilE_coe, ceilE_coe]; exact_mod_cast Int.ceil_mono (by exact_mod_cast h)

theorem ceilE_max (x y : EReal) : ceilE (max x y) = max (ceilE x) (ceilE y) := ceilE_mono.map_max

/-- Rescaling a power of two from one upper bound to a larger one. -/
theorem exp2_rescale (s m n : EReal) (h1 : s ≤ m) (h2 : m ≤ n) :
    Ideal.exp2 (s - m) * Ideal.exp2 (m - n) = Ideal.exp2 (s - n) := by
  induction m with
  | bot => obtain rfl := le_bot_iff.mp h1; simp
  | top => obtain rfl := top_le_iff.mp h2; simp
  | coe r =>
    induction s with
    | bot => simp
    | top => simp at h1
    | coe q =>
      induction n with
      | bot => simp at h2
      | top => simp
      | coe p =>
        simp only [← EReal.coe_sub, Ideal.exp2_coe, ← EReal.coe_mul]
        congr 1
        show (2 : ℝ) ^ (q - r) * (2 : ℝ) ^ (r - p) = (2 : ℝ) ^ (q - p)
        rw [← Real.rpow_add (by norm_num)]; congr 1; ring

/-- A nonnegative sum times anything. -/
theorem sum_mul {ι : Type*} (S : Finset ι) (f : ι → EReal) (hf : ∀ i ∈ S, 0 ≤ f i) (c : EReal) :
    (∑ i ∈ S, f i) * c = ∑ i ∈ S, f i * c := by
  classical
  induction S using Finset.induction_on with
  | empty => simp
  | insert a T ha ih =>
    rw [Finset.sum_insert ha, Finset.sum_insert ha, EReal.right_distrib_of_nonneg (hf a (Finset.mem_insert_self a T))
      (Finset.sum_nonneg fun i hi => hf i (Finset.mem_insert_of_mem hi)), ih fun i hi => hf i (Finset.mem_insert_of_mem hi)]

/-! ### The denominator carried over tiles -/

variable (s : ℕ → EReal)

/-- The greatest of the first `n` keys' logits. -/
def top (n : ℕ) : EReal := (Finset.range n).sup s

/-- The denominator of the first `n` keys against the integer maximum of the same keys. -/
def den (n : ℕ) : EReal := ∑ k ∈ Finset.range n, Ideal.exp2 (s k - ceilE (top s n))

theorem top_add (n m : ℕ) : top s (n + m) = max (top s n) (Finset.univ.sup fun j : Fin m => s (n + j.val)) := by
  apply le_antisymm
  · refine Finset.sup_le fun k hk => ?_
    rcases lt_or_ge k n with h | h
    · exact le_max_of_le_left (Finset.le_sup (f := s) (Finset.mem_range.mpr h))
    · have hk' := Finset.mem_range.mp hk
      refine le_max_of_le_right ?_
      have := Finset.le_sup (f := fun j : Fin m => s (n + j.val)) (Finset.mem_univ ⟨k - n, by omega⟩)
      simpa [Nat.add_sub_cancel' h] using this
  · refine max_le (Finset.sup_mono (fun k hk => ?_)) (Finset.sup_le fun j _ => ?_)
    · have := Finset.mem_range.mp hk; exact Finset.mem_range.mpr (by omega)
    · exact Finset.le_sup (f := s) (Finset.mem_range.mpr (by omega))

theorem den_add (n m : ℕ) : den s (n + m)
    = den s n * Ideal.exp2 (ceilE (top s n) - ceilE (top s (n + m)))
      + ∑ j : Fin m, Ideal.exp2 (s (n + j.val) - ceilE (top s (n + m))) := by
  unfold den
  rw [Finset.sum_range_add, sum_mul _ _ (fun _ _ => exp2_nonneg _)]
  congr 1
  · refine Finset.sum_congr rfl fun k hk => (exp2_rescale _ _ _ ?_ ?_).symm
    · exact (Finset.le_sup (f := s) hk).trans (le_ceilE _)
    · exact ceilE_mono (by rw [top_add]; exact le_max_left _ _)
  · exact Finset.sum_range fun j => Ideal.exp2 (s (n + j) - ceilE (top s (n + m)))

/-- Keys at minus infinity add nothing. -/
theorem top_extend' (n m : ℕ) (h : ∀ k, n ≤ k → k < n + m → s k = ⊥) : top s (n + m) = top s n := by
  rw [top_add]
  refine max_eq_left (Finset.sup_le fun j _ => ?_)
  rw [h _ (by omega) (by omega)]; exact bot_le

theorem den_extend' (n m : ℕ) (h : ∀ k, n ≤ k → k < n + m → s k = ⊥) : den s (n + m) = den s n := by
  unfold den
  rw [Finset.sum_range_add, top_extend' s n m h, Finset.sum_eq_zero (s := Finset.range m), add_zero]
  intro k hk
  have := Finset.mem_range.mp hk
  rw [h _ (by omega) (by omega), bot_sub', Ideal.exp2_bot]

/-! ### Block sums over their total -/

/-- The total, or one where it is zero. -/
def safe (t : EReal) : EReal := if t = 0 then 1 else t

theorem safe_ne_zero (t : EReal) : safe t ≠ 0 := by unfold safe; split <;> simp_all

theorem div_safe (x t : EReal) : Ideal.div x (safe t) = x * (safe t)⁻¹ := by
  unfold Ideal.div; rw [if_neg (safe_ne_zero t)]

variable {K B : Type} [Fintype K] [Fintype B]

/-- A block's sum over the total of all keys. -/
def ratio (P : K → EReal) (e : B → K) : EReal := (∑ j, P (e j)) * (safe (∑ k, P k))⁻¹

theorem ratio_zero (P : K → EReal) (e : B → K) (h : ∀ k, P k = 0) : ratio P e = 0 := by
  simp [ratio, h]

theorem ratio_top (P : K → EReal) (e : B → K) (h : ∑ k, P k = ⊤) : ratio P e = 0 := by
  simp [ratio, h, safe]

theorem sum_top (P : K → EReal) (h0 : ∀ k, 0 ≤ P k) (k : K) (h : P k = ⊤) : ∑ k, P k = ⊤ :=
  top_le_iff.mp (h ▸ Finset.single_le_sum (fun i _ => h0 i) (Finset.mem_univ k))

theorem ratio_extreme (P : K → EReal) (e : B → K) (h : ∀ k, P k = 0 ∨ P k = ⊤) : ratio P e = 0 := by
  by_cases hz : ∀ k, P k = 0
  · exact ratio_zero P e hz
  · push Not at hz
    obtain ⟨k, hk⟩ := hz
    exact ratio_top P e (sum_top P (fun k => by rcases h k with h | h <;> simp [h]) k ((h k).resolve_left hk))

/-- A common positive real factor cancels. -/
theorem ratio_scale (P : K → EReal) (e : B → K) (h0 : ∀ k, 0 ≤ P k) (c : ℝ) (hc : 0 < c) :
    ratio (fun k => P k * (c : EReal)) e = ratio P e := by
  by_cases hP : ∀ k, P k = 0
  · rw [ratio_zero P e hP]; exact ratio_zero _ e fun k => by simp [hP k]
  · have hz : ∑ k, P k ≠ 0 := fun hz => hP fun k =>
      (Finset.sum_eq_zero_iff_of_nonneg (fun i _ => h0 i)).mp hz k (Finset.mem_univ k)
    have ht : 0 ≤ ∑ k, P k := Finset.sum_nonneg fun i _ => h0 i
    have hm : (∑ k, P k) * (c : EReal) = ∑ k, P k * (c : EReal) := sum_mul _ _ (fun i _ => h0 _) _
    have hm' : (∑ j, P (e j)) * (c : EReal) = ∑ j, P (e j) * (c : EReal) := sum_mul _ _ (fun i _ => h0 _) _
    unfold ratio
    rw [← hm, ← hm']
    generalize (∑ j, P (e j)) = S
    generalize (∑ k, P k) = T at hz ht
    have hc0 : (c : EReal) ≠ 0 := by exact_mod_cast hc.ne'
    rw [safe, safe, if_neg hz, if_neg (mul_ne_zero hz hc0)]
    induction T with
    | bot => simp at ht
    | top => rw [EReal.top_mul_coe_of_pos hc]; simp
    | coe t =>
      have ht0 : t ≠ 0 := by exact_mod_cast hz
      rw [← EReal.coe_mul, ← EReal.coe_inv, ← EReal.coe_inv, mul_assoc, ← EReal.coe_mul]
      congr 2; field_simp

/-- Powers of two against a real shift. -/
theorem exp2_sub_coe (x : EReal) (c : ℝ) : Ideal.exp2 (x - (c : EReal)) = Ideal.exp2 x * (((2 : ℝ) ^ (-c) : ℝ) : EReal) := by
  have hp : (0 : ℝ) < (2 : ℝ) ^ (-c) := Real.rpow_pos_of_pos (by norm_num) _
  induction x with
  | bot => simp
  | top => rw [EReal.top_sub_coe, Ideal.exp2_top, EReal.top_mul_coe_of_pos hp]
  | coe r =>
    rw [← EReal.coe_sub, Ideal.exp2_coe, Ideal.exp2_coe, ← EReal.coe_mul]
    congr 1
    show (2 : ℝ) ^ (r - c) = (2 : ℝ) ^ r * (2 : ℝ) ^ (-c)
    rw [← Real.rpow_add (by norm_num)]; rfl

variable {H : Type} [Fintype H]

/-- One key's sum over the heads, at shifts `sh`. -/
def headSum (A : H → K → EReal) (vis : K → Prop) [DecidablePred vis] (sh : H → EReal) (k : K) : EReal :=
  if vis k then ∑ h, Ideal.exp2 (A h k - sh h) else 0

/-- The masked exponents. -/
def masked (A : H → K → EReal) (vis : K → Prop) [DecidablePred vis] (l : H → EReal) (h : H) (k : K) : EReal :=
  if vis k then A h k - l h else ⊥

/-- One key's sum over the heads of the masked exponents, against a common maximum. -/
def refSum (A : H → K → EReal) (vis : K → Prop) [DecidablePred vis] (l : H → EReal) (mt : EReal) (k : K) : EReal :=
  ∑ h, Ideal.exp2 (masked A vis l h k - mt)

variable (A : H → K → EReal) (vis : K → Prop) [DecidablePred vis] (l : H → EReal)

theorem headSum_nonneg (sh : H → EReal) (k : K) : 0 ≤ headSum A vis sh k := by
  unfold headSum; split
  · exact Finset.sum_nonneg fun _ _ => exp2_nonneg _
  · exact le_rfl

/-- The first shifts against the maximum. -/
theorem ratio_first (mt : EReal) (hmt : mt = ceilE (Finset.univ.sup fun h => Finset.univ.sup fun k => masked A vis l h k)) (e : B → K) :
    ratio (headSum A vis l) e = ratio (refSum A vis l mt) e := by
  have hs : headSum A vis l = fun k => ∑ h, Ideal.exp2 (masked A vis l h k) := by
    funext k; unfold headSum masked; split <;> simp
  generalize hM : (Finset.univ.sup fun h => Finset.univ.sup fun k => masked A vis l h k) = M at hmt
  have hle : ∀ h k, masked A vis l h k ≤ M := fun h k => hM ▸
    (Finset.le_sup (f := fun k => masked A vis l h k) (Finset.mem_univ k)).trans
      (Finset.le_sup (f := fun h => Finset.univ.sup fun k => masked A vis l h k) (Finset.mem_univ h))
  induction M with
  | bot =>
    rw [hs, ratio_zero _ _ fun k => Finset.sum_eq_zero fun h _ => by rw [le_bot_iff.mp (hle h k)]; rfl,
      ratio_zero (refSum A vis l mt) e fun k => Finset.sum_eq_zero fun h _ => by rw [le_bot_iff.mp (hle h k)]; simp]
  | top =>
    rw [ratio_zero (refSum A vis l mt) e fun k => Finset.sum_eq_zero fun h _ => by rw [hmt, ceilE_top]; simp]
    have : ∃ h k, masked A vis l h k = ⊤ := by
      by_contra hn
      push Not at hn
      refine absurd hM (ne_of_lt ?_)
      rw [Finset.sup_lt_iff bot_lt_top]
      intro h _
      rw [Finset.sup_lt_iff bot_lt_top]
      exact fun k _ => lt_top_iff_ne_top.mpr (hn h k)
    obtain ⟨h, k, hk⟩ := this
    refine ratio_top _ _ (sum_top _ (headSum_nonneg A vis l) k ?_)
    rw [hs]
    exact sum_top _ (fun _ => exp2_nonneg _) h (by rw [hk]; rfl)
  | coe r =>
    rw [ceilE_coe] at hmt
    have : refSum A vis l mt = fun k => headSum A vis l k * (((2 : ℝ) ^ (-((⌈r⌉ : ℤ) : ℝ)) : ℝ) : EReal) := by
      funext k
      rw [hs]
      show _ = (∑ h, _) * _
      rw [sum_mul _ _ fun _ _ => exp2_nonneg _]
      exact Finset.sum_congr rfl fun h _ => by rw [hmt, exp2_sub_coe]
    rw [this, ratio_scale _ _ (headSum_nonneg A vis l) _ (Real.rpow_pos_of_pos (by norm_num) _)]

/-- The shifts raised by the maximum against the maximum. -/
theorem ratio_second (mt : EReal) (hmt : mt = ceilE (Finset.univ.sup fun h => Finset.univ.sup fun k => masked A vis l h k)) (e : B → K) :
    ratio (headSum A vis fun h => l h + mt) e = ratio (refSum A vis l mt) e := by
  generalize hM : (Finset.univ.sup fun h => Finset.univ.sup fun k => masked A vis l h k) = M at hmt
  have hle : ∀ h k, masked A vis l h k ≤ M := fun h k => hM ▸
    (Finset.le_sup (f := fun k => masked A vis l h k) (Finset.mem_univ k)).trans
      (Finset.le_sup (f := fun h => Finset.univ.sup fun k => masked A vis l h k) (Finset.mem_univ h))
  have hex : (∀ h k, Ideal.exp2 (A h k - (l h + mt)) = 0 ∨ Ideal.exp2 (A h k - (l h + mt)) = ⊤) →
      ratio (headSum A vis fun h => l h + mt) e = 0 := fun hx => by
    refine ratio_extreme _ _ fun k => ?_
    unfold headSum; split
    · by_cases hz : ∀ h, Ideal.exp2 (A h k - (l h + mt)) = 0
      · exact .inl (Finset.sum_eq_zero fun h _ => hz h)
      · push Not at hz
        obtain ⟨h, hh⟩ := hz
        exact .inr (sum_top (fun h => Ideal.exp2 (A h k - (l h + mt))) (fun _ => exp2_nonneg _) h ((hx h k).resolve_left hh))
    · exact .inl rfl
  have htb : ∀ x : EReal, Ideal.exp2 (x - ⊥) = 0 ∨ Ideal.exp2 (x - ⊥) = ⊤ := fun x => by
    induction x with
    | bot => exact .inl (by simp)
    | top => exact .inr (by simp)
    | coe r => exact .inr (by simp)
  induction M with
  | bot =>
    rw [ceilE_bot] at hmt
    rw [ratio_zero (refSum A vis l mt) e fun k => Finset.sum_eq_zero fun h _ => by rw [le_bot_iff.mp (hle h k)]; simp]
    refine hex fun h k => ?_
    rw [hmt, EReal.add_bot]; exact htb _
  | top =>
    rw [ceilE_top] at hmt
    rw [ratio_zero (refSum A vis l mt) e fun k => Finset.sum_eq_zero fun h _ => by rw [hmt]; simp]
    refine hex fun h k => ?_
    rw [hmt]
    by_cases hl : l h = ⊥
    · rw [hl, EReal.bot_add]; exact htb _
    · rw [EReal.add_top_of_ne_bot hl]; exact .inl (by simp)
  | coe r =>
    rw [ceilE_coe] at hmt
    congr 1
    funext k
    unfold headSum refSum masked
    split
    · refine Finset.sum_congr rfl fun h _ => ?_
      congr 1
      rw [hmt]
      generalize ((⌈r⌉ : ℤ) : ℝ) = c
      rw [sub_eq_add_neg, EReal.neg_add (.inr (by simp)) (.inr (by simp)), sub_eq_add_neg, sub_eq_add_neg, sub_eq_add_neg, add_assoc]
    · exact (Finset.sum_eq_zero fun h _ => by simp).symm

/-! ### Scales taken out of the rectified scores -/

theorem relu_scale (w z qs ks : EReal) (hq : 0 ≤ qs) (hk : 0 ≤ ks) :
    w * max (z * qs * ks) 0 = w * qs * max z 0 * ks := by
  have : max (z * qs * ks) 0 = max z 0 * (qs * ks) := by
    rw [mul_assoc]
    have h : 0 ≤ qs * ks := mul_nonneg hq hk
    rcases le_total z 0 with hz | hz
    · rw [max_eq_right hz, zero_mul, max_eq_right]
      exact EReal.mul_nonpos_iff.mpr (.inr ⟨hz, h⟩)
    · rw [max_eq_left hz, max_eq_left (mul_nonneg hz h)]
  rw [this]; ac_rfl

/-- A finite nonnegative factor goes into a sum of any signs. -/
theorem sum_mul_coe {ι : Type*} (S : Finset ι) (f : ι → EReal) (c : EReal) (hc : 0 ≤ c) (hc' : c < ⊤) :
    (∑ i ∈ S, f i) * c = ∑ i ∈ S, f i * c := by
  classical
  induction S using Finset.induction_on with
  | empty => simp
  | insert a T ha ih =>
    rw [Finset.sum_insert ha, Finset.sum_insert ha, EReal.right_distrib_of_nonneg_of_ne_top hc hc'.ne, ih]

end Cert.Maths

end
-- ==== Proof.Spec.lean ====
/- The two results at one query as plain sums: the probabilities' block sums over their total, and the index heads' log-sum-exp. -/
module

public import proofs.«01_k».proof.Proof.Math

@[expose] public section

noncomputable section

namespace Cert.Maths

open Idealize.ShloMosaic

/-- The main scores' scale, the base-two logarithm of e, the natural logarithm of two, and two: each the constant's own value. -/
abbrev cScale : EReal := Ideal.ofBits FTy.f32 1037384597#32
abbrev cLog2e : EReal := Ideal.ofBits FTy.f32 1069066811#32
abbrev cLn2 : EReal := Ideal.ofBits FTy.f32 1060205080#32
abbrev cTwo : EReal := Ideal.ofBits FTy.f32 1073741824#32

theorem negInf : Ideal.ofBits FTy.f32 4286578688#32 = ⊥ := by
  simp [Ideal.ofBits, Ideal.ieee]

/-- Key `k`, for any number below the sequence length. -/
def key (k : ℕ) : Fin 8192 := ⟨k % 8192, Nat.mod_lt _ (by norm_num)⟩

theorem key_val (k : Fin 8192) : key k.val = k := Fin.ext (Nat.mod_eq_of_lt k.isLt)
theorem key_of_lt {k : ℕ} (h : k < 8192) : key k = ⟨k, h⟩ := Fin.ext (Nat.mod_eq_of_lt h)

/-- Key `j` of block `c`. -/
def blkKey (c : Fin 64) (j : Fin 128) : Fin 8192 := ⟨c.val * 128 + j.val, by omega⟩

/-- The keys are the blocks' keys. -/
theorem sum_blocks (P : Fin 8192 → EReal) : ∑ c : Fin 64, ∑ j : Fin 128, P (blkKey c j) = ∑ k, P k := by
  rw [← Fintype.sum_prod_type' (fun c j => P (blkKey c j))]
  refine Fintype.sum_equiv (finProdFinEquiv (m := 64) (n := 128)) _ _ fun x => congrArg P (Fin.ext ?_)
  show x.1.val * 128 + x.2.val = x.2.val + 128 * x.1.val
  omega

theorem fold_max_bot {ι : Type} [Fintype ι] (f : ι → EReal) : Finset.fold max ⊥ f Finset.univ = Finset.univ.sup f := rfl

theorem sup_key (f : Fin 8192 → EReal) : Finset.univ.sup f = top (fun k => f (key k)) 8192 := by
  apply le_antisymm
  · refine Finset.sup_le fun k _ => ?_
    have := Finset.le_sup (f := fun k => f (key k)) (Finset.mem_range.mpr k.isLt)
    rw [key_val] at this; exact this
  · exact Finset.sup_le fun k _ => Finset.le_sup (f := f) (Finset.mem_univ (key k))

theorem sum_key (f : Fin 8192 → EReal) : ∑ k, f k = ∑ k ∈ Finset.range 8192, f (key k) := by
  rw [Finset.sum_range]; exact Finset.sum_congr rfl fun k _ => by rw [key_val]

theorem den_key (f : Fin 8192 → EReal) :
    den (fun k => f (key k)) 8192 = ∑ k, Ideal.exp2 (f k - ceilE (Finset.univ.sup f)) := by
  rw [sum_key, sup_key]; rfl

variable (Kf : Fin 8192 → Fin 576 → EReal) (Qf : Fin 16 → Fin 576 → EReal) (qs ls : Fin 16 → EReal) (Y : ℕ)

/-- One head's scaled score of one key. -/
def mainScore (h : Fin 16) (k : Fin 8192) : EReal := (∑ d, Kf k d * Qf h d) * qs h * cScale
/-- One head's log-sum-exp to base two. -/
def mainShift (h : Fin 16) : EReal := ls h * cLog2e
/-- The integer maximum of the masked exponents over heads and keys. -/
def mainMax : EReal := ceilE (Finset.univ.sup fun h => Finset.univ.sup fun k =>
  masked (mainScore Kf Qf qs) (fun k : Fin 8192 => k.val ≤ Y) (mainShift ls) h k)
/-- One key block's share of the probabilities. -/
def pBlock (c : Fin 64) : EReal :=
  ratio (refSum (mainScore Kf Qf qs) (fun k : Fin 8192 => k.val ≤ Y) (mainShift ls) (mainMax Kf Qf qs ls Y)) (blkKey c)

variable (Ki : Fin 8192 → Fin 128 → EReal) (Qi : Fin 24 → Fin 128 → EReal) (wq : Fin 24 → EReal) (ks : Fin 8192 → EReal)

/-- One key's masked index logit to base two. -/
def idxLogit (k : Fin 8192) : EReal := if k.val ≤ Y then (∑ h, wq h * max (∑ d, Ki k d * Qi h d) 0) * ks k * cLog2e else ⊥
/-- A log-sum-exp from its integer maximum and its denominator. -/
def lseOf (M D : EReal) : EReal := cLn2 * (M + Ideal.div (Ideal.log D) (Ideal.log cTwo))
/-- The index heads' log-sum-exp. -/
def lseI : EReal :=
  lseOf (ceilE (top (fun k => idxLogit Y Ki Qi wq ks (key k)) 8192)) (den (fun k => idxLogit Y Ki Qi wq ks (key k)) 8192)

end Cert.Maths

end
-- ==== Proof.KerPoint.lean ====
/- The attention body's blocks at a point: each step of the body's own order of operations read at one key and one query. -/
module

public import proofs.«01_k».proof.Proof.Model
public import proofs.«01_k».proof.Proof.Spec
public import Idealize.ShloMosaic.Lib.Pipeline.ValueKit
public import Idealize.ShloMosaic.Lib.Tactic.WordOmega

@[expose] public section

set_option maxRecDepth 16384

noncomputable section

namespace Cert.KernelIdeal.Body

open Cert.KernelIdeal Cert.KernelIdeal.Gen Cert.Maths
open Idealize.ShloMosaic Idealize.ShloMosaic.TcCoe

theorem headExp_apply (kt : Vec Ideal S256x576 .bf16) (q : Vec Ideal S1x576x256 .fp8e4m3) (sc sh : Vec Ideal S1x256 .f32) (j y : Fin 256) :
    headExp kt q sc sh (ix2 j y) = Ideal.exp2 ((∑ d, kt (ix2 j d) * q (ix3 0 d y)) * sc (ix2 0 y) - sh (ix2 0 y)) := by
  pointwise [headExp, headScore]
  rfl

theorem idxHead_apply (kt : Vec Ideal S256x128 .fp8e4m3) (q : Vec Ideal S1x128x256 .fp8e4m3) (w : Vec Ideal S1x256 .f32) (j y : Fin 256) :
    idxHead kt q w (ix2 j y) = w (ix2 0 y) * max (∑ d, kt (ix2 j d) * q (ix3 0 d y)) 0 := by
  pointwise [idxHead]

/-- A sum of blocks added up from zero in order, at a point. -/
theorem foldl_addf_apply {n : ℕ} (f : Fin n → FVec Ideal S256x256 .f32) (x : S256x256.Idx) :
    (List.finRange n).foldl (fun a h => addf a (f h)) (broadcast S256x256 (Scalar.ofBits .f32 0x00000000#32 : Ideal .f32)) x = ∑ h, f h x := by
  have key : ∀ (L : List (Fin n)) (a : FVec Ideal S256x256 .f32), L.foldl (fun a h => addf a (f h)) a x = a x + (L.map fun h => f h x).sum := by
    intro L
    induction L with
    | nil => intro a; exact (add_zero _).symm
    | cons h L ih => intro a; rw [List.foldl_cons, ih, List.map_cons, List.sum_cons, ← add_assoc]; rfl
  rw [key]
  have hz : (broadcast S256x256 (Scalar.ofBits .f32 0x00000000#32 : Ideal .f32) : FVec Ideal S256x256 .f32) x = 0 := by
    pointwise []
  rw [hz, zero_add, ← List.ofFn_eq_map, List.sum_ofFn]

theorem pay52_apply (mx : FVec Ideal S1x256 .f32) (v : FVec Ideal S256x256 .f32) (y : Fin 256) :
   (maximumf mx (ceil (shapeCast S1x256 (multiReduction .maximumf [0] S256 v 0xFF800000#32 reduces_S256x256_S256 (.inl rfl) rfl : FVec Ideal S256 .f32) shapeCasts_S256_S1x256 : FVec Ideal S1x256 .f32)) : FVec Ideal S1x256 .f32) (ix2 0 y)
     = max (mx (ix2 0 y)) (ceilE (Finset.univ.sup fun j => v (ix2 j y))) := by
  rw [← fold_max_bot, ← negInf]
  pointwise []

theorem pay51_apply (m : IVec S256x256 1) (cols : Vec Ideal S256x128 .f32) (l : Vec Ideal S256x256 .f32) (j y : Fin 256) (c : EReal)
    (hc : ∀ x, cols (ix2 j x) = c) :
    k0_pay51 m cols l (ix2 j y) = Scalar.select (m (ix2 j y)) (l (ix2 j y) * c * cLog2e) ⊥ := by
  rw [← negInf]
  pointwise [k0_pay51, k0_pay47]
  simp only [hc, dite_eq_ite, ite_self]

theorem pay48_apply (m : IVec S256x256 1) (p : Vec Ideal S256x256 .f32) (r : Fin 2) (y : Fin 256) :
    k0_pay48 m p (ix3 0 r y) = ∑ x : Fin 128, Scalar.select (m (ix2 ⟨r.val * 128 + x.val, by omega⟩ y)) (p (ix2 ⟨r.val * 128 + x.val, by omega⟩ y)) (0 : EReal) := by
  pointwise [k0_pay48, k0_pay46]

theorem mk_apply (i : grid0.Coords) (n : ℕ) (hn : n < 32) (j y : Fin 256) (a b : EReal) :
    Scalar.select (mk i n (ix2 j y)) a b = if 256 * n + j.val ≤ 256 * (i 0).val + y.val then a else b := by
  pointwise [mk, mask, k0_pay45, kidx, k0_pay3]
  have hi : (i 0).val < 32 := (i 0).isLt
  have hj := j.isLt
  have hy := y.isLt
  generalize (i 0).val = m at hi
  have e1 : IntOp.addi (BitVec.ofNat 32 j.val) (Scalar.muli (Scf.iv (0#32) (1#32) n) 256#32) = BitVec.ofNat 32 (256 * n + j.val) := by
    apply BitVec.eq_of_toNat_eq
    simp only [IntOp.addi, Scalar.muli, IntOp.muli, Scf.iv, BitVec.toNat_add, BitVec.toNat_mul, BitVec.toNat_ofNat]
    omega
  have e2 : IntOp.addi (Scalar.muli (BitVec.ofNat 32 m) 256#32) (BitVec.ofNat 32 y.val) = BitVec.ofNat 32 (256 * m + y.val) := by
    apply BitVec.eq_of_toNat_eq
    simp only [IntOp.addi, Scalar.muli, IntOp.muli, BitVec.toNat_add, BitVec.toNat_mul, BitVec.toNat_ofNat]
    omega
  rw [e1, e2]
  have hu : 256 * n + j.val < 8192 := by omega
  have hv : 256 * m + y.val < 8192 := by omega
  generalize 256 * n + j.val = u at hu
  generalize 256 * m + y.val = v at hv
  by_cases h : u ≤ v
  · rw [if_pos h]
    have : IntOp.cmpi CmpIPredicate.sle (BitVec.ofNat 32 u) (BitVec.ofNat 32 v) = 1#1 := by word_omega
    rw [this]; rfl
  · rw [if_neg h]
    have : IntOp.cmpi CmpIPredicate.sle (BitVec.ofNat 32 u) (BitVec.ofNat 32 v) = 0#1 := by word_omega
    rw [this]; rfl

theorem pay104_apply (v : Vec Ideal S32x2x256 .f32) (c : Fin 64) (y : Fin 256) :
    k0_pay104 v (ix2 c y) = v (ix3 ⟨c.val / 2, by omega⟩ ⟨c.val % 2, by omega⟩ y) := by
  pointwise [k0_pay104]

theorem pay105_apply (v : Vec Ideal S32x2x256 .f32) (y : Fin 256) :
    k0_pay105 v (ix2 0 y) = ∑ c, k0_pay104 v (ix2 c y) := by
  unfold k0_pay105
  generalize k0_pay104 v = w
  pointwise []

theorem pay5_apply (v : Vec Ideal S64x256 .f32) (w : Vec Ideal S32x2x256 .f32) (c : Fin 64) (y : Fin 256) :
    k0_pay5 v (k0_pay106 w) (ix2 c y) = Ideal.div (v (ix2 c y)) (safe (k0_pay105 w (ix2 0 y))) := by
  pointwise [k0_pay5, k0_pay106]
  rfl

theorem pay107_apply (mx dn : FVec Ideal S1x256 .f32) (y : Fin 256) :
    k0_pay107 mx dn (ix2 0 y) = lseOf (mx (ix2 0 y)) (dn (ix2 0 y)) := by
  pointwise [k0_pay107]
  rfl

theorem pay10_apply (mx : FVec Ideal S1x256 .f32) (l : FVec Ideal S16x256 .f32) (h : Fin 16) (y : Fin 256) :
    k0_pay10 mx l (ix2 h y) = l (ix2 h y) * cLog2e + ceilE (mx (ix2 0 y)) := by
  pointwise [k0_pay10]

theorem pay2_apply (l : FVec Ideal S16x256 .f32) (h : Fin 16) (y : Fin 256) :
    k0_pay2 l (ix2 h y) = l (ix2 h y) * cLog2e := by
  pointwise [k0_pay2]

theorem pay1_apply (l : FVec Ideal S16x256 .f32) (h : Fin 16) (y : Fin 256) :
    k0_pay1 l (ix2 h y) = l (ix2 h y) * cScale := by
  pointwise [k0_pay1]

theorem pay53_apply (mx dn : FVec Ideal S1x256 .f32) (m : IVec S256x256 1) (cols : Vec Ideal S256x128 .f32) (l : Vec Ideal S256x256 .f32) (y : Fin 256) :
    k0_pay102 (k0_pay53 mx dn m cols l) (k0_pay54 mx m cols l) (ix2 0 y)
      = dn (ix2 0 y) * Ideal.exp2 (mx (ix2 0 y) - k0_pay52 mx m cols l (ix2 0 y))
        + ∑ j, Ideal.exp2 (k0_pay51 m cols l (ix2 j y) - k0_pay52 mx m cols l (ix2 0 y)) := by
  unfold k0_pay102 k0_pay53 k0_pay54
  generalize k0_pay52 mx m cols l = n
  generalize k0_pay51 m cols l = s
  pointwise []
  rfl

theorem pay7_apply (y : Fin 256) : (k0_pay7 : FVec Ideal S1x256 .f32) (ix2 0 y) = ⊥ := by
  rw [← negInf]; pointwise [k0_pay7]
theorem pay101_apply (y : Fin 256) : (k0_pay101 : FVec Ideal S1x256 .f32) (ix2 0 y) = ⊥ := by
  rw [← negInf]; pointwise [k0_pay101]
theorem pay100_apply (y : Fin 256) : (k0_pay100 : FVec Ideal S1x256 .f32) (ix2 0 y) = 0 := by
  pointwise [k0_pay100]
theorem pay99_apply (t : Fin 32) (r : Fin 2) (y : Fin 256) : (k0_pay99 : FVec Ideal S32x2x256 .f32) (ix3 t r y) = 0 := by
  pointwise [k0_pay99]

/-- The masked exponents of one head on one tile. -/
def maxTile (m : IVec S256x256 1) (kt : Vec Ideal S256x576 .bf16) (q : Vec Ideal S1x576x256 .fp8e4m3) (sc ls : Vec Ideal S1x256 .f32) :
    FVec Ideal S256x256 .f32 :=
  select m (subf (headScore kt q sc) (broadcastTo S256x256 (mulf (shapeCast S1x256 ls shapeCasts_S1x256_S1x256 : FVec Ideal S1x256 .f32)
    (broadcast S1x256 (Scalar.ofBits .f32 0x3FB8AA3B#32))) broadcasts_S1x256_S256x256)) (broadcast S256x256 (Scalar.ofBits .f32 0xFF800000#32))

theorem maxTile_apply (m : IVec S256x256 1) (kt : Vec Ideal S256x576 .bf16) (q : Vec Ideal S1x576x256 .fp8e4m3) (sc ls : Vec Ideal S1x256 .f32)
    (j y : Fin 256) : maxTile m kt q sc ls (ix2 j y)
      = Scalar.select (m (ix2 j y)) ((∑ d, kt (ix2 j d) * q (ix3 0 d y)) * sc (ix2 0 y) - ls (ix2 0 y) * cLog2e) ⊥ := by
  rw [← negInf]
  pointwise [maxTile, headScore]

theorem maxRow_apply (mx : FVec Ideal S1x256 .f32) (v : FVec Ideal S256x256 .f32) (y : Fin 256) :
   (maximumf mx (shapeCast S1x256 (multiReduction .maximumf [0] S256 v 0xFF800000#32 reduces_S256x256_S256 (.inl rfl) rfl : FVec Ideal S256 .f32) shapeCasts_S256_S1x256 : FVec Ideal S1x256 .f32) : FVec Ideal S1x256 .f32) (ix2 0 y)
     = max (mx (ix2 0 y)) (Finset.univ.sup fun j => v (ix2 j y)) := by
  rw [← fold_max_bot, ← negInf]
  pointwise []

theorem pay8_apply (i : grid0.Coords) (k : Fin (k0_t3_loop i).trips) (mx : FVec Ideal S1x256 .f32) (kt : Vec Ideal S256x576 .bf16)
    (q : Vec Ideal S1x576x256 .fp8e4m3) (sc ls : Vec Ideal S1x256 .f32) (y : Fin 256) :
    k0_pay8 i kidx (k0_pay3 i) k mx kt q sc ls (ix2 0 y)
      = max (mx (ix2 0 y)) (Finset.univ.sup fun j => maxTile (mk i k.val) kt q sc ls (ix2 j y)) :=
  maxRow_apply mx (maxTile (mk i k.val) kt q sc ls) y

/-- Both loops over the key tiles run up to the query's own tile. -/
theorem trips1 (i : grid0.Coords) : (k0_t1_loop i).trips = (i 0).val + 1 := by
  have h : ∀ n : Fin 32, (Scf.Loop.trips ⟨0#32, Scalar.addi 0#32 (Scalar.muli (Scalar.divsi (Scalar.subi (Scalar.muli (Scalar.addi (BitVec.ofNat 32 n.val) 1#32) 1#32) 0#32) 1#32) 1#32), 1#32⟩ : ℕ) = n.val + 1 := by
    decide +kernel
  exact h (i 0)
theorem trips3 (i : grid0.Coords) : (k0_t3_loop i).trips = (i 0).val + 1 := trips1 i
theorem trips4 : k0_t4_loop.trips = 16 := by decide +kernel

variable (i : grid0.Coords) (b : Blk Ideal)

theorem ld_keys (k : Fin (k0_t1_loop i).trips) (j : Fin 256) (d : Fin 576) :
    View.ld b.keys (keyTile i k) (ix2 j d) = b.keys (ix2 (key (256 * k.val + j.val)) ⟨d.val, by omega⟩) := by
  have hk : k.val < 32 := by have := k.isLt; have := trips1 i; have : (i 0).val < 32 := (i 0).isLt; omega
  have e := k0_off1_eq i k
  refine congrArg b.keys (funext fun a => Fin.ext ?_)
  fin_cases a
  · show k0_off1 i k 0 + 1 * j.val = (256 * k.val + j.val) % 8192
    rw [e]; show 256 * k.val + 1 * j.val = _; omega
  · show k0_off1 i k 1 + 1 * d.val = d.val
    rw [e]; show 0 + 1 * d.val = _; omega

theorem ld_idx (v : S8192x128.Idx → EReal) (k : Fin (k0_t1_loop i).trips) (j : Fin 256) (d : Fin 128) :
    v ((idxTile i k).emb (ix2 j d)) = v (ix2 (key (256 * k.val + j.val)) d) := by
  have hk : k.val < 32 := by have := k.isLt; have := trips1 i; have : (i 0).val < 32 := (i 0).isLt; omega
  have e := k0_off2_eq i k
  refine congrArg v (funext fun a => Fin.ext ?_)
  fin_cases a
  · show k0_off2 i k 0 + 1 * j.val = (256 * k.val + j.val) % 8192
    rw [e]; show 256 * k.val + 1 * j.val = _; omega
  · show k0_off2 i k 1 + 1 * d.val = d.val
    rw [e]; show 0 + 1 * d.val = _; omega

theorem ld_head16 (v : S16x576x256.Idx → EReal) (h : Fin 16) (d : Fin 576) (y : Fin 256) : v ((head16 h).emb (ix3 0 d y)) = v (ix3 h d y) := by
  refine congrArg v (funext fun a => Fin.ext ?_)
  fin_cases a
  · show h.val + 1 * 0 = h.val; omega
  · show 0 + 1 * d.val = d.val; omega
  · show 0 + 1 * y.val = y.val; omega

theorem ld_head24 (v : S24x128x256.Idx → EReal) (h : Fin 24) (d : Fin 128) (y : Fin 256) : v ((head24 h).emb (ix3 0 d y)) = v (ix3 h d y) := by
  refine congrArg v (funext fun a => Fin.ext ?_)
  fin_cases a
  · show h.val + 1 * 0 = h.val; omega
  · show 0 + 1 * d.val = d.val; omega
  · show 0 + 1 * y.val = y.val; omega

theorem ld_row16 (v : S16x256.Idx → EReal) (h : Fin 16) (y : Fin 256) : v ((row16 h).emb (ix2 0 y)) = v (ix2 h y) := by
  refine congrArg v (funext fun a => Fin.ext ?_)
  fin_cases a
  · show h.val + 1 * 0 = h.val; omega
  · show 0 + 1 * y.val = y.val; omega

theorem ld_row24 (v : S24x256.Idx → EReal) (h : Fin 24) (y : Fin 256) : v ((row24 h).emb (ix2 0 y)) = v (ix2 h y) := by
  refine congrArg v (funext fun a => Fin.ext ?_)
  fin_cases a
  · show h.val + 1 * 0 = h.val; omega
  · show 0 + 1 * y.val = y.val; omega

/-- One tile's unmasked probabilities at a key and a query. -/
theorem tileP_apply (sc sh : Vec Ideal S16x256 .f32) (k : Fin (k0_t1_loop i).trips) (j y : Fin 256) : tileP i b sc sh k (ix2 j y)
    = ∑ h : Fin 16, Ideal.exp2 ((∑ d : Fin 576, b.keys (ix2 (key (256 * k.val + j.val)) ⟨d.val, by omega⟩) * b.q (ix3 h d y)) * sc (ix2 h y) - sh (ix2 h y)) := by
  have e : tileP i b sc sh k (ix2 j y) = probs (View.ld b.keys (keyTile i k)) b.q sc sh (ix2 j y) := by
    unfold tileP
    generalize probs (View.ld b.keys (keyTile i k)) b.q sc sh = v
    pointwise []
  rw [e]
  unfold probs
  rw [foldl_addf_apply]
  refine Finset.sum_congr rfl fun h _ => ?_
  rw [headExp_apply]
  simp only [ld_keys]
  have e1 : ∀ d, View.ld b.q (head16 h) (ix3 0 d y) = b.q (ix3 h d y) := fun d => ld_head16 b.q h d y
  have e2 : View.ld sc (row16 h) (ix2 0 y) = sc (ix2 h y) := ld_row16 sc h y
  have e3 : View.ld sh (row16 h) (ix2 0 y) = sh (ix2 h y) := ld_row16 sh h y
  simp only [e1, e2, e3]

/-- One tile's index sums at a key and a query. -/
theorem tileL_apply (k : Fin (k0_t1_loop i).trips) (j y : Fin 256) : tileL i b k (ix2 j y)
    = ∑ h : Fin 24, b.w (ix2 h y) * max (∑ d : Fin 128, b.ki (ix2 (key (256 * k.val + j.val)) d) * b.qi (ix3 h d y)) 0 := by
  have e : tileL i b k (ix2 j y) = idxSum (View.ld b.ki (idxTile i k)) b.qi b.w (ix2 j y) := by
    unfold tileL
    generalize idxSum (View.ld b.ki (idxTile i k)) b.qi b.w = v
    pointwise []
  rw [e]
  unfold idxSum
  rw [foldl_addf_apply]
  refine Finset.sum_congr rfl fun h _ => ?_
  rw [idxHead_apply]
  have e0 : ∀ d, View.ld b.ki (idxTile i k) (ix2 j d) = b.ki (ix2 (key (256 * k.val + j.val)) d) := fun d => ld_idx i b.ki k j d
  have e1 : ∀ d, View.ld b.qi (head24 h) (ix3 0 d y) = b.qi (ix3 h d y) := fun d => ld_head24 b.qi h d y
  have e2 : View.ld b.w (row24 h) (ix2 0 y) = b.w (ix2 h y) := ld_row24 b.w h y
  simp only [e0, e1, e2]

end Cert.KernelIdeal.Body

end
-- ==== Proof.KerBlock.lean ====
/- The attention body's results at a point: the carried rows and the block sums in closed form over all keys, and the two results of the
   attempt that counts as the plain sums of the specification. -/
module

public import proofs.«01_k».proof.Proof.KerPoint

@[expose] public section

set_option maxRecDepth 16384

noncomputable section

namespace Cert.KernelIdeal.Body

open Cert.KernelIdeal Cert.KernelIdeal.Gen Cert.Maths
open Idealize.ShloMosaic Idealize.ShloMosaic.TcCoe

variable (i : grid0.Coords) (b : Blk Ideal) (y : Fin 256)

/-- The query's position. -/
abbrev qpos : ℕ := 256 * (i 0).val + y.val
abbrev kf (k : Fin 8192) (d : Fin 576) : EReal := b.keys (ix2 k ⟨d.val, by omega⟩)
abbrev qf (h : Fin 16) (d : Fin 576) : EReal := b.q (ix3 h d y)
abbrev qsf (h : Fin 16) : EReal := b.qs (ix2 h y)
abbrev lsf (h : Fin 16) : EReal := b.lse (ix2 h y)
abbrev kif (k : Fin 8192) (d : Fin 128) : EReal := b.ki (ix2 k d)
abbrev qif (h : Fin 24) (d : Fin 128) : EReal := b.qi (ix3 h d y)
abbrev wf (h : Fin 24) : EReal := b.w (ix2 h y)

theorem coord_lt : (i 0).val < 32 := (i 0).isLt

theorem key_le {n : ℕ} (j : Fin 256) (hn : n < 32) : (key (256 * n + j.val)).val = 256 * n + j.val := by
  rw [key_of_lt (by omega)]

/-! ### The carried maximum and denominator -/

/-- The index logits by key number. -/
abbrev logit (ks : Fin 8192 → EReal) (k : ℕ) : EReal := idxLogit (qpos i y) (kif b) (qif b y) (wf b y) ks (key k)

theorem logit_tile (ks : Fin 8192 → EReal) (hks : ∀ k x, b.cols (ix2 k x) = ks k) (k : Fin (k0_t1_loop i).trips) (j : Fin 256) :
    k0_pay51 (mk i k.val) (View.ld b.cols (idxTile i k)) (tileL i b k) (ix2 j y) = logit i b y ks (256 * k.val + j.val) := by
  have hk : k.val < 32 := by have := k.isLt; have := trips1 i; have := coord_lt i; omega
  rw [pay51_apply _ _ _ _ _ (ks (key (256 * k.val + j.val))) fun x => (ld_idx i b.cols k j x).trans (hks _ _), mk_apply i _ hk, tileL_apply]
  unfold logit idxLogit
  rw [key_le j hk]

theorem rows_apply (sc sh : Vec Ideal S16x256 .f32) (ks : Fin 8192 → EReal) (hks : ∀ k x, b.cols (ix2 k x) = ks k) (n : ℕ)
    (hn : n ≤ (k0_t1_loop i).trips) :
    (rowsAt i b sc sh n).2.2.1 (ix2 0 y) = ceilE (top (logit i b y ks) (256 * n))
      ∧ (rowsAt i b sc sh n).2.2.2 (ix2 0 y) = den (logit i b y ks) (256 * n) := by
  induction n with
  | zero => exact ⟨pay101_apply y, pay100_apply y⟩
  | succ n ih =>
    obtain ⟨h1, h2⟩ := ih (by omega)
    have e := rowsAt_succ i b sc sh ⟨n, hn⟩
    simp only at e
    have hnew : k0_pay52 (rowsAt i b sc sh n).2.2.1 (mk i n) (View.ld b.cols (idxTile i ⟨n, hn⟩)) (tileL i b ⟨n, hn⟩) (ix2 0 y)
        = ceilE (top (logit i b y ks) (256 * (n + 1))) := by
      refine (pay52_apply _ (k0_pay51 (mk i n) (View.ld b.cols (idxTile i ⟨n, hn⟩)) (tileL i b ⟨n, hn⟩)) y).trans ?_
      rw [h1, ← ceilE_max, mul_add, mul_one, top_add]
      simp only [logit_tile i b y ks hks ⟨n, hn⟩]
    rw [e]
    refine ⟨hnew, ?_⟩
    refine (pay53_apply _ _ _ _ _ y).trans ?_
    rw [hnew, h1, h2]
    simp only [logit_tile i b y ks hks ⟨n, hn⟩]
    rw [mul_add, mul_one, den_add]

theorem lse_point (sc sh : Vec Ideal S16x256 .f32) (ks : Fin 8192 → EReal) (hks : ∀ k x, b.cols (ix2 k x) = ks k) :
    attLse i b sc sh (ix2 0 y) = lseI (qpos i y) (kif b) (qif b y) (wf b y) ks := by
  unfold attLse rowsEnd
  rw [pay107_apply]
  obtain ⟨h1, h2⟩ := rows_apply i b y sc sh ks hks _ le_rfl
  rw [h1, h2, trips1]
  have hi := coord_lt i
  have hb : ∀ k, 256 * ((i 0).val + 1) ≤ k → logit i b y ks k = ⊥ ∨ 8192 ≤ k := fun k hk => by
    rcases lt_or_ge k 8192 with h | h
    · refine .inl ?_
      unfold logit idxLogit
      rw [key_of_lt h, if_neg]
      have := y.isLt
      show ¬ k ≤ 256 * (i 0).val + y.val
      omega
    · exact .inr h
  obtain ⟨m, hm⟩ : ∃ m, 8192 = 256 * ((i 0).val + 1) + m := ⟨8192 - 256 * ((i 0).val + 1), by omega⟩
  unfold lseI
  generalize hL : logit i b y ks = L at hb
  change lseOf _ _ = lseOf (ceilE (top (logit i b y ks) 8192)) (den (logit i b y ks) 8192)
  rw [hL]
  rw [show (8192 : ℕ) = 256 * ((i 0).val + 1) + m from hm, top_extend' L _ m fun k h1 h2 => (hb k h1).resolve_right (by omega),
    den_extend' L _ m fun k h1 h2 => (hb k h1).resolve_right (by omega)]

/-! ### The block sums -/

/-- One key's probability at the scales and shifts given. -/
abbrev prob (sc sh : Vec Ideal S16x256 .f32) : Fin 8192 → EReal :=
  headSum (fun h k => (∑ d, kf b k d * qf b y h d) * sc (ix2 h y)) (fun k : Fin 8192 => k.val ≤ qpos i y) (fun h => sh (ix2 h y))

theorem tileBlk_apply (sc sh : Vec Ideal S16x256 .f32) (k : Fin (k0_t1_loop i).trips) (r : Fin 2) (c : Fin 64) (hc : c.val = 2 * k.val + r.val) :
    k0_pay48 (mk i k.val) (tileP i b sc sh k) (ix3 0 r y) = ∑ x, prob i b y sc sh (blkKey c x) := by
  have hk : k.val < 32 := by have := k.isLt; have := trips1 i; have := coord_lt i; omega
  rw [pay48_apply]
  refine Finset.sum_congr rfl fun x _ => ?_
  rw [mk_apply i _ hk, tileP_apply]
  have e : key (256 * k.val + (⟨r.val * 128 + x.val, by omega⟩ : Fin 256).val) = blkKey c x := by
    rw [key_of_lt (by show 256 * k.val + (r.val * 128 + x.val) < 8192; omega)]
    exact Fin.ext (by show 256 * k.val + (r.val * 128 + x.val) = c.val * 128 + x.val; omega)
  rw [e]
  unfold prob headSum
  have e' : (blkKey c x).val = 256 * k.val + (r.val * 128 + x.val) := by show c.val * 128 + x.val = _; omega
  exact if_congr (by show _ ↔ (blkKey c x).val ≤ _; rw [e']) rfl rfl

theorem pb_apply (sc sh : Vec Ideal S16x256 .f32) (n : ℕ) (hn : n ≤ (k0_t1_loop i).trips) (t : Fin 32) (r : Fin 2) (c : Fin 64)
    (hc : c.val = 2 * t.val + r.val) :
    pbAt i b sc sh n (ix3 t r y) = if t.val < n then ∑ x, prob i b y sc sh (blkKey c x) else 0 := by
  induction n with
  | zero => rw [if_neg (by omega)]; exact pay99_apply t r y
  | succ n ih =>
    have e := pbAt_succ i b sc sh ⟨n, hn⟩
    simp only at e
    rw [e]
    unfold VecWindow.put
    by_cases h : t.val = n
    · have hw : ∀ a : Fin 3, (![n, 0, 0] : Fin 3 → ℕ) a ≤ ((ix3 t r y : S32x2x256.Idx) a).val
          ∧ ((ix3 t r y : S32x2x256.Idx) a).val < (![n, 0, 0] : Fin 3 → ℕ) a + S1x2x256.size a := fun a => by
        have := r.isLt; have := y.isLt
        fin_cases a
        · show n ≤ t.val ∧ t.val < n + 1; omega
        · show 0 ≤ r.val ∧ r.val < 0 + 2; omega
        · show 0 ≤ y.val ∧ y.val < 0 + 256; omega
      rw [dif_pos hw, if_pos (by omega)]
      refine Eq.trans (congrArg (k0_pay48 (mk i n) (tileP i b sc sh ⟨n, hn⟩)) (?_ : _ = (ix3 (0 : Fin 1) r y : S1x2x256.Idx))) (tileBlk_apply i b y sc sh ⟨n, hn⟩ r c (by rw [hc, h]))
      funext a
      apply Fin.ext
      rw [Rect.unitLocal_val]
      fin_cases a
      · show t.val - n = 0; omega
      · show r.val - 0 = r.val; omega
      · show y.val - 0 = y.val; omega
    · rw [dif_neg, ih (by omega)]
      · have : t.val < n + 1 ↔ t.val < n := by omega
        simp only [this]
      · intro hw
        have h0 : n ≤ t.val ∧ t.val < n + 1 := hw 0
        omega

theorem pbEnd_apply (sc sh : Vec Ideal S16x256 .f32) (c : Fin 64) :
    k0_pay104 (pbEnd i b sc sh) (ix2 c y) = ∑ x, prob i b y sc sh (blkKey c x) := by
  unfold pbEnd
  rw [pay104_apply, pb_apply i b y sc sh _ le_rfl _ _ c (by show c.val = 2 * (c.val / 2) + c.val % 2; omega)]
  split
  · rfl
  · next h =>
    refine (Finset.sum_eq_zero fun x _ => ?_).symm
    unfold prob headSum
    rw [if_neg]
    rw [trips1] at h
    have := y.isLt
    have h' : ¬ c.val / 2 < (i 0).val + 1 := h
    show ¬ c.val * 128 + x.val ≤ 256 * (i 0).val + y.val
    omega

theorem blk_point (sc sh : Vec Ideal S16x256 .f32) (c : Fin 64) :
    attBlk i b sc sh (ix2 c y) = ratio (prob i b y sc sh) (blkKey c) := by
  unfold attBlk
  rw [pay5_apply, pay105_apply, div_safe]
  simp only [pbEnd_apply]
  rw [sum_blocks]
  rfl

/-! ### The maximum of the second attempt -/

/-- The masked exponents of the main scores. -/
abbrev expo (h : Fin 16) (k : Fin 8192) : EReal :=
  masked (mainScore (kf b) (qf b y) (qsf b y)) (fun k : Fin 8192 => k.val ≤ qpos i y) (mainShift (lsf b y)) h k

theorem score_eq (h : Fin 16) (k : Fin 8192) : (∑ d, kf b k d * qf b y h d) * sc0 b (ix2 h y) = mainScore (kf b) (qf b y) (qsf b y) h k := by
  unfold sc0 mainScore
  rw [pay1_apply, mul_assoc]

theorem maxTile_point (k : Fin (k0_t3_loop i).trips) (m : FVec Ideal S1x256 .f32) (h : Fin k0_t4_loop.trips) (h' : Fin 16) (hh : h'.val = h.val) :
    maxHead i b k m h (ix2 0 y) = max (m (ix2 0 y)) (Finset.univ.sup fun j : Fin 256 => expo i b y h' (key (256 * k.val + j.val))) := by
  have hk : k.val < 32 := by have := k.isLt; have := trips3 i; have := coord_lt i; omega
  unfold maxHead
  rw [pay8_apply]
  congr 1
  refine Finset.sup_congr rfl fun j _ => ?_
  rw [maxTile_apply, mk_apply i _ hk]
  unfold expo masked
  refine if_congr (by show _ ↔ (key _).val ≤ _; rw [key_le j hk]) ?_ rfl
  rw [← score_eq]
  have e0 : ∀ d : Fin 576, View.ld b.keys (Rect.unit (s := S8192x640) (k0_off7 i k) S256x576.size (k0_off7_inb i k)) (ix2 j d)
      = kf b (key (256 * k.val + j.val)) d := fun d => by
    have e := k0_off7_eq i k
    refine congrArg b.keys (funext fun a => Fin.ext ?_)
    fin_cases a
    · show k0_off7 i k 0 + 1 * j.val = (256 * k.val + j.val) % 8192
      rw [e]; show 256 * k.val + 1 * j.val = _; omega
    · show k0_off7 i k 1 + 1 * d.val = d.val
      rw [e]; show 0 + 1 * d.val = _; omega
  have e1 : ∀ d : Fin 576, View.ld b.q (Rect.unit (s := S16x576x256) (k0_off8 h) S1x576x256.size (k0_off8_inb h)) (ix3 0 d y)
      = qf b y h' d := fun d => by
    have e := k0_off8_eq h
    refine congrArg b.q (funext fun a => Fin.ext ?_)
    fin_cases a
    · show k0_off8 h 0 + 1 * 0 = h'.val
      rw [e]; show h.val + 1 * 0 = _; omega
    · show k0_off8 h 1 + 1 * d.val = d.val
      rw [e]; show 0 + 1 * d.val = _; omega
    · show k0_off8 h 2 + 1 * y.val = y.val
      rw [e]; show 0 + 1 * y.val = _; omega
  have e2 : ∀ v : S16x256.Idx → EReal, v ((Rect.unit (s := S16x256) (k0_off9 h) S1x256.size (k0_off9_inb h)).emb (ix2 0 y)) = v (ix2 h' y) := fun v => by
    have e := k0_off9_eq h
    refine congrArg v (funext fun a => Fin.ext ?_)
    fin_cases a
    · show k0_off9 h 0 + 1 * 0 = h'.val
      rw [e]; show h.val + 1 * 0 = _; omega
    · show k0_off9 h 1 + 1 * y.val = y.val
      rw [e]; show 0 + 1 * y.val = _; omega
  have e3 : View.ld (sc0 b) (Rect.unit (s := S16x256) (k0_off9 h) S1x256.size (k0_off9_inb h)) (ix2 0 y) = sc0 b (ix2 h' y) := e2 _
  have e4 : View.ld b.lse (Rect.unit (s := S16x256) (k0_off9 h) S1x256.size (k0_off9_inb h)) (ix2 0 y) = b.lse (ix2 h' y) := e2 _
  simp only [e0, e1, e3, e4]
  rfl

theorem maxHeads_point (k : Fin (k0_t3_loop i).trips) (m : FVec Ideal S1x256 .f32) (n : ℕ) (hn : n ≤ 16) :
    maxHeads i b k m n (ix2 0 y) = max (m (ix2 0 y)) ((Finset.univ.filter fun h : Fin 16 => h.val < n).sup fun h =>
      Finset.univ.sup fun j : Fin 256 => expo i b y h (key (256 * k.val + j.val))) := by
  induction n with
  | zero => simp [maxHeads]
  | succ n ih =>
    have hn' : n < k0_t4_loop.trips := by rw [trips4]; omega
    have e := maxHeads_succ i b k m ⟨n, hn'⟩
    simp only at e
    have hf : (Finset.univ.filter fun h : Fin 16 => h.val < n + 1) = insert (⟨n, hn⟩ : Fin 16) (Finset.univ.filter fun h : Fin 16 => h.val < n) := by
      ext h; simp only [Finset.mem_filter, Finset.mem_univ, true_and, Finset.mem_insert, Fin.ext_iff]; omega
    rw [e, maxTile_point i b y k _ ⟨n, hn'⟩ ⟨n, hn⟩ rfl, ih (by omega), hf, Finset.sup_insert, max_assoc]
    congr 1
    exact max_comm _ _

theorem maxAt_point (n : ℕ) (hn : n ≤ (k0_t3_loop i).trips) :
    maxAt i b n (ix2 0 y) = top (fun k => Finset.univ.sup fun h => expo i b y h (key k)) (256 * n) := by
  induction n with
  | zero => exact pay7_apply y
  | succ n ih =>
    have e := maxAt_succ i b ⟨n, hn⟩
    simp only at e
    rw [e, trips4, maxHeads_point i b y _ _ 16 le_rfl, ih (by omega), mul_add, mul_one, top_add]
    congr 1
    have : (Finset.univ.filter fun h : Fin 16 => h.val < 16) = Finset.univ := Finset.filter_true_of_mem fun h _ => h.isLt
    rw [this, Finset.sup_comm]

theorem max_point : maxAt i b (k0_t3_loop i).trips (ix2 0 y) = Finset.univ.sup fun h => Finset.univ.sup fun k => expo i b y h k := by
  rw [maxAt_point i b y _ le_rfl, Finset.sup_comm, sup_key fun k => Finset.univ.sup fun h => expo i b y h k, trips3]
  have hi := coord_lt i
  obtain ⟨m, hm⟩ : ∃ m, 8192 = 256 * ((i 0).val + 1) + m := ⟨8192 - 256 * ((i 0).val + 1), by omega⟩
  rw [show (8192 : ℕ) = 256 * ((i 0).val + 1) + m from hm]
  refine (top_extend' _ _ m fun k h1 h2 => ?_).symm
  refine le_bot_iff.mp (Finset.sup_le fun h _ => le_of_eq ?_)
  unfold expo masked
  rw [if_neg]
  have := y.isLt
  rw [key_of_lt (by omega)]
  show ¬ k ≤ 256 * (i 0).val + y.val
  omega

/-! ### The two results -/

theorem outBlk_point (c : Fin 64) : outBlk i b (ix2 c y) = pBlock (kf b) (qf b y) (qsf b y) (lsf b y) (qpos i y) c := by
  unfold outBlk
  rw [blk_point]
  have hsc : (fun h k => (∑ d, kf b k d * qf b y h d) * sc0 b (ix2 h y)) = mainScore (kf b) (qf b y) (qsf b y) := by
    funext h k; exact score_eq b y h k
  unfold pBlock prob
  rw [hsc]
  unfold shF
  split
  · have hsh : (fun h => sh0 b (ix2 h y)) = mainShift (lsf b y) := by
      funext h; unfold sh0 mainShift; rw [pay2_apply]
    rw [hsh]
    exact ratio_first _ _ _ _ rfl _
  · have hsh : (fun h => sh1 i b (ix2 h y)) = fun h => mainShift (lsf b y) h + mainMax (kf b) (qf b y) (qsf b y) (lsf b y) (qpos i y) := by
      funext h; unfold sh1 mainShift mainMax; rw [pay10_apply, max_point]
    rw [hsh]
    exact ratio_second _ _ _ _ rfl _

theorem outLse_point (ks : Fin 8192 → EReal) (hks : ∀ k x, b.cols (ix2 k x) = ks k) :
    outLse i b (ix2 0 y) = lseI (qpos i y) (kif b) (qif b y) (wf b y) ks :=
  lse_point i b y _ _ ks hks

end Cert.KernelIdeal.Body

end
-- ==== Proof.Result.lean ====
/- The two compared results as functions of the nine arguments, at one query. -/
module

public import proofs.«01_k».proof.Proof.Spec
public import Idealize.ShloMosaic.Lib.Pipeline.ValueKit

@[expose] public section

noncomputable section

namespace Cert.Maths

open Idealize.ShloMosaic

/-- The index heads' log-sum-exp of query `Y`, from index queries, their scales, head weights, index keys and their scales. -/
def lseAt (a3 : FVec Ideal ⟨4, ![1, 8192, 24, 128]⟩ .fp8e4m3) (a4 a5 : FVec Ideal ⟨3, ![1, 8192, 24]⟩ .f32)
    (a7 : FVec Ideal ⟨3, ![1, 8192, 128]⟩ .fp8e4m3) (a8 : FVec Ideal ⟨2, ![1, 8192]⟩ .f32) (Y : Fin 8192) : EReal :=
  lseI Y.val (fun k d => a7 (ix3 0 k d)) (fun h d => a3 (ix4 0 Y h d)) (fun h => a5 (ix3 0 Y h) * a4 (ix3 0 Y h)) (fun k => a8 (ix2 0 k))

/-- The share of key block `c` in the probabilities of query `Y`, from queries, their scales, the heads' log-sum-exps and keys. -/
def shareAt (a0 : FVec Ideal ⟨4, ![1, 8192, 16, 576]⟩ .fp8e4m3) (a1 a2 : FVec Ideal ⟨3, ![1, 8192, 16]⟩ .f32)
    (a6 : FVec Ideal ⟨3, ![1, 8192, 576]⟩ .bf16) (c : Fin 64) (Y : Fin 8192) : EReal :=
  pBlock (fun k d => a6 (ix3 0 k d)) (fun h d => a0 (ix4 0 Y h d)) (fun h => a1 (ix3 0 Y h)) (fun h => a2 (ix3 0 Y h)) Y.val c

end Cert.Maths

end
-- ==== Proof.KerValue.lean ====
/- The kernel's two compared result arrays over its arguments. -/
module

public import proofs.«01_k».proof.Proof.Frame
public import proofs.«01_k».proof.Proof.KerBlock
public import proofs.«01_k».proof.Proof.Result

@[expose] public section

set_option maxRecDepth 16384

noncomputable section

namespace Cert.KernelIdeal.Body

open Cert.KernelIdeal Cert.KernelIdeal.Gen Cert.Maths
open Idealize.ShloMosaic Idealize.ShloMosaic.TcCoe

variable (m : (ℓ : Loc nD τ sig) → Buf (Elt Ideal) ℓ) (c : Dev nD)

abbrev A0 : FVec Ideal S1x8192x16x576 .fp8e4m3 := m ((c.tc : Thread nD τ).loc main_arg0)
abbrev A1 : FVec Ideal S1x8192x16 .f32 := m ((c.tc : Thread nD τ).loc main_arg1)
abbrev A2 : FVec Ideal S1x8192x16 .f32 := m ((c.tc : Thread nD τ).loc main_arg2)
abbrev A3 : FVec Ideal S1x8192x24x128 .fp8e4m3 := m ((c.tc : Thread nD τ).loc main_arg3)
abbrev A4 : FVec Ideal S1x8192x24 .f32 := m ((c.tc : Thread nD τ).loc main_arg4)
abbrev A5 : FVec Ideal S1x8192x24 .f32 := m ((c.tc : Thread nD τ).loc main_arg5)
abbrev A6 : FVec Ideal S1x8192x576 .bf16 := m ((c.tc : Thread nD τ).loc main_arg6)
abbrev A7 : FVec Ideal S1x8192x128 .fp8e4m3 := m ((c.tc : Thread nD τ).loc main_arg7)
abbrev A8 : FVec Ideal S1x8192 .f32 := m ((c.tc : Thread nD τ).loc main_arg8)

abbrev X0 : FVec Ideal S16x576x8192 .fp8e4m3 := V m c main_v14
abbrev X1 : FVec Ideal S16x8192 .f32 := V m c main_v16
abbrev X2 : FVec Ideal S16x8192 .f32 := V m c main_v18
abbrev X3 : FVec Ideal S24x128x8192 .fp8e4m3 := V m c main_v1
abbrev X4 : FVec Ideal S24x8192 .f32 := V m c main_v6
abbrev X5 : FVec Ideal S8192x640 .bf16 := V m c main_v9
abbrev X6 : FVec Ideal S8192x128 .fp8e4m3 := V m c main_v19
abbrev X7 : FVec Ideal S8192x128 .f32 := V m c main_v12

theorem X0_apply (h : Fin 16) (d : Fin 576) (y : Fin 8192) : X0 m c (ix3 h d y) = A0 m c (ix4 0 y h d) := by
  unfold X0; entry_read; pointwise []; try blk_ext []
theorem X1_apply (h : Fin 16) (y : Fin 8192) : X1 m c (ix2 h y) = A1 m c (ix3 0 y h) := by
  unfold X1; entry_read; pointwise []; try blk_ext []
theorem X2_apply (h : Fin 16) (y : Fin 8192) : X2 m c (ix2 h y) = A2 m c (ix3 0 y h) := by
  unfold X2; entry_read; pointwise []; try blk_ext []
theorem X3_apply (h : Fin 24) (d : Fin 128) (y : Fin 8192) : X3 m c (ix3 h d y) = A3 m c (ix4 0 y h d) := by
  unfold X3; entry_read; pointwise []; try blk_ext []
theorem X4_apply (h : Fin 24) (y : Fin 8192) : X4 m c (ix2 h y) = A5 m c (ix3 0 y h) * A4 m c (ix3 0 y h) := by
  unfold X4; entry_read; pointwise []; try blk_ext []
theorem X5_apply (k : Fin 8192) (d : Fin 640) (hd : d.val < 576) : X5 m c (ix2 k d) = A6 m c (ix3 0 k ⟨d.val, hd⟩) := by
  unfold X5; entry_read; pointwise []; exact dif_pos hd
theorem X6_apply (k : Fin 8192) (d : Fin 128) : X6 m c (ix2 k d) = A7 m c (ix3 0 k d) := by
  unfold X6; entry_read; pointwise []; try blk_ext []
theorem X7_apply (k : Fin 8192) (d : Fin 128) : X7 m c (ix2 k d) = A8 m c (ix2 0 k) := by
  unfold X7; entry_read; pointwise []; try blk_ext []

/-- The windows' block indices. -/
theorem idx : ∀ t : Fin (cfg0 (F := Ideal)).N,
    win0_0.index t = ![0, 0, t.val] ∧ win0_1.index t = ![0, t.val] ∧ win0_2.index t = ![0, t.val]
      ∧ win0_3.index t = ![0, 0, t.val] ∧ win0_4.index t = ![0, t.val] ∧ win0_5.index t = ![0, 0]
      ∧ win0_6.index t = ![0, 0] ∧ win0_7.index t = ![0, 0] ∧ win0_9.index t = ![0, t.val] ∧ win0_10.index t = ![0, t.val]
      ∧ (grid0.coords t 0).val = t.val ∧ t.val < 32 :=
  (by decide +kernel : ∀ t : Fin grid0.N, _)

theorem pt_lt (t : Fin (cfg0 (F := Ideal)).N) : t.val < 32 := (idx t).2.2.2.2.2.2.2.2.2.2.2

/-- The query at place `y` of point `t`'s tile. -/
def qAt (t : Fin (cfg0 (F := Ideal)).N) (y : Fin 256) : Fin 8192 := ⟨256 * t.val + y.val, by have := pt_lt t; omega⟩

theorem qpos_eq (t : Fin (cfg0 (F := Ideal)).N) (y : Fin 256) : qpos (grid0.coords t) y = (qAt t y).val := by
  unfold qpos qAt; rw [(idx t).2.2.2.2.2.2.2.2.2.2.1]

theorem blk0 (t : Fin (cfg0 (F := Ideal)).N) (h : Fin 16) (d : Fin 576) (y : Fin 256) : (blkAt m c t).q (ix3 h d y) = X0 m c (ix3 h d (qAt t y)) := by
  unfold qAt; show (iblk m c 0 t : FVec Ideal S16x576x256 .fp8e4m3) _ = _
  blk_ext [iblk, (idx t).1]
theorem blk1 (t : Fin (cfg0 (F := Ideal)).N) (h : Fin 16) (y : Fin 256) : (blkAt m c t).qs (ix2 h y) = X1 m c (ix2 h (qAt t y)) := by
  unfold qAt; show (iblk m c 1 t : FVec Ideal S16x256 .f32) _ = _
  blk_ext [iblk, (idx t).2.1]
theorem blk2 (t : Fin (cfg0 (F := Ideal)).N) (h : Fin 16) (y : Fin 256) : (blkAt m c t).lse (ix2 h y) = X2 m c (ix2 h (qAt t y)) := by
  unfold qAt; show (iblk m c 2 t : FVec Ideal S16x256 .f32) _ = _
  blk_ext [iblk, (idx t).2.2.1]
theorem blk3 (t : Fin (cfg0 (F := Ideal)).N) (h : Fin 24) (d : Fin 128) (y : Fin 256) : (blkAt m c t).qi (ix3 h d y) = X3 m c (ix3 h d (qAt t y)) := by
  unfold qAt; show (iblk m c 3 t : FVec Ideal S24x128x256 .fp8e4m3) _ = _
  blk_ext [iblk, (idx t).2.2.2.1]
theorem blk4 (t : Fin (cfg0 (F := Ideal)).N) (h : Fin 24) (y : Fin 256) : (blkAt m c t).w (ix2 h y) = X4 m c (ix2 h (qAt t y)) := by
  unfold qAt; show (iblk m c 4 t : FVec Ideal S24x256 .f32) _ = _
  blk_ext [iblk, (idx t).2.2.2.2.1]
theorem blk5 (t : Fin (cfg0 (F := Ideal)).N) (k : Fin 8192) (d : Fin 640) : (blkAt m c t).keys (ix2 k d) = X5 m c (ix2 k d) := by
  show (iblk m c 5 t : FVec Ideal S8192x640 .bf16) _ = _
  blk_ext [iblk, (idx t).2.2.2.2.2.1]
theorem blk6 (t : Fin (cfg0 (F := Ideal)).N) (k : Fin 8192) (d : Fin 128) : (blkAt m c t).ki (ix2 k d) = X6 m c (ix2 k d) := by
  show (iblk m c 6 t : FVec Ideal S8192x128 .fp8e4m3) _ = _
  blk_ext [iblk, (idx t).2.2.2.2.2.2.1]
theorem blk7 (t : Fin (cfg0 (F := Ideal)).N) (k : Fin 8192) (d : Fin 128) : (blkAt m c t).cols (ix2 k d) = X7 m c (ix2 k d) := by
  show (iblk m c 7 t : FVec Ideal S8192x128 .f32) _ = _
  blk_ext [iblk, (idx t).2.2.2.2.2.2.2.1]

theorem share_arg (t : Fin (cfg0 (F := Ideal)).N) (y : Fin 256) (k : Fin 64) :
    outBlk (grid0.coords t) (blkAt m c t) (ix2 k y) = shareAt (A0 m c) (A1 m c) (A2 m c) (A6 m c) k (qAt t y) := by
  rw [outBlk_point, qpos_eq]
  have e5 : kf (blkAt m c t) = fun k d => A6 m c (ix3 0 k d) := by
    funext k d; exact (blk5 m c t k _).trans (X5_apply m c k _ d.isLt)
  have e0 : qf (blkAt m c t) y = fun h d => A0 m c (ix4 0 (qAt t y) h d) := by
    funext h d; exact (blk0 m c t h d y).trans (X0_apply m c h d _)
  have e1 : qsf (blkAt m c t) y = fun h => A1 m c (ix3 0 (qAt t y) h) := by
    funext h; exact (blk1 m c t h y).trans (X1_apply m c h _)
  have e2 : lsf (blkAt m c t) y = fun h => A2 m c (ix3 0 (qAt t y) h) := by
    funext h; exact (blk2 m c t h y).trans (X2_apply m c h _)
  rw [e5, e0, e1, e2]
  rfl

theorem lse_arg (t : Fin (cfg0 (F := Ideal)).N) (y : Fin 256) :
    outLse (grid0.coords t) (blkAt m c t) (ix2 0 y) = lseAt (A3 m c) (A4 m c) (A5 m c) (A7 m c) (A8 m c) (qAt t y) := by
  rw [outLse_point _ _ _ (fun k => A8 m c (ix2 0 k)) (fun k x => (blk7 m c t k x).trans (X7_apply m c k x)), qpos_eq]
  have e6 : kif (blkAt m c t) = fun k d => A7 m c (ix3 0 k d) := by
    funext k d; exact (blk6 m c t k d).trans (X6_apply m c k d)
  have e3 : qif (blkAt m c t) y = fun h d => A3 m c (ix4 0 (qAt t y) h d) := by
    funext h d; exact (blk3 m c t h d y).trans (X3_apply m c h d _)
  have e4 : wf (blkAt m c t) y = fun h => A5 m c (ix3 0 (qAt t y) h) * A4 m c (ix3 0 (qAt t y) h) := by
    funext h; exact (blk4 m c t h y).trans (X4_apply m c h _)
  rw [e6, e3, e4]
  rfl

/-- The third result's array: the block shares. -/
theorem final10 : (dats m 0 c).arrAt 10 (cfgs (F := Ideal) 0).N
    = (fun j => shareAt (A0 m c) (A1 m c) (A2 m c) (A6 m c) (j 0) (j 1) : FVec Ideal S64x8192 .f32) := by
  refine (dats m 0 c).arrAt_eq_of_covers 10 _ (by decide +kernel) fun t _ y => ?_
  blk_simp
  rw [after0_10]
  obtain ⟨k, q, rfl⟩ : ∃ (k : Fin 64) (q : Fin 256), y = ix2 k q := ⟨y 0, y 1, by blk_ext []⟩
  refine (share_arg m c t q k).trans ?_
  have hi := (idx t).2.2.2.2.2.2.2.2.2.1
  congr 1
  · refine Fin.ext ?_
    blk_simp [hi]
  · refine Fin.ext ?_
    unfold qAt
    blk_simp [hi]
    exact congrArg (· + q.val) (Nat.mul_comm _ _)

/-- The second result's array: the index heads' log-sum-exps. -/
theorem final9 : (dats m 0 c).arrAt 9 (cfgs (F := Ideal) 0).N
    = (fun j => lseAt (A3 m c) (A4 m c) (A5 m c) (A7 m c) (A8 m c) (j 1) : FVec Ideal S1x8192 .f32) := by
  refine (dats m 0 c).arrAt_eq_of_covers 9 _ (by decide +kernel) fun t _ y => ?_
  blk_simp
  rw [after0_9]
  obtain ⟨q, rfl⟩ : ∃ q : Fin 256, y = ix2 0 q := ⟨y 1, by blk_ext []⟩
  refine (lse_arg m c t q).trans ?_
  have hi := (idx t).2.2.2.2.2.2.2.2.1
  congr 1
  refine Fin.ext ?_
  unfold qAt
  blk_simp [hi]
  exact congrArg (· + q.val) (Nat.mul_comm _ _)

end Cert.KernelIdeal.Body

end
-- ==== Proof.RefPoint.lean ====
/- The reference's two results at a point. -/
module

public import proofs.«01_k».proof.Proof.Gen.ReferenceIdeal.Skeleton
public import proofs.«01_k».proof.Proof.Spec
public import Idealize.ShloMosaic.Lib.Pipeline.ValueKit
public import Idealize.ShloMosaic.Lib.Tactic.WordOmega

@[expose] public section

set_option maxRecDepth 16384

noncomputable section

namespace Cert.ReferenceIdeal.Point

open Cert.ReferenceIdeal Cert.ReferenceIdeal.Gen Cert.Maths
open Idealize.ShloMosaic Idealize.ShloMosaic.TcCoe

/-- The integer maximum over the keys. -/
def mxRow (v : FVec Ideal S8192x8192 .f32) : FVec Ideal S1x8192 .f32 :=
  ceil (shapeCast S1x8192 (multiReduction .maximumf [0] S8192 v 0xFF800000#32 reduces_S8192x8192_S8192 (.inl rfl) rfl : FVec Ideal S8192 .f32) shapeCasts_S8192_S1x8192 : FVec Ideal S1x8192 .f32)

/-- The denominator over the keys against a row of maxima. -/
def denRow (v : FVec Ideal S8192x8192 .f32) (mx : FVec Ideal S1x8192 .f32) : FVec Ideal S1x8192 .f32 :=
  shapeCast S1x8192 (multiReduction .add [0] S8192 (exp2 (subf v (broadcastTo S8192x8192 mx broadcasts_S1x8192_S8192x8192 : FVec Ideal S8192x8192 .f32))) 0x00000000#32 reduces_S8192x8192_S8192 (.inl rfl) rfl : FVec Ideal S8192 .f32) shapeCasts_S8192_S1x8192

/-- The log-sum-exp of a maximum and a denominator. -/
def lseRow (mx den : FVec Ideal S1x8192 .f32) : FVec Ideal S1x8192 .f32 :=
  mulf (broadcast S1x8192 (Scalar.ofBits .f32 0x3F317218#32 : Ideal .f32)) (addf mx (divf (log den) (broadcast S1x8192 (Scalar.log (Scalar.ofBits .f32 0x40000000#32 : Ideal .f32)))))

theorem pay1_eq (v : FVec Ideal S8192x8192 .f32) : k0_pay1 v = lseRow (mxRow v) (denRow v (mxRow v)) := rfl

theorem maxRow_apply (v : FVec Ideal S8192x8192 .f32) (y : Fin 8192) :
    (multiReduction .maximumf [0] S8192 v 0xFF800000#32 reduces_S8192x8192_S8192 (.inl rfl) rfl : FVec Ideal S8192 .f32) (ix1 y)
      = Finset.fold max (Ideal.ofBits FTy.f32 4286578688#32) (fun x => v (ix2 x y)) Finset.univ := by
  pointwise []

theorem ceilRow_apply (w : FVec Ideal S8192 .f32) (y : Fin 8192) :
    (ceil (shapeCast S1x8192 w shapeCasts_S8192_S1x8192 : FVec Ideal S1x8192 .f32) : FVec Ideal S1x8192 .f32) (ix2 0 y)
      = Ideal.liftRound Int.ceil (w (ix1 y)) := by
  pointwise []

theorem mxRow_apply (v : FVec Ideal S8192x8192 .f32) (y : Fin 8192) : mxRow v (ix2 0 y)
    = Ideal.liftRound Int.ceil (Finset.fold max (Ideal.ofBits FTy.f32 4286578688#32) (fun x => v (ix2 x y)) Finset.univ) :=
  (ceilRow_apply _ y).trans (congrArg (Ideal.liftRound Int.ceil) (maxRow_apply v y))

theorem denRow_apply (v : FVec Ideal S8192x8192 .f32) (mx : FVec Ideal S1x8192 .f32) (y : Fin 8192) :
    denRow v mx (ix2 0 y) = ∑ x, Ideal.exp2 (v (ix2 x y) - mx (ix2 0 y)) := by
  pointwise [denRow]
  rfl

theorem lseRow_apply (mx den : FVec Ideal S1x8192 .f32) (y : Fin 8192) :
    lseRow mx den (ix2 0 y) = Ideal.ofBits FTy.f32 1060205080#32 * (mx (ix2 0 y) +
       Ideal.div (Ideal.log (den (ix2 0 y))) (Ideal.log (Ideal.ofBits FTy.f32 1073741824#32))) := by
  pointwise [lseRow]
  rfl

theorem select_le (k y : Fin 8192) (a b : EReal) :
    Scalar.select (k0_pay2 (ix2 k y)) a b = if k.val ≤ y.val then a else b := by
  pointwise [k0_pay2]
  have hk := k.isLt
  have hy := y.isLt
  by_cases h : k.val ≤ y.val
  · rw [if_pos h]
    have : IntOp.cmpi CmpIPredicate.sle (BitVec.ofNat 32 k.val) (BitVec.ofNat 32 y.val) = 1#1 := by word_omega
    rw [this]; rfl
  · rw [if_neg h]
    have : IntOp.cmpi CmpIPredicate.sle (BitVec.ofNat 32 k.val) (BitVec.ofNat 32 y.val) = 0#1 := by word_omega
    rw [this]; rfl

section
variable (a : Vec Ideal S8192x576 .bf16) (b : Vec Ideal S16x8192x576 .fp8e4m3) (c d : Vec Ideal S16x1x8192 .f32) (y : Fin 8192)

theorem pay3_apply (k : Fin 8192) : k0_pay3 a b c d (ix2 k y)
    = refSum (mainScore (fun k e => a (ix2 k e)) (fun h e => b (ix3 h y e)) (fun h => c (ix3 h 0 y))) (fun k : Fin 8192 => k.val ≤ y.val)
        (mainShift fun h => d (ix3 h 0 y)) (mainMax (fun k e => a (ix2 k e)) (fun h e => b (ix3 h y e)) (fun h => c (ix3 h 0 y)) (fun h => d (ix3 h 0 y)) y.val) k := by
  pointwise [k0_pay3]
  simp only [select_le, negInf, fold_max_bot]
  rfl

theorem pay4_apply : k0_pay4 a b c d (ix2 0 y) = ∑ k, k0_pay3 a b c d (ix2 k y) := by
  unfold k0_pay4
  generalize k0_pay3 a b c d = v
  pointwise []

theorem pay5_apply (p : FVec Ideal S8192x8192 .f32) (q : FVec Ideal S1x8192 .f32) (k : Fin 64) :
    k0_pay5 p q (Scalar.ofBits .f32 0x00000000#32) (ix2 k y)
      = ∑ j : Fin 128, Ideal.div (p (ix2 (blkKey k j) y)) (safe (q (ix2 0 y))) := by
  pointwise [k0_pay5]
  rfl

theorem blk_apply (k : Fin 64) : k0_pay5 (k0_pay3 a b c d) (k0_pay4 a b c d) (Scalar.ofBits .f32 0x00000000#32) (ix2 k y)
    = pBlock (fun k e => a (ix2 k e)) (fun h e => b (ix3 h y e)) (fun h => c (ix3 h 0 y)) (fun h => d (ix3 h 0 y)) y.val k := by
  rw [pay5_apply, pay4_apply]
  simp only [div_safe, pay3_apply]
  unfold pBlock ratio
  exact (sum_mul _ _ (fun j _ => Finset.sum_nonneg fun _ _ => exp2_nonneg _) _).symm
end

section
variable (a : Vec Ideal S8192x128 .fp8e4m3) (b : Vec Ideal S24x8192x128 .fp8e4m3) (c e : Vec Ideal S24x1x8192 .f32) (d : Vec Ideal S8192x1 .f32)
  (y : Fin 8192)

theorem pay6_apply (k : Fin 8192) : k0_pay6 k0_pay2 a b c d e (ix2 k y)
    = if k.val ≤ y.val then (∑ h, e (ix3 h 0 y) * max ((∑ x, a (ix2 k x) * b (ix3 h y x)) * c (ix3 h 0 y) * d (ix2 k 0)) 0) * cLog2e else ⊥ := by
  rw [← negInf, ← select_le]
  generalize k0_pay2 = v
  pointwise [k0_pay6]

theorem lse_apply (hc : ∀ h, 0 ≤ c (ix3 h 0 y)) (hd : ∀ k, 0 ≤ d (ix2 k 0)) (hd' : ∀ k, d (ix2 k 0) < ⊤) :
    k0_pay1 (k0_pay6 k0_pay2 a b c d e) (ix2 0 y)
      = lseI y.val (fun k x => a (ix2 k x)) (fun h x => b (ix3 h y x)) (fun h => e (ix3 h 0 y) * c (ix3 h 0 y)) (fun k => d (ix2 k 0)) := by
  have hs : ∀ k, k0_pay6 k0_pay2 a b c d e (ix2 k y)
      = idxLogit y.val (fun k x => a (ix2 k x)) (fun h x => b (ix3 h y x)) (fun h => e (ix3 h 0 y) * c (ix3 h 0 y)) (fun k => d (ix2 k 0)) k := fun k => by
    rw [pay6_apply]; unfold idxLogit
    simp only [relu_scale _ _ _ _ (hc _) (hd k)]
    rw [sum_mul_coe _ _ _ (hd k) (hd' k)]
  rw [pay1_eq, lseRow_apply, denRow_apply, mxRow_apply]
  simp only [hs, negInf, fold_max_bot]
  unfold lseI lseOf
  rw [den_key, ← sup_key]
end

end Cert.ReferenceIdeal.Point

end
-- ==== Proof.RefValue.lean ====
/- The reference's two result arrays over its arguments. -/
module

public import proofs.«01_k».proof.Proof.Gen.ReferenceIdeal.Frame
public import proofs.«01_k».proof.Proof.RefPoint
public import proofs.«01_k».proof.Proof.Result

@[expose] public section

set_option maxRecDepth 16384

noncomputable section

namespace Cert.ReferenceIdeal.Point

open Cert.ReferenceIdeal Cert.ReferenceIdeal.Gen Cert.Maths
open Idealize.ShloMosaic Idealize.ShloMosaic.TcCoe

variable (m : (ℓ : Loc nD τ sig) → Buf (Elt Ideal) ℓ) (c : Dev nD)

abbrev A0 : FVec Ideal S1x8192x16x576 .fp8e4m3 := m ((c.tc : Thread nD τ).loc main_arg0)
abbrev A1 : FVec Ideal S1x8192x16 .f32 := m ((c.tc : Thread nD τ).loc main_arg1)
abbrev A2 : FVec Ideal S1x8192x16 .f32 := m ((c.tc : Thread nD τ).loc main_arg2)
abbrev A3 : FVec Ideal S1x8192x24x128 .fp8e4m3 := m ((c.tc : Thread nD τ).loc main_arg3)
abbrev A4 : FVec Ideal S1x8192x24 .f32 := m ((c.tc : Thread nD τ).loc main_arg4)
abbrev A5 : FVec Ideal S1x8192x24 .f32 := m ((c.tc : Thread nD τ).loc main_arg5)
abbrev A6 : FVec Ideal S1x8192x576 .bf16 := m ((c.tc : Thread nD τ).loc main_arg6)
abbrev A7 : FVec Ideal S1x8192x128 .fp8e4m3 := m ((c.tc : Thread nD τ).loc main_arg7)
abbrev A8 : FVec Ideal S1x8192 .f32 := m ((c.tc : Thread nD τ).loc main_arg8)

abbrev X0 : FVec Ideal S16x8192x576 .fp8e4m3 := V m c main_v1
abbrev X1 : FVec Ideal S16x1x8192 .f32 := V m c main_v4
abbrev X2 : FVec Ideal S16x1x8192 .f32 := V m c main_v7
abbrev X3 : FVec Ideal S24x8192x128 .fp8e4m3 := V m c main_v9
abbrev X4 : FVec Ideal S24x1x8192 .f32 := V m c main_v12
abbrev X5 : FVec Ideal S24x1x8192 .f32 := V m c main_v15
abbrev X6 : FVec Ideal S8192x576 .bf16 := V m c main_v16
abbrev X7 : FVec Ideal S8192x128 .fp8e4m3 := V m c main_v17
abbrev X8 : FVec Ideal S8192x1 .f32 := V m c main_v19

theorem X0_apply (h : Fin 16) (y : Fin 8192) (d : Fin 576) : X0 m c (ix3 h y d) = A0 m c (ix4 0 y h d) := by
  unfold X0; entry_read; pointwise []; try blk_ext []
theorem X1_apply (h : Fin 16) (y : Fin 8192) : X1 m c (ix3 h 0 y) = A1 m c (ix3 0 y h) := by
  unfold X1; entry_read; pointwise []; try blk_ext []
theorem X2_apply (h : Fin 16) (y : Fin 8192) : X2 m c (ix3 h 0 y) = A2 m c (ix3 0 y h) := by
  unfold X2; entry_read; pointwise []; try blk_ext []
theorem X3_apply (h : Fin 24) (y : Fin 8192) (d : Fin 128) : X3 m c (ix3 h y d) = A3 m c (ix4 0 y h d) := by
  unfold X3; entry_read; pointwise []; try blk_ext []
theorem X4_apply (h : Fin 24) (y : Fin 8192) : X4 m c (ix3 h 0 y) = A4 m c (ix3 0 y h) := by
  unfold X4; entry_read; pointwise []; try blk_ext []
theorem X5_apply (h : Fin 24) (y : Fin 8192) : X5 m c (ix3 h 0 y) = A5 m c (ix3 0 y h) := by
  unfold X5; entry_read; pointwise []; try blk_ext []
theorem X6_apply (k : Fin 8192) (d : Fin 576) : X6 m c (ix2 k d) = A6 m c (ix3 0 k d) := by
  unfold X6; entry_read; pointwise []; try blk_ext []
theorem X7_apply (k : Fin 8192) (d : Fin 128) : X7 m c (ix2 k d) = A7 m c (ix3 0 k d) := by
  unfold X7; entry_read; pointwise []; try blk_ext []
theorem X8_apply (k : Fin 8192) : X8 m c (ix2 k 0) = A8 m c (ix2 0 k) := by
  unfold X8; entry_read; pointwise []; try blk_ext []

/-- The windows' block indices. -/
theorem idx : ∀ t : Fin cfg0.N,
    win0_0.index t = ![0, 0, 0] ∧ win0_1.index t = ![0, 0, 0] ∧ win0_2.index t = ![0, 0, 0] ∧ win0_3.index t = ![0, 0, 0]
      ∧ win0_4.index t = ![0, 0, 0] ∧ win0_5.index t = ![0, 0, 0] ∧ win0_6.index t = ![0, 0] ∧ win0_7.index t = ![0, 0]
      ∧ win0_8.index t = ![0, 0] ∧ win0_9.index t = ![0, 0] ∧ win0_10.index t = ![0, 0] :=
  (by decide +kernel : ∀ t : Fin grid0.N, _)

theorem iblk0 (t : Fin cfg0.N) : (iblk m c 0 t : FVec Ideal S16x8192x576 .fp8e4m3) = X0 m c := by
  blk_ext! [iblk, (idx t).1]
theorem iblk1 (t : Fin cfg0.N) : (iblk m c 1 t : FVec Ideal S16x1x8192 .f32) = X1 m c := by
  blk_ext! [iblk, (idx t).2.1]
theorem iblk2 (t : Fin cfg0.N) : (iblk m c 2 t : FVec Ideal S16x1x8192 .f32) = X2 m c := by
  blk_ext! [iblk, (idx t).2.2.1]
theorem iblk3 (t : Fin cfg0.N) : (iblk m c 3 t : FVec Ideal S24x8192x128 .fp8e4m3) = X3 m c := by
  blk_ext! [iblk, (idx t).2.2.2.1]
theorem iblk4 (t : Fin cfg0.N) : (iblk m c 4 t : FVec Ideal S24x1x8192 .f32) = X4 m c := by
  blk_ext! [iblk, (idx t).2.2.2.2.1]
theorem iblk5 (t : Fin cfg0.N) : (iblk m c 5 t : FVec Ideal S24x1x8192 .f32) = X5 m c := by
  blk_ext! [iblk, (idx t).2.2.2.2.2.1]
theorem iblk6 (t : Fin cfg0.N) : (iblk m c 6 t : FVec Ideal S8192x576 .bf16) = X6 m c := by
  blk_ext! [iblk, (idx t).2.2.2.2.2.2.1]
theorem iblk7 (t : Fin cfg0.N) : (iblk m c 7 t : FVec Ideal S8192x128 .fp8e4m3) = X7 m c := by
  blk_ext! [iblk, (idx t).2.2.2.2.2.2.2.1]
theorem iblk8 (t : Fin cfg0.N) : (iblk m c 8 t : FVec Ideal S8192x1 .f32) = X8 m c := by
  blk_ext! [iblk, (idx t).2.2.2.2.2.2.2.2.1]

theorem blk_arg (y : Fin 8192) (k : Fin 64) :
    (k0_pay5 (k0_pay3 (X6 m c) (X0 m c) (X1 m c) (X2 m c)) (k0_pay4 (X6 m c) (X0 m c) (X1 m c) (X2 m c)) (Scalar.ofBits .f32 0x00000000#32) : FVec Ideal S64x8192 .f32) (ix2 k y)
      = shareAt (A0 m c) (A1 m c) (A2 m c) (A6 m c) k y := by
  refine (blk_apply _ _ _ _ y k).trans ?_
  have e6 : (fun (k : Fin 8192) (e : Fin 576) => X6 m c (ix2 k e)) = fun k e => A6 m c (ix3 0 k e) := by
    funext k e; exact X6_apply m c k e
  have e0 : (fun (h : Fin 16) (e : Fin 576) => X0 m c (ix3 h y e)) = fun h e => A0 m c (ix4 0 y h e) := by
    funext h e; exact X0_apply m c h y e
  have e1 : (fun h : Fin 16 => X1 m c (ix3 h 0 y)) = fun h => A1 m c (ix3 0 y h) := by
    funext h; exact X1_apply m c h y
  have e2 : (fun h : Fin 16 => X2 m c (ix3 h 0 y)) = fun h => A2 m c (ix3 0 y h) := by
    funext h; exact X2_apply m c h y
  unfold shareAt
  rw [e6, e0, e1, e2]

theorem lse_arg (h4 : ∀ i, 0 ≤ A4 m c i) (h8 : ∀ i, 0 ≤ A8 m c i) (h8' : ∀ i, A8 m c i < ⊤) (y : Fin 8192) :
    (k0_pay1 (k0_pay6 k0_pay2 (X7 m c) (X3 m c) (X4 m c) (X8 m c) (X5 m c)) : FVec Ideal S1x8192 .f32) (ix2 0 y)
      = lseAt (A3 m c) (A4 m c) (A5 m c) (A7 m c) (A8 m c) y := by
  refine (lse_apply _ _ _ _ _ y (fun h => (h4 _).trans_eq (X4_apply m c h y).symm) (fun k => (h8 _).trans_eq (X8_apply m c k).symm)
    (fun k => (X8_apply m c k).trans_lt (h8' _))).trans ?_
  have e7 : (fun (k : Fin 8192) (e : Fin 128) => X7 m c (ix2 k e)) = fun k e => A7 m c (ix3 0 k e) := by
    funext k e; exact X7_apply m c k e
  have e3 : (fun (h : Fin 24) (e : Fin 128) => X3 m c (ix3 h y e)) = fun h e => A3 m c (ix4 0 y h e) := by
    funext h e; exact X3_apply m c h y e
  have e5 : (fun h : Fin 24 => X5 m c (ix3 h 0 y) * X4 m c (ix3 h 0 y)) = fun h => A5 m c (ix3 0 y h) * A4 m c (ix3 0 y h) := by
    funext h; exact congrArg₂ (fun a b : EReal => a * b) (X5_apply m c h y) (X4_apply m c h y)
  have e8 : (fun k : Fin 8192 => X8 m c (ix2 k 0)) = fun k => A8 m c (ix2 0 k) := by
    funext k; exact X8_apply m c k
  unfold lseAt
  rw [e7, e3, e5, e8]

/-- The second result's array: the block shares. -/
theorem final10 : (dats m 0 c).arrAt 10 (cfgs 0).N
    = (fun j => shareAt (A0 m c) (A1 m c) (A2 m c) (A6 m c) (j 0) (j 1) : FVec Ideal S64x8192 .f32) := by
  refine (dats m 0 c).arrAt_eq_of_after_last 10 t0_0 (by decide +kernel) _ fun j => ?_
  blk_simp
  rw [after0_10]
  frame_out
  obtain ⟨k, y, rfl⟩ : ∃ (k : Fin 64) (y : Fin 8192), j = ix2 k y := ⟨j 0, j 1, by blk_ext []⟩
  refine Eq.trans ?_ (blk_arg m c y k)
  rw [← iblk0 m c t0_0, ← iblk1 m c t0_0, ← iblk2 m c t0_0, ← iblk6 m c t0_0]

/-- The first result's array: the index heads' log-sum-exps. -/
theorem final9 (h4 : ∀ i, 0 ≤ A4 m c i) (h8 : ∀ i, 0 ≤ A8 m c i) (h8' : ∀ i, A8 m c i < ⊤) : (dats m 0 c).arrAt 9 (cfgs 0).N
    = (fun j => lseAt (A3 m c) (A4 m c) (A5 m c) (A7 m c) (A8 m c) (j 1) : FVec Ideal S1x8192 .f32) := by
  refine (dats m 0 c).arrAt_eq_of_after_last 9 t0_0 (by decide +kernel) _ fun j => ?_
  blk_simp
  rw [after0_9]
  frame_out
  obtain ⟨y, rfl⟩ : ∃ y : Fin 8192, j = ix2 0 y := ⟨j 1, by blk_ext []⟩
  refine Eq.trans ?_ (lse_arg m c h4 h8 h8' y)
  rw [← iblk3 m c t0_0, ← iblk4 m c t0_0, ← iblk5 m c t0_0, ← iblk7 m c t0_0, ← iblk8 m c t0_0]

end Cert.ReferenceIdeal.Point

end
-- ==== Proof.Algebraic.lean ====
/- The two programs end with equal results. -/
module

public import proofs.«01_k».proof.Defs
public import proofs.«01_k».proof.Proof.KerValue
public import proofs.«01_k».proof.Proof.RefValue
public import Idealize.ShloMosaic.Lib.Claim

@[expose] public section

set_option maxRecDepth 16384

noncomputable section

namespace Cert.Proof

open Idealize.ShloMosaic Idealize.ShloMosaic.TcCoe Idealize.ShloMosaic.Tactic
open Idealize.SL.Sem

theorem preFacts : Cert.Pre_scales.Facts := ⟨by decide, by decide⟩

/-- What the precondition says of the index queries' scales and of the index keys' scales. -/
theorem scales_at (h : Cert.Pre_scales.Facts) (a0 : FVec Ideal Cert.Pre_scales.S1x8192x16x576 .fp8e4m3) (a1 a2 : FVec Ideal Cert.Pre_scales.S1x8192x16 .f32)
    (a3 : FVec Ideal Cert.Pre_scales.S1x8192x24x128 .fp8e4m3) (a4 a5 : FVec Ideal Cert.Pre_scales.S1x8192x24 .f32)
    (a6 : FVec Ideal Cert.Pre_scales.S1x8192x576 .bf16) (a7 : FVec Ideal Cert.Pre_scales.S1x8192x128 .fp8e4m3) (a8 : FVec Ideal Cert.Pre_scales.S1x8192 .f32)
    (h1 : (Cert.Pre_scales.fn (F := Ideal) a0 a1 a2 a3 a4 a5 a6 a7 a8).1 = fun _ => 1#1)
    (h2 : (Cert.Pre_scales.fn (F := Ideal) a0 a1 a2 a3 a4 a5 a6 a7 a8).2 = fun _ => 1#1) :
    (∀ i, 0 ≤ a4 i) ∧ (∀ i, 0 ≤ a8 i) ∧ ∀ i, a8 i < ⊤ := by
  have k1 := fun i => congrFun h1 i
  have k2 := fun i => congrFun h2 i
  have bit : ∀ b : Bool, BitVec.ofBool b = 1#1 → b = true := by decide
  have both : ∀ a b : Bool, IntOp.andi (BitVec.ofBool a) (BitVec.ofBool b) = 1#1 → a = true ∧ b = true := by decide
  have top : Ideal.ofBits FTy.f32 2139095040#32 = ⊤ := by simp [Ideal.ofBits, Ideal.ieee]
  have k3 : ∀ i, 0 ≤ a8 i ∧ a8 i < ⊤ := fun i => by
    have := k2 i
    pointwise [Cert.Pre_scales.fn] at this
    obtain ⟨p, q⟩ := both _ _ this
    have q := of_decide_eq_true q
    rw [top] at q
    exact ⟨of_decide_eq_true p, q⟩
  refine ⟨fun i => ?_, fun i => (k3 i).1, fun i => (k3 i).2⟩
  have := k1 i
  pointwise [Cert.Pre_scales.fn] at this
  exact of_decide_eq_true (bit _ this)

/-- The kernel's run ends with its second and third results in closed form. -/
theorem kerRun (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v20_1) = (Cert.KernelIdeal.Body.dats m 0 c).arrAt 9 (Cert.KernelIdeal.cfgs (F := Ideal) 0).N
      ∧ r.2.mem ((c.tc : Thread Cert.KernelIdeal.nD Cert.KernelIdeal.τ).loc Cert.KernelIdeal.main_v20_2) = (Cert.KernelIdeal.Body.dats m 0 c).arrAt 10 (Cert.KernelIdeal.cfgs (F := Ideal) 0).N) :=
  (θ_run _ _ _).mono (fun _ h c => ⟨(h c).1 9, (h c).1 10⟩) (Cert.KernelIdeal.Body.run_main m g)

theorem refRun (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v20_0) = (Cert.ReferenceIdeal.Gen.dats m 0 c).arrAt 9 (Cert.ReferenceIdeal.cfgs 0).N
      ∧ r.2.mem ((c.tc : Thread Cert.ReferenceIdeal.nD Cert.ReferenceIdeal.τ).loc Cert.ReferenceIdeal.main_v20_1) = (Cert.ReferenceIdeal.Gen.dats m 0 c).arrAt 10 (Cert.ReferenceIdeal.cfgs 0).N) :=
  (θ_run _ _ _).mono (fun _ h c => ⟨(h c).1 9, (h c).1 10⟩) (Cert.ReferenceIdeal.Gen.run_main m g)

theorem algebraic (hp : Cert.Pre_scales.Facts) : Cert.algebraic_KernelIdeal_ReferenceIdeal_pre_scales (hKernelIdeal := Cert.KernelIdeal.Gen.facts)
    (hReferenceIdeal := Cert.ReferenceIdeal.Gen.facts) (hPre_scales := hp) := by
  intro m g m' g' hpre hagree
  refine ⟨fun c => (Cert.KernelIdeal.Body.dats m 0 c).arrAt 9 (Cert.KernelIdeal.cfgs (F := Ideal) 0).N,
    fun c => (Cert.KernelIdeal.Body.dats m 0 c).arrAt 10 (Cert.KernelIdeal.cfgs (F := Ideal) 0).N, ?_, ?_⟩
  · exact (θ_run _ _ _).mono (fun _ h c => ⟨(h.1 c).1, (h.1 c).2, h.2 c⟩) (θ_run_and (kerRun m g) (Cert.KernelIdeal.Body.unchanged m g))
  · refine (θ_run _ _ _).mono (fun _ h c => ⟨(h.1 c).1.trans ?_, (h.1 c).2.trans ?_, h.2 c⟩) (θ_run_and (refRun m' g') (Cert.ReferenceIdeal.Gen.unchanged m' g'))
    · obtain ⟨e0, e1, e2, e3, e4, e5, e6, e7, e8⟩ := hagree c
      obtain ⟨h4, h8, h8'⟩ := scales_at hp _ _ _ _ _ _ _ _ _ (hpre c).1 (hpre c).2
      refine (Cert.ReferenceIdeal.Point.final9 m' c ?_ ?_ ?_).trans ?_
      · rw [Cert.ReferenceIdeal.Point.A4, e4]; exact h4
      · rw [Cert.ReferenceIdeal.Point.A8, e8]; exact h8
      · rw [Cert.ReferenceIdeal.Point.A8, e8]; exact h8'
      · rw [Cert.ReferenceIdeal.Point.A3, Cert.ReferenceIdeal.Point.A4, Cert.ReferenceIdeal.Point.A5, Cert.ReferenceIdeal.Point.A7,
          Cert.ReferenceIdeal.Point.A8, e3, e4, e5, e7, e8]
        exact (Cert.KernelIdeal.Body.final9 m c).symm
    · obtain ⟨e0, e1, e2, e3, e4, e5, e6, e7, e8⟩ := hagree c
      refine (Cert.ReferenceIdeal.Point.final10 m' c).trans ?_
      rw [Cert.ReferenceIdeal.Point.A0, Cert.ReferenceIdeal.Point.A1, Cert.ReferenceIdeal.Point.A2, Cert.ReferenceIdeal.Point.A6, e0, e1, e2, e6]
      exact (Cert.KernelIdeal.Body.final10 m c).symm

end Cert.Proof

end
-- ==== Proof.KeySpec.lean ====
/- One row of the index keys in plain formulas: the layer norm, the rotation of the first 64 places, the scale and the codes. -/
module

public import proofs.«01_k».proof.Proof.Spec

@[expose] public section

noncomputable section

namespace Cert.Maths

open Idealize.ShloMosaic

/-- The constants 128, 1e-6, 448 and -448, each its own value. -/
abbrev c128 : EReal := Ideal.ofBits FTy.f32 0x43000000#32
abbrev cEps : EReal := Ideal.ofBits FTy.f32 0x358637BD#32
abbrev cMax : EReal := Ideal.ofBits FTy.f32 0x43E00000#32
abbrev cMin : EReal := Ideal.ofBits FTy.f32 0xC3E00000#32

/-- A row less its mean. -/
def centred (p : Fin 128 → EReal) (d : Fin 128) : EReal := p d - Ideal.div (∑ j, p j) c128

/-- The standard deviation of a row. -/
def deviation (p : Fin 128 → EReal) : EReal := Ideal.sqrt (Ideal.div (∑ j, centred p j * centred p j) c128 + cEps)

/-- A row after the layer norm with gains `g` and offsets `b`. -/
def normed (p g b : Fin 128 → EReal) (d : Fin 128) : EReal := Ideal.div (centred p d) (deviation p) * g d + b d

/-- The first 64 places of a row rotated in pairs `(d, d + 32)`, the others kept. -/
def rotated (k : Fin 128 → EReal) (cs sn : Fin 32 → EReal) (d : Fin 128) : EReal :=
  if h : d.val < 32 then k d * cs ⟨d.val, h⟩ - k ⟨d.val + 32, by omega⟩ * sn ⟨d.val, h⟩
  else if h' : d.val < 64 then
    k d * cs ⟨d.val - 32, by omega⟩ + k ⟨d.val - 32, by omega⟩ * sn ⟨d.val - 32, by omega⟩
  else k d

/-- The largest magnitude of a row. -/
def amax (v : Fin 128 → EReal) : EReal := Finset.univ.sup fun d => max (v d) (-v d)

/-- The scale of a row: its largest magnitude over 448, or 1 if that is zero. -/
def rowScale (v : Fin 128 → EReal) : EReal := if amax v = 0 then 1 else Ideal.div (amax v) cMax

/-- The codes of a row. -/
def rowCode (v : Fin 128 → EReal) (d : Fin 128) : EReal := min cMax (max cMin (Ideal.div (v d) (rowScale v)))

/-- The rotated key of token `r`. -/
def keyAt (x : Fin 8192 → Fin 7168 → EReal) (w : Fin 7168 → Fin 128 → EReal) (g b : Fin 128 → EReal) (cs sn : Fin 8192 → Fin 32 → EReal) (r : Fin 8192) :
    Fin 128 → EReal := rotated (normed (fun d => ∑ e, x r e * w e d) g b) (cs r) (sn r)

end Cert.Maths

end
-- ==== Proof.KeyKer.lean ====
/- The projection call's index keys at a point. -/
module

public import proofs.«01_k».proof.Proof.Gen.ProjectIdeal.Skeleton
public import proofs.«01_k».proof.Proof.KeySpec
public import Idealize.ShloMosaic.Lib.Pipeline.ValueKit

@[expose] public section

set_option maxRecDepth 16384

noncomputable section

namespace Cert.ProjectIdeal.Point

open Cert.ProjectIdeal Cert.ProjectIdeal.Gen Cert.Maths
open Idealize.ShloMosaic Idealize.ShloMosaic.TcCoe

section
variable (x : Vec Ideal S256x7168 .bf16) (w : Vec Ideal S7168x256 .bf16) (g b : Vec Ideal S1x128 .f32)

theorem pay434_apply (r : Fin 256) (d : Fin 256) : k0_pay434 x w (ix2 r d) = ∑ e, x (ix2 r e) * w (ix2 e d) := by
  pointwise [k0_pay434]

/-- The product before the norm. -/
def pre : FVec Ideal S256x128 .f32 :=
  extractStridedSlice S256x128 ![0, 0] (k0_pay434 x w) slices_S256x256_o0_0_S256x128

theorem pre_apply (r : Fin 256) (d : Fin 128) : pre x w (ix2 r d) = ∑ e, x (ix2 r e) * w (ix2 e ⟨d.val, by omega⟩) := by
  have h : pre x w (ix2 r d) = k0_pay434 x w (ix2 r ⟨d.val, by omega⟩) := by
    unfold pre
    generalize k0_pay434 x w = v
    pointwise []
    try blk_ext []
  rw [h, pay434_apply]

/-- A block less its rows' means. -/
def cent (v : FVec Ideal S256x128 .f32) : FVec Ideal S256x128 .f32 :=
  subf v (broadcastTo S256x128 (divf (shapeCast S256x1 (multiReduction .add [1] S256 v 0x00000000#32 reduces_S256x128_S256 (.inl rfl) rfl : FVec Ideal S256 .f32) shapeCasts_S256_S256x1 : FVec Ideal S256x1 .f32)
    (broadcast S256x1 (Scalar.ofBits .f32 0x43000000#32 : Ideal .f32))) broadcasts_S256x1_S256x128)

theorem cent_apply (v : FVec Ideal S256x128 .f32) (r : Fin 256) (d : Fin 128) :
    cent v (ix2 r d) = centred (fun d => v (ix2 r d)) d := by
  pointwise [cent]
  rfl

/-- A centred block over its rows' deviations, with gains. -/
def ln (v : FVec Ideal S256x128 .f32) (g : Vec Ideal S1x128 .f32) : FVec Ideal S256x128 .f32 :=
  mulf (divf v (broadcastTo S256x128 (sqrt (addf (divf (shapeCast S256x1 (multiReduction .add [1] S256 (mulf v v) 0x00000000#32 reduces_S256x128_S256 (.inl rfl) rfl : FVec Ideal S256 .f32) shapeCasts_S256_S256x1 : FVec Ideal S256x1 .f32)
    (broadcast S256x1 (Scalar.ofBits .f32 0x43000000#32 : Ideal .f32))) (broadcast S256x1 (Scalar.ofBits .f32 0x358637BD#32 : Ideal .f32)))) broadcasts_S256x1_S256x128))
    (broadcastTo S256x128 (shapeCast S1x128 g shapeCasts_S1x128_S1x128 : FVec Ideal S1x128 .f32) broadcasts_S1x128_S256x128)

theorem ln_apply (v : FVec Ideal S256x128 .f32) (r : Fin 256) (d : Fin 128) :
    ln v g (ix2 r d) = Ideal.div (v (ix2 r d)) (Ideal.sqrt (Ideal.div (∑ j, v (ix2 r j) * v (ix2 r j)) c128 + cEps)) * g (ix2 0 d) := by
  pointwise [ln]
  try rfl

theorem pay436_eq : k0_pay436 x w g = ln (cent (pre x w)) g := rfl

/-- The normed row of one token. -/
abbrev keyRow (r : Fin 256) : Fin 128 → EReal :=
  normed (fun d => ∑ e, x (ix2 r e) * w (ix2 e ⟨d.val, by omega⟩)) (fun d => g (ix2 0 d)) (fun d => b (ix2 0 d))

theorem norm_apply (r : Fin 256) (d : Fin 128) : k0_pay436 x w g (ix2 r d) + b (ix2 0 d) = keyRow x w g b r d := by
  rw [pay436_eq, ln_apply]
  simp only [cent_apply, pre_apply]
  rfl
end

section
variable (v : FVec Ideal S256x128 .f32) (b : Vec Ideal S1x128 .f32) (cs sn : Vec Ideal S32x256 .f32)

theorem pay439_parts (r : Fin 256) (d : Fin 128) : k0_pay439 v b cs sn (ix2 d r)
    = rotated (fun d => v (ix2 r d) + b (ix2 0 d)) (fun d => cs (ix2 d r)) (fun d => sn (ix2 d r)) d := by
  pointwise [k0_pay439, k0_pay437, k0_pay438]
  unfold rotated
  have hd := d.isLt
  by_cases h : d.val < 32
  · have e : (⟨32 + d.val, by omega⟩ : Fin 128) = ⟨d.val + 32, by omega⟩ := Fin.ext (Nat.add_comm _ _)
    simp only [dif_pos h, e]
  · by_cases h' : d.val < 64
    · have h2 : d.val - 32 < 32 := by omega
      have e : (⟨32 + (d.val - 32), by omega⟩ : Fin 128) = d := Fin.ext (by show 32 + (d.val - 32) = d.val; omega)
      simp only [dif_neg h, dif_pos h', dif_pos h2, e]
    · have h2 : ¬d.val - 32 < 32 := by omega
      have e : (⟨64 + (d.val - 32 - 32), by omega⟩ : Fin 128) = d := Fin.ext (by show 64 + (d.val - 32 - 32) = d.val; omega)
      simp only [dif_neg h, dif_neg h', dif_neg h2, e]

theorem pay440_apply (r : Fin 256) : k0_pay440 v b cs sn (ix2 0 r) = rowScale fun d => k0_pay439 v b cs sn (ix2 d r) := by
  unfold k0_pay440
  generalize k0_pay439 v b cs sn = u
  pointwise []
  simp only [negInf, fold_max_bot]
  rfl

theorem pay441_apply (r : Fin 256) (d : Fin 128) : k0_pay441 v b cs sn (ix2 r d) = rowCode (fun d => k0_pay439 v b cs sn (ix2 d r)) d := by
  unfold k0_pay441 rowCode
  rw [← pay440_apply]
  generalize k0_pay439 v b cs sn = u
  generalize k0_pay440 v b cs sn = s
  pointwise []
end

section
variable (x : Vec Ideal S256x7168 .bf16) (w : Vec Ideal S7168x256 .bf16) (g b : Vec Ideal S1x128 .f32) (cs sn : Vec Ideal S32x256 .f32)

theorem rot_apply (r : Fin 256) : (fun d => k0_pay439 (k0_pay436 x w g) b cs sn (ix2 d r))
    = rotated (keyRow x w g b r) (fun d => cs (ix2 d r)) (fun d => sn (ix2 d r)) := by
  funext d
  rw [pay439_parts, show (fun d => k0_pay436 x w g (ix2 r d) + b (ix2 0 d)) = keyRow x w g b r from funext fun d => norm_apply x w g b r d]

theorem rot_of (r : Fin 256) (xr : Fin 7168 → EReal) (wr : Fin 7168 → Fin 128 → EReal) (gr br : Fin 128 → EReal) (cr sr : Fin 32 → EReal)
    (h1 : ∀ e, x (ix2 r e) = xr e) (h4 : ∀ (e : Fin 7168) (d : Fin 128), w (ix2 e ⟨d.val, by omega⟩) = wr e d)
    (h5 : ∀ d, g (ix2 0 d) = gr d) (h6 : ∀ d, b (ix2 0 d) = br d) (h7 : ∀ i, cs (ix2 i r) = cr i) (h8 : ∀ i, sn (ix2 i r) = sr i) :
    (fun d => k0_pay439 (k0_pay436 x w g) b cs sn (ix2 d r)) = rotated (normed (fun d => ∑ e, xr e * wr e d) gr br) cr sr := by
  rw [rot_apply]
  unfold keyRow
  simp only [h1, h4, h5, h6, h7, h8]
end

end Cert.ProjectIdeal.Point

end
-- ==== Proof.KeyOut.lean ====
/- What a point of the projection call leaves for the index keys: the codes and the scales computed from its input blocks. -/
module

public import proofs.«01_k».proof.Proof.Gen.ProjectIdeal.Frame
public import Idealize.ShloMosaic.Lib.VecWindow
public import Idealize.ShloMosaic.Lib.Pipeline.ValueKit
public import proofs.«01_k».proof.Proof.KeyKer

@[expose] public section

set_option maxRecDepth 16384

noncomputable section

namespace Cert.ProjectIdeal.Point

open Cert.ProjectIdeal Cert.ProjectIdeal.Gen
open Idealize.ShloMosaic Idealize.ShloMosaic.TcCoe

variable (m : (ℓ : Loc nD τ sig) → Buf (Elt Ideal) ℓ) (c : Dev nD) (t : Fin (cfg0).N)

abbrev codesAt : FVec Ideal S256x128 .fp8e4m3 :=
  k0_pay441 (k0_pay436 (iblk m c 1 t) (iblk m c 4 t) (iblk m c 5 t)) (iblk m c 6 t) (iblk m c 7 t) (iblk m c 8 t)

abbrev scalesAt : FVec Ideal S1x256 .f32 :=
  k0_pay440 (k0_pay436 (iblk m c 1 t) (iblk m c 4 t) (iblk m c 5 t)) (iblk m c 6 t) (iblk m c 7 t) (iblk m c 8 t)

/-- A whole load of a staged block is the block. -/
theorem ld_full {s : Shape} {e : EltTy} (arg : Memref sig .tc .vmem s e) (h : arg.IsWhole) (x : Vec Ideal s e) {off : Fin s.rank → ℕ}
    (inb : ∀ a, off a + s.size a ≤ s.size a) :
    arg.view.readAt (Elt Ideal) (Rect.unit off s.size inb).toLoadRect (h.unread x) = x :=
  (View.readAt_full arg.view _ inb).trans (h.read_unread x)

theorem pay436_congr {x x' : Vec Ideal S256x7168 .bf16} {w w' : Vec Ideal S7168x256 .bf16} {g g' : Vec Ideal S1x128 .f32}
    (hx : x = x') (hw : w = w') (hg : g = g') : k0_pay436 x w g = k0_pay436 x' w' g' := by rw [hx, hw, hg]

theorem pay440_congr {v v' : FVec Ideal S256x128 .f32} {b b' : Vec Ideal S1x128 .f32} {cs cs' sn sn' : Vec Ideal S32x256 .f32}
    (hv : v = v') (hb : b = b') (hc : cs = cs') (hs : sn = sn') : k0_pay440 v b cs sn = k0_pay440 v' b' cs' sn' := by rw [hv, hb, hc, hs]

theorem pay441_congr {v v' : FVec Ideal S256x128 .f32} {b b' : Vec Ideal S1x128 .f32} {cs cs' sn sn' : Vec Ideal S32x256 .f32}
    (hv : v = v') (hb : b = b') (hc : cs = cs') (hs : sn = sn') : k0_pay441 v b cs sn = k0_pay441 v' b' cs' sn' := by rw [hv, hb, hc, hs]

theorem after_codes : (dats m 0 c).after 16 t = codesAt m c t := by
  rw [after0_16]
  by_cases h0 : t.val % 32 = 0
  · rw [outsAt0_A m c t h0]
    dsimp only
    unfold out0_A_16
    refine (View.read_writes_full VO0_16 _ _ _ []).trans ?_
    exact pay441_congr (pay436_congr (ld_full _ _ _ _) (ld_full _ _ _ _) (ld_full _ _ _ _)) (ld_full _ _ _ _) (ld_full _ _ _ _) (ld_full _ _ _ _)
  · rw [outsAt0_B m c t h0]
    dsimp only
    unfold out0_B_16
    refine (View.read_writes_full VO0_16 _ _ _ []).trans ?_
    exact pay441_congr (pay436_congr (ld_full _ _ _ _) (ld_full _ _ _ _) (ld_full _ _ _ _)) (ld_full _ _ _ _) (ld_full _ _ _ _) (ld_full _ _ _ _)

theorem after_scales : (dats m 0 c).after 17 t = scalesAt m c t := by
  rw [after0_17]
  by_cases h0 : t.val % 32 = 0
  · rw [outsAt0_A m c t h0]
    dsimp only
    unfold out0_A_17
    refine (View.read_writes_full VO0_17 _ _ _ []).trans ?_
    exact pay440_congr (pay436_congr (ld_full _ _ _ _) (ld_full _ _ _ _) (ld_full _ _ _ _)) (ld_full _ _ _ _) (ld_full _ _ _ _) (ld_full _ _ _ _)
  · rw [outsAt0_B m c t h0]
    dsimp only
    unfold out0_B_17
    refine (View.read_writes_full VO0_17 _ _ _ []).trans ?_
    exact pay440_congr (pay436_congr (ld_full _ _ _ _) (ld_full _ _ _ _) (ld_full _ _ _ _)) (ld_full _ _ _ _) (ld_full _ _ _ _) (ld_full _ _ _ _)

end Cert.ProjectIdeal.Point

end
-- ==== Proof.KeyKerValue.lean ====
/- The projection call's key codes and scales over its arguments. -/
module

public import proofs.«01_k».proof.Proof.KeyOut
public import proofs.«01_k».proof.Proof.KeyKer

@[expose] public section

set_option maxRecDepth 16384

noncomputable section

namespace Cert.ProjectIdeal.Point

open Cert.ProjectIdeal Cert.ProjectIdeal.Gen Cert.Maths
open Idealize.ShloMosaic Idealize.ShloMosaic.TcCoe

variable (m : (ℓ : Loc nD τ sig) → Buf (Elt Ideal) ℓ) (c : Dev nD)

abbrev A0 : FVec Ideal S1x8192x7168 .bf16 := m ((c.tc : Thread nD τ).loc main_arg0)
abbrev A4 : FVec Ideal S7168x128 .bf16 := m ((c.tc : Thread nD τ).loc main_arg4)
abbrev A5 : FVec Ideal S128 .f32 := m ((c.tc : Thread nD τ).loc main_arg5)
abbrev A6 : FVec Ideal S128 .f32 := m ((c.tc : Thread nD τ).loc main_arg6)
abbrev A8 : FVec Ideal S1x8192x32 .f32 := m ((c.tc : Thread nD τ).loc main_arg8)
abbrev A9 : FVec Ideal S1x8192x32 .f32 := m ((c.tc : Thread nD τ).loc main_arg9)

/-- The rotated key of token `r` over the arguments. -/
def argKey (r : Fin 8192) : Fin 128 → EReal :=
  keyAt (fun r e => A0 m c (ix3 0 r e)) (fun e d => A4 m c (ix2 e d)) (fun d => A5 m c (ix1 d)) (fun d => A6 m c (ix1 d))
    (fun r i => A8 m c (ix3 0 r i)) (fun r i => A9 m c (ix3 0 r i)) r

abbrev X1 : FVec Ideal S8192x7168 .bf16 := V m c main_v2
abbrev X4 : FVec Ideal S7168x256 .bf16 := V m c main_v1
abbrev X5 : FVec Ideal S1x128 .f32 := V m c main_v5
abbrev X6 : FVec Ideal S1x128 .f32 := V m c main_v6
abbrev X7 : FVec Ideal S32x8192 .f32 := V m c main_v8
abbrev X8 : FVec Ideal S32x8192 .f32 := V m c main_v10

theorem X1_apply (r : Fin 8192) (e : Fin 7168) : X1 m c (ix2 r e) = A0 m c (ix3 0 r e) := by
  unfold X1; entry_read; pointwise []; try blk_ext []
theorem entry4 : (X4 m c : FVec Ideal S7168x256 .bf16)
    = concatenate S7168x256 1 [⟨S7168x128, A4 m c⟩, ⟨S7168x24, (m ((c.tc : Thread nD τ).loc main_arg7) : FVec Ideal S7168x24 .bf16)⟩, ⟨S7168x104, broadcastInDim S7168x104 ![] bcast_S_S7168x104 (constant S_ .bf16 0x0000#16 : FVec Ideal S_ .bf16)⟩]
        concatenates_S7168x128_S7168x24_S7168x104_S7168x256_d1 := by
  unfold X4 V
  unfold hostOps0
  rw [StableHlo.after_cons, StableHlo.after_cons, StableHlo.after_cons]
  refine (StableHlo.after_of_forall_not_mem (b := Proc.devRef .tc main_v1) _ _ (List.forall_iff_forall_mem.mp (by
    simp only [List.Forall, StableHlo.nullary_writes, StableHlo.unary_writes, StableHlo.binary_writes, StableHlo.reshape_writes, Finset.mem_singleton]
    repeat' apply And.intro
    all_goals exact StableHlo.devRef_ne_of_ne (by decide)))).trans ?_
  exact StableHlo.nary_result _ _ _ _ _ _
theorem X4_apply (e : Fin 7168) (d : Fin 128) : X4 m c (ix2 e ⟨d.val, by omega⟩) = A4 m c (ix2 e d) := by
  rw [entry4]; pointwise []
theorem X5_apply (d : Fin 128) : X5 m c (ix2 0 d) = A5 m c (ix1 d) := by
  unfold X5; entry_read; pointwise []; try blk_ext []
theorem X6_apply (d : Fin 128) : X6 m c (ix2 0 d) = A6 m c (ix1 d) := by
  unfold X6; entry_read; pointwise []; try blk_ext []
theorem X7_apply (i : Fin 32) (r : Fin 8192) : X7 m c (ix2 i r) = A8 m c (ix3 0 r i) := by
  unfold X7; entry_read; pointwise []; try blk_ext []
theorem X8_apply (i : Fin 32) (r : Fin 8192) : X8 m c (ix2 i r) = A9 m c (ix3 0 r i) := by
  unfold X8; entry_read; pointwise []; try blk_ext []

/-- The windows' block indices. -/
theorem idx : ∀ t : Fin cfg0.N,
    win0_1.index t = ![t.val, 0] ∧ win0_4.index t = ![0, 0] ∧ win0_5.index t = ![0, 0] ∧ win0_6.index t = ![0, 0]
      ∧ win0_7.index t = ![0, t.val] ∧ win0_8.index t = ![0, t.val] ∧ win0_16.index t = ![t.val, 0] ∧ win0_17.index t = ![0, t.val] ∧ t.val < 32 :=
  (by decide +kernel : ∀ t : Fin grid0.N, _)

theorem pt_lt (t : Fin cfg0.N) : t.val < 32 := (idx t).2.2.2.2.2.2.2.2

/-- The token at row `y` of point `t`'s tile. -/
def tokAt (t : Fin cfg0.N) (y : Fin 256) : Fin 8192 := ⟨256 * t.val + y.val, by have := pt_lt t; omega⟩

theorem blk1 (t : Fin cfg0.N) (y : Fin 256) (e : Fin 7168) : (iblk m c 1 t : FVec Ideal S256x7168 .bf16) (ix2 y e) = X1 m c (ix2 (tokAt t y) e) := by
  unfold tokAt
  blk_ext [iblk, (idx t).1]
theorem blk4 (t : Fin cfg0.N) (e : Fin 7168) (d : Fin 256) : (iblk m c 4 t : FVec Ideal S7168x256 .bf16) (ix2 e d) = X4 m c (ix2 e d) := by
  blk_ext [iblk, (idx t).2.1]
theorem blk5 (t : Fin cfg0.N) (d : Fin 128) : (iblk m c 5 t : FVec Ideal S1x128 .f32) (ix2 0 d) = X5 m c (ix2 0 d) := by
  blk_ext [iblk, (idx t).2.2.1]
theorem blk6 (t : Fin cfg0.N) (d : Fin 128) : (iblk m c 6 t : FVec Ideal S1x128 .f32) (ix2 0 d) = X6 m c (ix2 0 d) := by
  blk_ext [iblk, (idx t).2.2.2.1]
theorem blk7 (t : Fin cfg0.N) (i : Fin 32) (y : Fin 256) : (iblk m c 7 t : FVec Ideal S32x256 .f32) (ix2 i y) = X7 m c (ix2 i (tokAt t y)) := by
  unfold tokAt
  blk_ext [iblk, (idx t).2.2.2.2.1]
theorem blk8 (t : Fin cfg0.N) (i : Fin 32) (y : Fin 256) : (iblk m c 8 t : FVec Ideal S32x256 .f32) (ix2 i y) = X8 m c (ix2 i (tokAt t y)) := by
  unfold tokAt
  blk_ext [iblk, (idx t).2.2.2.2.2.1]

theorem rot_arg (t : Fin cfg0.N) (y : Fin 256) :
    (fun d => k0_pay439 (k0_pay436 (iblk m c 1 t) (iblk m c 4 t) (iblk m c 5 t)) (iblk m c 6 t) (iblk m c 7 t) (iblk m c 8 t) (ix2 d y)) = argKey m c (tokAt t y) := by
  unfold argKey keyAt
  exact rot_of _ _ _ _ _ _ y _ _ _ _ _ _ (fun e => (blk1 m c t y e).trans (X1_apply m c _ e)) (fun e d => (blk4 m c t e _).trans (X4_apply m c e d))
    (fun d => (blk5 m c t d).trans (X5_apply m c d)) (fun d => (blk6 m c t d).trans (X6_apply m c d))
    (fun i => (blk7 m c t i y).trans (X7_apply m c i _)) (fun i => (blk8 m c t i y).trans (X8_apply m c i _))

theorem codes_arg (t : Fin cfg0.N) (y : Fin 256) (d : Fin 128) : codesAt m c t (ix2 y d) = rowCode (argKey m c (tokAt t y)) d :=
  (pay441_apply _ _ _ _ y d).trans (congrArg (rowCode · d) (rot_arg m c t y))

theorem scales_arg (t : Fin cfg0.N) (y : Fin 256) : scalesAt m c t (ix2 0 y) = rowScale (argKey m c (tokAt t y)) :=
  (pay440_apply _ _ _ _ y).trans (congrArg rowScale (rot_arg m c t y))

/-- The eighth result's array: the key codes. -/
theorem final16 : (dats m 0 c).arrAt 16 (cfgs 0).N
    = (fun j => rowCode (argKey m c (j 0)) (j 1) : FVec Ideal S8192x128 .fp8e4m3) := by
  refine (dats m 0 c).arrAt_eq_of_covers 16 _ (by decide +kernel) fun t _ y => ?_
  blk_simp
  rw [after_codes]
  obtain ⟨q, d, rfl⟩ : ∃ (q : Fin 256) (d : Fin 128), y = ix2 q d := ⟨y 0, y 1, by blk_ext []⟩
  refine (codes_arg m c t q d).trans ?_
  have hi := (idx t).2.2.2.2.2.2.1
  congr 1
  · congr 1
    refine Fin.ext ?_
    unfold tokAt
    blk_simp [hi]
    exact congrArg (· + q.val) (Nat.mul_comm _ _)
  · refine Fin.ext ?_
    blk_simp [hi]

/-- The ninth result's array: the key scales. -/
theorem final17 : (dats m 0 c).arrAt 17 (cfgs 0).N
    = (fun j => rowScale (argKey m c (j 1)) : FVec Ideal S1x8192 .f32) := by
  refine (dats m 0 c).arrAt_eq_of_covers 17 _ (by decide +kernel) fun t _ y => ?_
  blk_simp
  rw [after_scales]
  obtain ⟨q, rfl⟩ : ∃ q : Fin 256, y = ix2 0 q := ⟨y 1, by blk_ext []⟩
  refine (scales_arg m c t q).trans ?_
  have hi := (idx t).2.2.2.2.2.2.2.1
  congr 1
  congr 1
  refine Fin.ext ?_
  unfold tokAt
  blk_simp [hi]
  exact congrArg (· + q.val) (Nat.mul_comm _ _)

end Cert.ProjectIdeal.Point

end
-- ==== Proof.KeyRef.lean ====
/- The reference of the index keys at a point. -/
module

public import proofs.«01_k».proof.Proof.Gen.KeysIdeal.Frame
public import proofs.«01_k».proof.Proof.KeySpec
public import Idealize.ShloMosaic.Lib.Pipeline.ValueKit

@[expose] public section

set_option maxRecDepth 16384

noncomputable section

namespace Cert.KeysIdeal.Point

open Cert.KeysIdeal Cert.KeysIdeal.Gen Cert.Maths
open Idealize.ShloMosaic Idealize.ShloMosaic.TcCoe

section
variable (x : Vec Ideal S8192x7168 .bf16) (w : Vec Ideal S7168x128 .bf16) (g b : Vec Ideal S1x128 .f32)

/-- The product before the norm. -/
def pre : FVec Ideal S8192x128 .f32 :=
  matmul (φ₁ := .bf16) (φ₂ := .bf16) dot_S8192x7168_S7168x128_S8192x128_1_0_0_1_n_n none (shapeCast S8192x7168 x shapeCasts_S8192x7168_S8192x7168 : FVec Ideal S8192x7168 .bf16) w
    (constant S8192x128 .f32 0x00000000#32)

theorem pre_apply (r : Fin 8192) (d : Fin 128) : pre x w (ix2 r d) = ∑ e, x (ix2 r e) * w (ix2 e d) := by
  pointwise [pre]

/-- A block less its rows' means. -/
def cent (v : FVec Ideal S8192x128 .f32) : FVec Ideal S8192x128 .f32 :=
  subf v (broadcastTo S8192x128 (divf (shapeCast S8192x1 (multiReduction .add [1] S8192 v 0x00000000#32 reduces_S8192x128_S8192 (.inl rfl) rfl : FVec Ideal S8192 .f32) shapeCasts_S8192_S8192x1 : FVec Ideal S8192x1 .f32)
    (broadcast S8192x1 (Scalar.ofBits .f32 0x43000000#32 : Ideal .f32))) broadcasts_S8192x1_S8192x128)

theorem cent_apply (v : FVec Ideal S8192x128 .f32) (r : Fin 8192) (d : Fin 128) :
    cent v (ix2 r d) = centred (fun d => v (ix2 r d)) d := by
  pointwise [cent]
  rfl

/-- A centred block over its rows' deviations, with gains and offsets. -/
def ln (v : FVec Ideal S8192x128 .f32) (g b : Vec Ideal S1x128 .f32) : FVec Ideal S8192x128 .f32 :=
  addf (mulf (divf v (broadcastTo S8192x128 (sqrt (addf (divf (shapeCast S8192x1 (multiReduction .add [1] S8192 (mulf v v) 0x00000000#32 reduces_S8192x128_S8192 (.inl rfl) rfl : FVec Ideal S8192 .f32) shapeCasts_S8192_S8192x1 : FVec Ideal S8192x1 .f32)
    (broadcast S8192x1 (Scalar.ofBits .f32 0x43000000#32 : Ideal .f32))) (broadcast S8192x1 (Scalar.ofBits .f32 0x358637BD#32 : Ideal .f32)))) broadcasts_S8192x1_S8192x128))
    (broadcastTo S8192x128 (shapeCast S1x128 g shapeCasts_S1x128_S1x128 : FVec Ideal S1x128 .f32) broadcasts_S1x128_S8192x128))
    (broadcastTo S8192x128 (shapeCast S1x128 b shapeCasts_S1x128_S1x128 : FVec Ideal S1x128 .f32) broadcasts_S1x128_S8192x128)

theorem ln_apply (v : FVec Ideal S8192x128 .f32) (r : Fin 8192) (d : Fin 128) :
    ln v g b (ix2 r d) = Ideal.div (v (ix2 r d)) (Ideal.sqrt (Ideal.div (∑ j, v (ix2 r j) * v (ix2 r j)) c128 + cEps)) * g (ix2 0 d) + b (ix2 0 d) := by
  pointwise [ln]
  try rfl

theorem pay5_eq : k0_pay5 x w g b = ln (cent (pre x w)) g b := rfl

theorem pay5_apply (r : Fin 8192) (d : Fin 128) : k0_pay5 x w g b (ix2 r d)
    = normed (fun d => ∑ e, x (ix2 r e) * w (ix2 e d)) (fun d => g (ix2 0 d)) (fun d => b (ix2 0 d)) d := by
  rw [pay5_eq, ln_apply]
  simp only [cent_apply, pre_apply]
  rfl

theorem pay6_apply (r : Fin 8192) (d : Fin 32) : k0_pay6 x w g b (ix2 r d) = k0_pay5 x w g b (ix2 r ⟨d.val, by omega⟩) := by
  unfold k0_pay6
  generalize k0_pay5 x w g b = v
  pointwise []
  try blk_ext []

theorem pay7_apply (r : Fin 8192) (d : Fin 32) : k0_pay7 x w g b (ix2 r d) = k0_pay5 x w g b (ix2 r ⟨d.val + 32, by omega⟩) := by
  unfold k0_pay7
  generalize k0_pay5 x w g b = v
  pointwise []
  try blk_ext []

variable (cs sn : Vec Ideal S8192x32 .f32)

theorem pay8_apply (r : Fin 8192) (d : Fin 32) : k0_pay8 x w g b cs sn (ix2 r d)
    = k0_pay6 x w g b (ix2 r d) * cs (ix2 r d) - k0_pay7 x w g b (ix2 r d) * sn (ix2 r d) := by
  unfold k0_pay8
  generalize k0_pay6 x w g b = v
  generalize k0_pay7 x w g b = u
  pointwise []

theorem pay9_apply (r : Fin 8192) (d : Fin 32) : k0_pay9 x w g b cs (ix2 r d) = k0_pay7 x w g b (ix2 r d) * cs (ix2 r d) := by
  unfold k0_pay9
  generalize k0_pay7 x w g b = u
  pointwise []

theorem pay1_parts (k : FVec Ideal S8192x128 .f32) (a c t : FVec Ideal S8192x32 .f32) (s : Vec Ideal S8192x32 .f32) (r : Fin 8192) (d : Fin 128) :
    k0_pay1 k a c t s (ix2 r d) = if h : d.val < 32 then c (ix2 r ⟨d.val, h⟩) else if h' : d.val < 64 then
      t (ix2 r ⟨d.val - 32, by omega⟩) + a (ix2 r ⟨d.val - 32, by omega⟩) * s (ix2 r ⟨d.val - 32, by omega⟩) else k (ix2 r d) := by
  pointwise [k0_pay1]
  have hd := d.isLt
  by_cases h : d.val < 32
  · rw [dif_pos h, dif_pos h]
  · rw [dif_neg h, dif_neg h]
    by_cases h' : d.val < 64
    · rw [dif_pos (show d.val - 32 < 32 by omega), dif_pos h']
    · rw [dif_neg (show ¬d.val - 32 < 32 by omega), dif_neg h']
      exact congrArg k (congrArg (ix2 r) (Fin.ext (by show 64 + (d.val - 32 - 32) = d.val; omega)))

/-- The normed row of one token. -/
abbrev keyRow (r : Fin 8192) : Fin 128 → EReal :=
  normed (fun d => ∑ e, x (ix2 r e) * w (ix2 e d)) (fun d => g (ix2 0 d)) (fun d => b (ix2 0 d))

/-- The rotated block. -/
abbrev rot : FVec Ideal S8192x128 .f32 :=
  k0_pay1 (k0_pay5 x w g b) (k0_pay6 x w g b) (k0_pay8 x w g b cs sn) (k0_pay9 x w g b cs) sn

theorem rot_apply (r : Fin 8192) (d : Fin 128) : rot x w g b cs sn (ix2 r d)
    = rotated (keyRow x w g b r) (fun d => cs (ix2 r d)) (fun d => sn (ix2 r d)) d := by
  unfold rot
  rw [pay1_parts]
  unfold rotated
  have hd := d.isLt
  by_cases h : d.val < 32
  · rw [dif_pos h, dif_pos h, pay8_apply, pay6_apply, pay7_apply, pay5_apply, pay5_apply]
  · rw [dif_neg h, dif_neg h]
    by_cases h' : d.val < 64
    · rw [dif_pos h', dif_pos h', pay9_apply, pay6_apply, pay7_apply, pay5_apply, pay5_apply]
      have e : (⟨d.val - 32 + 32, by omega⟩ : Fin 128) = d := Fin.ext (by show d.val - 32 + 32 = d.val; omega)
      rw [e]
    · rw [dif_neg h', dif_neg h', pay5_apply]
end

section
variable (k : FVec Ideal S8192x128 .f32) (a c t : FVec Ideal S8192x32 .f32) (s : Vec Ideal S8192x32 .f32)

theorem pay2_apply (r : Fin 8192) : k0_pay2 k a c t s (ix2 r 0) = rowScale fun d => k0_pay1 k a c t s (ix2 r d) := by
  unfold k0_pay2
  generalize k0_pay1 k a c t s = v
  pointwise []
  simp only [negInf, fold_max_bot]
  rfl

theorem pay3_apply (r : Fin 8192) (d : Fin 128) : k0_pay3 k a c t s (ix2 r d) = rowCode (fun d => k0_pay1 k a c t s (ix2 r d)) d := by
  unfold k0_pay3 rowCode
  rw [← pay2_apply]
  generalize k0_pay1 k a c t s = v
  generalize k0_pay2 k a c t s = u
  pointwise []

theorem pay4_apply (r : Fin 8192) : k0_pay4 k a c t s (ix2 0 r) = k0_pay2 k a c t s (ix2 r 0) := by
  unfold k0_pay4
  generalize k0_pay2 k a c t s = v
  pointwise []
end

end Cert.KeysIdeal.Point

end
-- ==== Proof.KeyRefValue.lean ====
/- The reference's key codes and scales over its arguments. -/
module

public import proofs.«01_k».proof.Proof.KeyRef

@[expose] public section

set_option maxRecDepth 16384

noncomputable section

namespace Cert.KeysIdeal.Point

open Cert.KeysIdeal Cert.KeysIdeal.Gen Cert.Maths
open Idealize.ShloMosaic Idealize.ShloMosaic.TcCoe

variable (m : (ℓ : Loc nD τ sig) → Buf (Elt Ideal) ℓ) (c : Dev nD)

abbrev A0 : FVec Ideal S1x8192x7168 .bf16 := m ((c.tc : Thread nD τ).loc main_arg0)
abbrev A4 : FVec Ideal S7168x128 .bf16 := m ((c.tc : Thread nD τ).loc main_arg4)
abbrev A5 : FVec Ideal S128 .f32 := m ((c.tc : Thread nD τ).loc main_arg5)
abbrev A6 : FVec Ideal S128 .f32 := m ((c.tc : Thread nD τ).loc main_arg6)
abbrev A8 : FVec Ideal S1x8192x32 .f32 := m ((c.tc : Thread nD τ).loc main_arg8)
abbrev A9 : FVec Ideal S1x8192x32 .f32 := m ((c.tc : Thread nD τ).loc main_arg9)

/-- The rotated key of token `r` over the arguments. -/
def argKey (r : Fin 8192) : Fin 128 → EReal :=
  keyAt (fun r e => A0 m c (ix3 0 r e)) (fun e d => A4 m c (ix2 e d)) (fun d => A5 m c (ix1 d)) (fun d => A6 m c (ix1 d))
    (fun r i => A8 m c (ix3 0 r i)) (fun r i => A9 m c (ix3 0 r i)) r

abbrev X0 : FVec Ideal S8192x7168 .bf16 := V m c main_v0
abbrev X1 : FVec Ideal S7168x128 .bf16 := V m c main_arg4
abbrev X2 : FVec Ideal S1x128 .f32 := V m c main_v1
abbrev X3 : FVec Ideal S1x128 .f32 := V m c main_v2
abbrev X4 : FVec Ideal S8192x32 .f32 := V m c main_v3
abbrev X5 : FVec Ideal S8192x32 .f32 := V m c main_v4

theorem X0_apply (r : Fin 8192) (e : Fin 7168) : X0 m c (ix2 r e) = A0 m c (ix3 0 r e) := by
  unfold X0; entry_read; pointwise []; try blk_ext []
theorem X1_apply (e : Fin 7168) (d : Fin 128) : X1 m c (ix2 e d) = A4 m c (ix2 e d) := congrFun (V_main_arg4 m c) _
theorem X2_apply (d : Fin 128) : X2 m c (ix2 0 d) = A5 m c (ix1 d) := by
  unfold X2; entry_read; pointwise []; try blk_ext []
theorem X3_apply (d : Fin 128) : X3 m c (ix2 0 d) = A6 m c (ix1 d) := by
  unfold X3; entry_read; pointwise []; try blk_ext []
theorem X4_apply (r : Fin 8192) (i : Fin 32) : X4 m c (ix2 r i) = A8 m c (ix3 0 r i) := by
  unfold X4; entry_read; pointwise []; try blk_ext []
theorem X5_apply (r : Fin 8192) (i : Fin 32) : X5 m c (ix2 r i) = A9 m c (ix3 0 r i) := by
  unfold X5; entry_read; pointwise []; try blk_ext []

/-- The windows' block indices. -/
theorem idx : ∀ t : Fin cfg0.N,
    win0_0.index t = ![0, 0] ∧ win0_1.index t = ![0, 0] ∧ win0_2.index t = ![0, 0] ∧ win0_3.index t = ![0, 0]
      ∧ win0_4.index t = ![0, 0] ∧ win0_5.index t = ![0, 0] :=
  (by decide +kernel : ∀ t : Fin grid0.N, _)

theorem iblk0 (t : Fin cfg0.N) : (iblk m c 0 t : FVec Ideal S8192x7168 .bf16) = X0 m c := by
  blk_ext! [iblk, (idx t).1]
theorem iblk1 (t : Fin cfg0.N) : (iblk m c 1 t : FVec Ideal S7168x128 .bf16) = X1 m c := by
  blk_ext! [iblk, (idx t).2.1]
theorem iblk2 (t : Fin cfg0.N) : (iblk m c 2 t : FVec Ideal S1x128 .f32) = X2 m c := by
  blk_ext! [iblk, (idx t).2.2.1]
theorem iblk3 (t : Fin cfg0.N) : (iblk m c 3 t : FVec Ideal S1x128 .f32) = X3 m c := by
  blk_ext! [iblk, (idx t).2.2.2.1]
theorem iblk4 (t : Fin cfg0.N) : (iblk m c 4 t : FVec Ideal S8192x32 .f32) = X4 m c := by
  blk_ext! [iblk, (idx t).2.2.2.2.1]
theorem iblk5 (t : Fin cfg0.N) : (iblk m c 5 t : FVec Ideal S8192x32 .f32) = X5 m c := by
  blk_ext! [iblk, (idx t).2.2.2.2.2]

theorem rot_arg (r : Fin 8192) : (fun d => rot (X0 m c) (X1 m c) (X2 m c) (X3 m c) (X4 m c) (X5 m c) (ix2 r d)) = argKey m c r := by
  funext d
  rw [rot_apply]
  unfold argKey keyAt keyRow
  have hk : (fun d => ∑ e, X0 m c (ix2 r e) * X1 m c (ix2 e d)) = fun d => ∑ e, A0 m c (ix3 0 r e) * A4 m c (ix2 e d) :=
    funext fun d => Finset.sum_congr rfl fun e _ => congrArg₂ (· * ·) (X0_apply m c r e) (X1_apply m c e d)
  have hg : (fun d => X2 m c (ix2 0 d)) = fun d => A5 m c (ix1 d) := funext (X2_apply m c)
  have hb : (fun d => X3 m c (ix2 0 d)) = fun d => A6 m c (ix1 d) := funext (X3_apply m c)
  have hc : (fun i => X4 m c (ix2 r i)) = fun i => A8 m c (ix3 0 r i) := funext (X4_apply m c r)
  have hs : (fun i => X5 m c (ix2 r i)) = fun i => A9 m c (ix3 0 r i) := funext (X5_apply m c r)
  rw [hk, hg, hb, hc, hs]

theorem codes_arg (r : Fin 8192) (d : Fin 128) :
    (k0_pay3 (k0_pay5 (X0 m c) (X1 m c) (X2 m c) (X3 m c)) (k0_pay6 (X0 m c) (X1 m c) (X2 m c) (X3 m c))
      (k0_pay8 (X0 m c) (X1 m c) (X2 m c) (X3 m c) (X4 m c) (X5 m c)) (k0_pay9 (X0 m c) (X1 m c) (X2 m c) (X3 m c) (X4 m c)) (X5 m c)
      : FVec Ideal S8192x128 .fp8e4m3) (ix2 r d) = rowCode (argKey m c r) d :=
  (pay3_apply _ _ _ _ _ r d).trans (congrArg (rowCode · d) (rot_arg m c r))

theorem scales_arg (r : Fin 8192) :
    (k0_pay4 (k0_pay5 (X0 m c) (X1 m c) (X2 m c) (X3 m c)) (k0_pay6 (X0 m c) (X1 m c) (X2 m c) (X3 m c))
      (k0_pay8 (X0 m c) (X1 m c) (X2 m c) (X3 m c) (X4 m c) (X5 m c)) (k0_pay9 (X0 m c) (X1 m c) (X2 m c) (X3 m c) (X4 m c)) (X5 m c)
      : FVec Ideal S1x8192 .f32) (ix2 0 r) = rowScale (argKey m c r) :=
  (pay4_apply _ _ _ _ _ r).trans ((pay2_apply _ _ _ _ _ r).trans (congrArg rowScale (rot_arg m c r)))

theorem zeros : (![0, 0] : Fin 2 → ℕ) = fun _ => 0 := by decide
/-- A whole load of a block is the block. -/
theorem ld0 (x : Vec Ideal S8192x7168 .bf16) : View.ld x r0_0 = x := View.ld_unit_zero zeros _ x
theorem ld1 (x : Vec Ideal S7168x128 .bf16) : View.ld x r0_1 = x := View.ld_unit_zero zeros _ x
theorem ld2 (x : Vec Ideal S1x128 .f32) : View.ld x r0_2 = x := View.ld_unit_zero zeros _ x
theorem ld3 (x : Vec Ideal S8192x32 .f32) : View.ld x r0_3 = x := View.ld_unit_zero zeros _ x

theorem pay10_eq (x0 : Vec Ideal S8192x7168 .bf16) (x1 : Vec Ideal S7168x128 .bf16) (x2 x3 : Vec Ideal S1x128 .f32) (x4 x5 : Vec Ideal S8192x32 .f32) : k0_pay10 x0 x1 x2 x3 x4 x5 = k0_pay5 x0 x1 x2 x3 := by
  unfold k0_pay10; rw [ld0 x0, ld1 x1, ld2 x2, ld2 x3]
theorem pay11_eq (x0 : Vec Ideal S8192x7168 .bf16) (x1 : Vec Ideal S7168x128 .bf16) (x2 x3 : Vec Ideal S1x128 .f32) (x4 x5 : Vec Ideal S8192x32 .f32) : k0_pay11 x0 x1 x2 x3 x4 x5 = k0_pay6 x0 x1 x2 x3 := by
  unfold k0_pay11; rw [ld0 x0, ld1 x1, ld2 x2, ld2 x3]
theorem pay12_eq (x0 : Vec Ideal S8192x7168 .bf16) (x1 : Vec Ideal S7168x128 .bf16) (x2 x3 : Vec Ideal S1x128 .f32) (x4 x5 : Vec Ideal S8192x32 .f32) : k0_pay12 x0 x1 x2 x3 x4 x5 = k0_pay8 x0 x1 x2 x3 x4 x5 := by
  unfold k0_pay12; rw [ld0 x0, ld1 x1, ld2 x2, ld2 x3, ld3 x4, ld3 x5]
theorem pay13_eq (x0 : Vec Ideal S8192x7168 .bf16) (x1 : Vec Ideal S7168x128 .bf16) (x2 x3 : Vec Ideal S1x128 .f32) (x4 x5 : Vec Ideal S8192x32 .f32) : k0_pay13 x0 x1 x2 x3 x4 x5 = k0_pay9 x0 x1 x2 x3 x4 := by
  unfold k0_pay13; rw [ld0 x0, ld1 x1, ld2 x2, ld2 x3, ld3 x4]

/-- The first result's array: the key codes. -/
theorem final6 : (dats m 0 c).arrAt 6 (cfgs 0).N
    = (fun j => rowCode (argKey m c (j 0)) (j 1) : FVec Ideal S8192x128 .fp8e4m3) := by
  refine (dats m 0 c).arrAt_eq_of_after_last 6 t0_0 (by decide +kernel) _ fun j => ?_
  blk_simp
  rw [after0_6]
  frame_out
  obtain ⟨r, d, rfl⟩ : ∃ (r : Fin 8192) (d : Fin 128), j = ix2 r d := ⟨j 0, j 1, by blk_ext []⟩
  rw [pay10_eq, pay11_eq, pay12_eq, pay13_eq]
  refine Eq.trans ?_ (codes_arg m c r d)
  rw [← iblk0 m c t0_0, ← iblk1 m c t0_0, ← iblk2 m c t0_0, ← iblk3 m c t0_0, ← iblk4 m c t0_0, ← iblk5 m c t0_0]

/-- The second result's array: the key scales. -/
theorem final7 : (dats m 0 c).arrAt 7 (cfgs 0).N
    = (fun j => rowScale (argKey m c (j 1)) : FVec Ideal S1x8192 .f32) := by
  refine (dats m 0 c).arrAt_eq_of_after_last 7 t0_0 (by decide +kernel) _ fun j => ?_
  blk_simp
  rw [after0_7]
  frame_out
  obtain ⟨r, rfl⟩ : ∃ r : Fin 8192, j = ix2 0 r := ⟨j 1, by blk_ext []⟩
  rw [pay10_eq, pay11_eq, pay12_eq, pay13_eq]
  refine Eq.trans ?_ (scales_arg m c r)
  rw [← iblk0 m c t0_0, ← iblk1 m c t0_0, ← iblk2 m c t0_0, ← iblk3 m c t0_0, ← iblk4 m c t0_0, ← iblk5 m c t0_0]

end Cert.KeysIdeal.Point

end
-- ==== Proof.KeyAlgebraic.lean ====
/- The projection call and the plain statement of its keys end with equal results. -/
module

public import proofs.«01_k».proof.Defs
public import proofs.«01_k».proof.Proof.KeyKerValue
public import proofs.«01_k».proof.Proof.KeyRefValue
public import Idealize.ShloMosaic.Lib.Claim

@[expose] public section

set_option maxRecDepth 16384

noncomputable section

namespace Cert.Proof

open Idealize.ShloMosaic Idealize.ShloMosaic.TcCoe Idealize.ShloMosaic.Tactic
open Idealize.SL.Sem

/-- The projection call ends with its key codes and key scales in closed form. -/
theorem projectRun (m : (ℓ : Loc Cert.ProjectIdeal.nD Cert.ProjectIdeal.τ Cert.ProjectIdeal.sig) → Buf (Elt Ideal) ℓ) (g : Dev Cert.ProjectIdeal.nD → PrngReg) :
    θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
      r.2.mem ((c.tc : Thread Cert.ProjectIdeal.nD Cert.ProjectIdeal.τ).loc Cert.ProjectIdeal.main_v16_4) = (Cert.ProjectIdeal.Gen.dats m 0 c).arrAt 16 (Cert.ProjectIdeal.cfgs 0).N
      ∧ r.2.mem ((c.tc : Thread Cert.ProjectIdeal.nD Cert.ProjectIdeal.τ).loc Cert.ProjectIdeal.main_v16_5) = (Cert.ProjectIdeal.Gen.dats m 0 c).arrAt 17 (Cert.ProjectIdeal.cfgs 0).N) :=
  (θ_run _ _ _).mono (fun _ h c => ⟨(h c).1 16, (h c).1 17⟩) (Cert.ProjectIdeal.Gen.run_main m g)

theorem keysRun (m : (ℓ : Loc Cert.KeysIdeal.nD Cert.KeysIdeal.τ Cert.KeysIdeal.sig) → Buf (Elt Ideal) ℓ) (g : Dev Cert.KeysIdeal.nD → PrngReg) :
    θ_run (Cert.KeysIdeal.defs (F := Ideal)) (onTc (τ := Cert.KeysIdeal.τ) (Cert.KeysIdeal.main (F := Ideal))) ⟨m, fun _ => 0, g⟩ (fun r => ∀ c : Dev Cert.KeysIdeal.nD,
      r.2.mem ((c.tc : Thread Cert.KeysIdeal.nD Cert.KeysIdeal.τ).loc Cert.KeysIdeal.main_v5_0) = (Cert.KeysIdeal.Gen.dats m 0 c).arrAt 6 (Cert.KeysIdeal.cfgs 0).N
      ∧ r.2.mem ((c.tc : Thread Cert.KeysIdeal.nD Cert.KeysIdeal.τ).loc Cert.KeysIdeal.main_v5_1) = (Cert.KeysIdeal.Gen.dats m 0 c).arrAt 7 (Cert.KeysIdeal.cfgs 0).N) :=
  (θ_run _ _ _).mono (fun _ h c => ⟨(h c).1 6, (h c).1 7⟩) (Cert.KeysIdeal.Gen.run_main m g)

theorem keysAlgebraic : Cert.algebraic_ProjectIdeal_KeysIdeal (hProjectIdeal := Cert.ProjectIdeal.Gen.facts) (hKeysIdeal := Cert.KeysIdeal.Gen.facts) := by
  intro m g m' g' _ hagree
  have hkey : ∀ c r, Cert.KeysIdeal.Point.argKey m' c r = Cert.ProjectIdeal.Point.argKey m c r := fun c r => by
    obtain ⟨e0, e1, e2, e3, e4, e5, e6, e7, e8, e9, e10, e11, e12⟩ := hagree c
    unfold Cert.KeysIdeal.Point.argKey
    rw [Cert.KeysIdeal.Point.A0, Cert.KeysIdeal.Point.A4, Cert.KeysIdeal.Point.A5, Cert.KeysIdeal.Point.A6, Cert.KeysIdeal.Point.A8,
      Cert.KeysIdeal.Point.A9, e0, e4, e5, e6, e8, e9]
    rfl
  refine ⟨fun c => (Cert.ProjectIdeal.Gen.dats m 0 c).arrAt 16 (Cert.ProjectIdeal.cfgs 0).N,
    fun c => (Cert.ProjectIdeal.Gen.dats m 0 c).arrAt 17 (Cert.ProjectIdeal.cfgs 0).N, ?_, ?_⟩
  · exact (θ_run _ _ _).mono (fun _ h c => ⟨(h.1 c).1, (h.1 c).2, h.2 c⟩) (θ_run_and (projectRun m g) (Cert.ProjectIdeal.Gen.unchanged m g))
  · refine (θ_run _ _ _).mono (fun _ h c => ⟨(h.1 c).1.trans ?_, (h.1 c).2.trans ?_, h.2 c⟩) (θ_run_and (keysRun m' g') (Cert.KeysIdeal.Gen.unchanged m' g'))
    · refine (Cert.KeysIdeal.Point.final6 m' c).trans (Eq.trans ?_ (Cert.ProjectIdeal.Point.final16 m c).symm)
      exact funext fun j => congrArg (Maths.rowCode · (j 1)) (hkey c (j 0))
    · refine (Cert.KeysIdeal.Point.final7 m' c).trans (Eq.trans ?_ (Cert.ProjectIdeal.Point.final17 m c).symm)
      exact funext fun j => congrArg Maths.rowScale (hkey c (j 1))

end Cert.Proof

end
-- ==== Proof.CodeSpec.lean ====
/- The power-of-two scale of a group of 128 values, from the exponent's word and as a power. -/
module

public import proofs.«01_k».proof.Proof.KeySpec

@[expose] public section

noncomputable section

namespace Cert.Maths

open Idealize.ShloMosaic

/-- A word with a zero fraction and sign and the exponent field `k` is a power of two. -/
theorem field_pow (b : BitVec 32) (k : ℕ) (hx : (b.extractLsb' 23 8).toNat = k) (hf : (b.extractLsb' 0 23).toNat = 0)
    (hs : b.extractLsb' 31 1 = 0#1) (h0 : 0 < k) (h1 : k < 255) : Ideal.ofBits FTy.f32 b = (((2 : ℝ) ^ ((k : ℤ) - 127) : ℝ) : EReal) := by
  simp only [Ideal.ofBits, Ideal.ieee, hx, hf, Nat.reduceAdd, hs]
  rw [if_neg (by omega), if_neg (by omega)]
  congr 1
  have e : ((k : ℤ) - 127) = 23 + ((k : ℤ) - (2 ^ (8 - 1) - 1) - 23) := by norm_num
  rw [e, zpow_add₀ (by norm_num)]
  norm_num

theorem word_fields : ∀ k : Fin 255, ((BitVec.ofNat 32 k.val <<< 23).extractLsb' 23 8).toNat = k.val
    ∧ ((BitVec.ofNat 32 k.val <<< 23).extractLsb' 0 23).toNat = 0 ∧ (BitVec.ofNat 32 k.val <<< 23).extractLsb' 31 1 = 0#1 := by decide +kernel

theorem word_pow (k : ℕ) (h0 : 0 < k) (h1 : k < 255) :
    Ideal.ofBits FTy.f32 (BitVec.ofNat 32 k <<< 23) = (((2 : ℝ) ^ ((k : ℤ) - 127) : ℝ) : EReal) :=
  field_pow _ k (word_fields ⟨k, h1⟩).1 (word_fields ⟨k, h1⟩).2.1 (word_fields ⟨k, h1⟩).2.2 h0 h1

/-- The word built from an exponent `n`. -/
theorem word_of (n : ℤ) (h0 : -126 ≤ n) (h1 : n ≤ 127) :
    Ideal.ofBits FTy.f32 ((BitVec.ofInt 32 n + 127#32) <<< 23) = (((2 : ℝ) ^ n : ℝ) : EReal) := by
  have facts : ∀ j : Fin 254, BitVec.ofInt 32 ((j.val : ℤ) - 126) + 127#32 = BitVec.ofNat 32 (j.val + 1) := by decide +kernel
  have h := facts ⟨(n + 126).toNat, by omega⟩
  dsimp only at h
  have e : (((n + 126).toNat : ℤ) - 126) = n := by omega
  rw [e] at h
  rw [h, word_pow _ (by omega) (by omega)]
  congr 2
  omega

/-- The exponent of a magnitude `a`: one more than the floor of the logarithm to base two of `a / 448`. -/
def exponent (a : EReal) : EReal :=
  Ideal.liftRound Int.floor (Ideal.div (Ideal.log (a * Ideal.ofBits FTy.f32 0x3B124925#32)) (Ideal.log (Ideal.ofBits FTy.f32 0x40000000#32)))
    + Ideal.ofBits FTy.f32 0x3F800000#32

theorem ratio_val : Ideal.ofBits FTy.f32 0x3B124925#32 = ((9586981 / 4294967296 : ℝ) : EReal) := by
  simp [Ideal.ofBits, Ideal.ieee]; rw [← EReal.coe_mul]; norm_num
theorem two_val : Ideal.ofBits FTy.f32 0x40000000#32 = ((2 : ℝ) : EReal) := by
  simp [Ideal.ofBits, Ideal.ieee]; rw [← EReal.coe_mul]; norm_num
theorem one_val : Ideal.ofBits FTy.f32 0x3F800000#32 = ((1 : ℝ) : EReal) := by
  simp [Ideal.ofBits, Ideal.ieee]; rw [← EReal.coe_mul]; norm_num

/-- A magnitude between 2^-100 and 2^100 has an exponent between -110 and 101. -/
theorem exponent_val (a : ℝ) (h0 : (2 : ℝ) ^ (-100 : ℤ) ≤ a) (h1 : a ≤ (2 : ℝ) ^ (100 : ℤ)) :
    ∃ n : ℤ, -126 ≤ n ∧ n ≤ 127 ∧ exponent (a : EReal) = ((n : ℝ) : EReal) := by
  have ha : 0 < a := lt_of_lt_of_le (by positivity) h0
  set x : ℝ := a * (9586981 / 4294967296) with hx
  have hx0 : 0 < x := by positivity
  have l2 : 0 < Real.log 2 := Real.log_pos (by norm_num)
  refine ⟨⌊Real.log x / Real.log 2⌋ + 1, ?_, ?_, ?_⟩
  · have : (-110 : ℤ) ≤ ⌊Real.log x / Real.log 2⌋ := by
      rw [Int.le_floor, le_div_iff₀ l2]
      have hm : (2 : ℝ) ^ (-110 : ℤ) ≤ x := by
        rw [hx]
        calc (2 : ℝ) ^ (-110 : ℤ) ≤ (2 : ℝ) ^ (-100 : ℤ) * (9586981 / 4294967296) := by norm_num
          _ ≤ _ := by gcongr
      have := Real.log_le_log (by positivity) hm
      rw [Real.log_zpow] at this
      exact_mod_cast this
    omega
  · have : ⌊Real.log x / Real.log 2⌋ ≤ (100 : ℤ) := by
      have hm : x ≤ (2 : ℝ) ^ (100 : ℤ) := by
        rw [hx]
        calc a * (9586981 / 4294967296) ≤ (2 : ℝ) ^ (100 : ℤ) * 1 := by gcongr; norm_num
          _ = _ := mul_one _
      have := Real.log_le_log hx0 hm
      rw [Real.log_zpow] at this
      have h2 : Real.log x / Real.log 2 ≤ ((100 : ℤ) : ℝ) := by rw [div_le_iff₀ l2]; exact_mod_cast this
      exact_mod_cast (Int.floor_le _).trans h2
    omega
  · unfold exponent
    rw [ratio_val, two_val, one_val, ← EReal.coe_mul, ← hx]
    have e1 : Ideal.log (x : EReal) = ((Real.log x : ℝ) : EReal) := by
      show (if x ≤ 0 then (⊥ : EReal) else _) = _
      rw [if_neg (not_le.2 hx0)]
    have e2 : Ideal.log ((2 : ℝ) : EReal) = ((Real.log 2 : ℝ) : EReal) := by
      show (if (2 : ℝ) ≤ 0 then (⊥ : EReal) else _) = _
      rw [if_neg (by norm_num)]
    rw [e1, e2]
    unfold Ideal.div
    rw [if_neg (by exact_mod_cast l2.ne'), ← EReal.coe_inv, ← EReal.coe_mul, ← div_eq_mul_inv]
    show (((⌊Real.log x / Real.log 2⌋ : ℤ) : ℝ) : EReal) + _ = _
    rw [← EReal.coe_add]
    push_cast
    rfl

/-- The conversion of a small whole number to a word. -/
theorem toWord (n : ℤ) (h0 : -126 ≤ n) (h1 : n ≤ 127) : Ideal.fptosi 32 ((n : ℝ) : EReal) = BitVec.ofInt 32 n := by
  rw [Ideal.fptosi, Ideal.toIntClamped_coe]
  congr 1
  by_cases h : (0 : ℝ) ≤ (n : ℝ)
  · rw [if_pos h, Int.floor_intCast]; norm_num; omega
  · rw [if_neg h, Int.ceil_intCast]; norm_num; omega

theorem exp2_int (n : ℤ) : Ideal.exp2 ((n : ℝ) : EReal) = (((2 : ℝ) ^ n : ℝ) : EReal) := by
  show ((Real.rpow 2 (n : ℝ) : ℝ) : EReal) = _
  exact congrArg _ (Real.rpow_intCast 2 n)

/-- The scale of a magnitude: two to its exponent, or 1 if it is zero. -/
def groupScale (a : EReal) : EReal := Ideal.exp2 (if a = 0 then 0 else exponent a)

end Cert.Maths

end
-- ==== Proof.CodeKer.lean ====
/- The projection call's group scales at a point of a block. -/
module

public import proofs.«01_k».proof.Proof.Gen.CompressIdeal.Skeleton
public import proofs.«01_k».proof.Proof.CodeSpec
public import Idealize.ShloMosaic.Lib.Pipeline.ValueKit

@[expose] public section

set_option maxRecDepth 16384

noncomputable section

namespace Cert.CompressIdeal.Point

open Cert.CompressIdeal Cert.CompressIdeal.Gen Cert.Maths
open Idealize.ShloMosaic Idealize.ShloMosaic.TcCoe

/-- The largest magnitudes of the rows. -/
def tops (v : Vec Ideal S256x128 .bf16) : FVec Ideal S256x1 .f32 :=
  shapeCast S256x1 (multiReduction .maximumf [1] S256 (absf (k0_pay358 v)) 0xFF800000#32 reduces_S256x128_S256 (.inl rfl) rfl : FVec Ideal S256 .f32) shapeCasts_S256_S256x1

theorem tops_apply (v : Vec Ideal S256x128 .bf16) (r : Fin 256) : tops v (ix2 r 0) = amax fun d => v (ix2 r d) := by
  unfold tops k0_pay358
  pointwise []
  simp only [negInf, fold_max_bot]
  rfl

/-- The scale the kernel builds from a magnitude: the word whose exponent field is that of the scale. -/
def wordScale (a : EReal) : EReal :=
  Ideal.ofBits FTy.f32 (((if a * Ideal.ofBits FTy.f32 0x3B124925#32 = 0 then 0#32 else Ideal.fptosi 32 (exponent a)) + 127#32) <<< 23)

def expWords (a : FVec Ideal S256x1 .f32) : IVec S256x1 32 :=
  select (cmpf .oeq (mulf a (broadcast S256x1 (Scalar.ofBits .f32 0x3B124925#32 : Ideal .f32))) (broadcast S256x1 (Scalar.ofBits .f32 0x00000000#32 : Ideal .f32)))
    (broadcast S256x1 0#32)
    (fptosi 32 (addf (floor (divf (log (mulf a (broadcast S256x1 (Scalar.ofBits .f32 0x3B124925#32 : Ideal .f32))))
      (broadcast S256x1 (Scalar.log (Scalar.ofBits .f32 0x40000000#32 : Ideal .f32))))) (broadcast S256x1 (Scalar.ofBits .f32 0x3F800000#32 : Ideal .f32))))

theorem pay359_parts (v : Vec Ideal S256x128 .bf16) : k0_pay359 v = expWords (tops v) := rfl

theorem pay360_apply (v : Vec Ideal S256x128 .bf16) (r : Fin 256) : k0_pay360 v (ix2 r 0) = wordScale (amax fun d => v (ix2 r d)) := by
  unfold k0_pay360
  rw [pay359_parts, ← tops_apply]
  generalize tops v = a
  unfold expWords wordScale exponent
  pointwise []
  rfl

theorem pay433_at (v0 v1 v2 v3 v4 v5 v6 v7 v8 v9 v10 v11 : FVec Ideal S256x1 .f32) (f : Fin 12 → Fin 256 → EReal)
    (h0 : ∀ r, v0 (ix2 r 0) = f 0 r) (h1 : ∀ r, v1 (ix2 r 0) = f 1 r) (h2 : ∀ r, v2 (ix2 r 0) = f 2 r) (h3 : ∀ r, v3 (ix2 r 0) = f 3 r)
    (h4 : ∀ r, v4 (ix2 r 0) = f 4 r) (h5 : ∀ r, v5 (ix2 r 0) = f 5 r) (h6 : ∀ r, v6 (ix2 r 0) = f 6 r) (h7 : ∀ r, v7 (ix2 r 0) = f 7 r)
    (h8 : ∀ r, v8 (ix2 r 0) = f 8 r) (h9 : ∀ r, v9 (ix2 r 0) = f 9 r) (h10 : ∀ r, v10 (ix2 r 0) = f 10 r) (h11 : ∀ r, v11 (ix2 r 0) = f 11 r)
    (g : Fin 12) (r : Fin 256) : k0_pay433 v0 v1 v2 v3 v4 v5 v6 v7 v8 v9 v10 v11 (ix2 g r) = f g r := by
  unfold k0_pay433
  fin_cases g
  · pointwise []; exact h0 r
  · pointwise []; exact h1 r
  · pointwise []; exact h2 r
  · pointwise []; exact h3 r
  · pointwise []; exact h4 r
  · pointwise []; exact h5 r
  · pointwise []; exact h6 r
  · pointwise []; exact h7 r
  · pointwise []; exact h8 r
  · pointwise []; exact h9 r
  · pointwise []; exact h10 r
  · pointwise []; exact h11 r

theorem wordScale_zero : wordScale 0 = groupScale 0 := by
  unfold wordScale groupScale
  rw [zero_mul, if_pos rfl, if_pos rfl]
  have h := word_of 0 (by norm_num) (by norm_num)
  have e := exp2_int 0
  simp only [Int.cast_zero, EReal.coe_zero] at e
  rw [e, ← h]
  rfl

theorem wordScale_real (a : ℝ) (h0 : (2 : ℝ) ^ (-100 : ℤ) ≤ a) (h1 : a ≤ (2 : ℝ) ^ (100 : ℤ)) : wordScale (a : EReal) = groupScale (a : EReal) := by
  have ha : 0 < a := lt_of_lt_of_le (by positivity) h0
  obtain ⟨n, n0, n1, hn⟩ := exponent_val a h0 h1
  unfold wordScale groupScale
  have hz : ((a : ℝ) : EReal) ≠ 0 := fun h => ha.ne' (EReal.coe_eq_zero.mp h)
  have hz' : ((a : ℝ) : EReal) * Ideal.ofBits FTy.f32 0x3B124925#32 ≠ 0 := by
    rw [ratio_val, ← EReal.coe_mul]
    exact fun h => (by positivity : a * (9586981 / 4294967296) ≠ 0) (EReal.coe_eq_zero.mp h)
  rw [if_neg hz, if_neg hz', hn, toWord n n0 n1, exp2_int, word_of n n0 n1]

/-- The two scales of a group are equal if each value is zero or of a magnitude between 2^-100 and 2^100. -/
theorem wordScale_eq (v : Fin 128 → EReal)
    (h0 : ∀ d, max (v d) (-v d) = 0 ∨ (((2 : ℝ) ^ (-100 : ℤ) : ℝ) : EReal) ≤ max (v d) (-v d))
    (h1 : ∀ d, max (v d) (-v d) ≤ (((2 : ℝ) ^ (100 : ℤ) : ℝ) : EReal)) : wordScale (amax v) = groupScale (amax v) := by
  obtain ⟨d, -, hd⟩ := Finset.exists_mem_eq_sup (Finset.univ : Finset (Fin 128)) ⟨0, Finset.mem_univ _⟩ (fun d => max (v d) (-v d))
  unfold amax
  rw [hd]
  rcases h0 d with h | h
  · rw [h]; exact wordScale_zero
  · have h1 := h1 d
    generalize max (v d) (-v d) = x at h h1
    induction x with
    | bot => exact absurd h (by simp)
    | top => exact absurd h1 (not_le.mpr (EReal.coe_lt_top _))
    | coe x => exact wordScale_real x (EReal.coe_le_coe_iff.mp h) (EReal.coe_le_coe_iff.mp h1)

end Cert.CompressIdeal.Point

end
-- ==== Proof.CodeOut.lean ====
/- What a point of the projection call leaves for the scales of the compressed queries, and the array of them. -/
module

public import proofs.«01_k».proof.Proof.Gen.CompressIdeal.Frame
public import Idealize.ShloMosaic.Lib.VecWindow
public import Idealize.ShloMosaic.Lib.Pipeline.ValueKit
public import proofs.«01_k».proof.Proof.CodeKer

@[expose] public section

set_option maxRecDepth 131072

noncomputable section

namespace Cert.CompressIdeal.Point

open Cert.CompressIdeal Cert.CompressIdeal.Gen Cert.Maths
open Idealize.ShloMosaic Idealize.ShloMosaic.TcCoe

/-- A load of the columns of group `g`. -/
theorem ld_cols (arg : Memref sig .tc .vmem S256x1536 .bf16) (h : arg.IsWhole) (x : Vec Ideal S256x1536 .bf16) (g : Fin 12)
    {off : Fin 2 → ℕ} (inb : ∀ a, off a + S256x128.size a ≤ S256x1536.size a) (h0 : off 0 = 0) (h1 : off 1 = 128 * g.val) (r : Fin 256) (d : Fin 128) :
    (arg.view.readAt (Elt Ideal) (Rect.unit (s := S256x1536) off S256x128.size inb).toLoadRect (h.unread x) : FVec Ideal S256x128 .bf16) (ix2 r d)
      = x (ix2 r ⟨128 * g.val + d.val, by omega⟩) := by
  refine (congrFun (View.readAt_eq_ld arg.view _ _) _).trans ?_
  rw [h.read_unread x]
  refine View.ld_unit_apply_of x _ _ inb _ _ fun a => ?_
  fin_cases a
  · show r.val = off 0 + r.val
    omega
  · show 128 * g.val + d.val = off 1 + d.val
    omega

theorem scale_congr {v w : Fin 128 → EReal} (h : ∀ d, v d = w d) : wordScale (amax v) = wordScale (amax w) := by rw [funext h]

/-- The scale of row `r`, group `g` of a block. -/
def blockScale (x : Vec Ideal S256x1536 .bf16) (g : Fin 12) (r : Fin 256) : EReal :=
  wordScale (amax fun d => x (ix2 r ⟨128 * g.val + d.val, by omega⟩))

theorem col_scale (arg : Memref sig .tc .vmem S256x1536 .bf16) (h : arg.IsWhole) (x : Vec Ideal S256x1536 .bf16) (g : Fin 12)
    {off : Fin 2 → ℕ} (inb : ∀ a, off a + S256x128.size a ≤ S256x1536.size a) (h0 : off 0 = 0) (h1 : off 1 = 128 * g.val) (r : Fin 256) :
    k0_pay360 (arg.view.readAt (Elt Ideal) (Rect.unit (s := S256x1536) off S256x128.size inb).toLoadRect (h.unread x) : FVec Ideal S256x128 .bf16) (ix2 r 0)
      = blockScale x g r :=
  (pay360_apply _ r).trans (scale_congr fun d => ld_cols arg h x g inb h0 h1 r d)

variable (m : (ℓ : Loc nD τ sig) → Buf (Elt Ideal) ℓ) (c : Dev nD) (t : Fin (cfg0).N)

theorem after_scales (g : Fin 12) (r : Fin 256) : ((dats m 0 c).after 13 t : FVec Ideal S12x256 .f32) (ix2 g r) = blockScale (iblk m c 2 t) g r := by
  rw [after0_13]
  by_cases h0 : t.val % 32 = 0
  · rw [outsAt0_A m c t h0]
    dsimp only
    unfold out0_A_13
    refine (congrFun (View.read_writes_full VO0_13 _ _ _ []) _).trans ?_
    exact pay433_at _ _ _ _ _ _ _ _ _ _ _ _ (blockScale (iblk m c 2 t))
      (col_scale _ _ _ 0 _ rfl rfl)
      (col_scale _ _ _ 1 _ rfl rfl)
      (col_scale _ _ _ 2 _ rfl rfl)
      (col_scale _ _ _ 3 _ rfl rfl)
      (col_scale _ _ _ 4 _ rfl rfl)
      (col_scale _ _ _ 5 _ rfl rfl)
      (col_scale _ _ _ 6 _ rfl rfl)
      (col_scale _ _ _ 7 _ rfl rfl)
      (col_scale _ _ _ 8 _ rfl rfl)
      (col_scale _ _ _ 9 _ rfl rfl)
      (col_scale _ _ _ 10 _ rfl rfl)
      (col_scale _ _ _ 11 _ rfl rfl) g r
  · rw [outsAt0_B m c t h0]
    dsimp only
    unfold out0_B_13
    refine (congrFun (View.read_writes_full VO0_13 _ _ _ []) _).trans ?_
    exact pay433_at _ _ _ _ _ _ _ _ _ _ _ _ (blockScale (iblk m c 2 t))
      (col_scale _ _ _ 0 _ rfl rfl)
      (col_scale _ _ _ 1 _ rfl rfl)
      (col_scale _ _ _ 2 _ rfl rfl)
      (col_scale _ _ _ 3 _ rfl rfl)
      (col_scale _ _ _ 4 _ rfl rfl)
      (col_scale _ _ _ 5 _ rfl rfl)
      (col_scale _ _ _ 6 _ rfl rfl)
      (col_scale _ _ _ 7 _ rfl rfl)
      (col_scale _ _ _ 8 _ rfl rfl)
      (col_scale _ _ _ 9 _ rfl rfl)
      (col_scale _ _ _ 10 _ rfl rfl)
      (col_scale _ _ _ 11 _ rfl rfl) g r

abbrev A1 : FVec Ideal S1x8192x1536 .bf16 := m ((c.tc : Thread nD τ).loc main_arg1)
abbrev X2 : FVec Ideal S8192x1536 .bf16 := V m c main_v3

theorem X2_apply (r : Fin 8192) (e : Fin 1536) : X2 m c (ix2 r e) = A1 m c (ix3 0 r e) := by
  unfold X2; entry_read; pointwise []; try blk_ext []

/-- The windows' block indices. -/
theorem idx : ∀ t : Fin cfg0.N, win0_2.index t = ![t.val, 0] ∧ win0_13.index t = ![0, t.val] ∧ t.val < 32 :=
  (by decide +kernel : ∀ t : Fin grid0.N, _)

/-- The token at row `y` of point `t`'s tile. -/
def tokAt (t : Fin cfg0.N) (y : Fin 256) : Fin 8192 := ⟨256 * t.val + y.val, by have := (idx t).2.2; omega⟩

theorem blk2 (t : Fin cfg0.N) (y : Fin 256) (e : Fin 1536) : (iblk m c 2 t : FVec Ideal S256x1536 .bf16) (ix2 y e) = X2 m c (ix2 (tokAt t y) e) := by
  unfold tokAt
  blk_ext [iblk, (idx t).1]

/-- The values of group `g` of token `r`. -/
def argGroup (g : Fin 12) (r : Fin 8192) (d : Fin 128) : EReal := A1 m c (ix3 0 r ⟨128 * g.val + d.val, by omega⟩)

/-- The result's array: the group scales. -/
theorem final13 : (dats m 0 c).arrAt 13 (cfgs 0).N
    = (fun j => wordScale (amax (argGroup m c (j 0) (j 1))) : FVec Ideal S12x8192 .f32) := by
  refine (dats m 0 c).arrAt_eq_of_covers 13 _ (by decide +kernel) fun t _ y => ?_
  blk_simp
  obtain ⟨g, q, rfl⟩ : ∃ (g : Fin 12) (q : Fin 256), y = ix2 g q := ⟨y 0, y 1, by blk_ext []⟩
  refine (after_scales m c t g q).trans ?_
  have hi := (idx t).2.1
  unfold blockScale
  refine (scale_congr fun d => (blk2 m c t q _).trans (X2_apply m c _ _)).trans ?_
  show wordScale (amax (argGroup m c g (tokAt t q))) = _
  congr 2
  congr 1
  · refine Fin.ext ?_
    blk_simp [hi]
  · refine Fin.ext ?_
    unfold tokAt
    blk_simp [hi]
    exact congrArg (· + q.val) (Nat.mul_comm _ _)

end Cert.CompressIdeal.Point

end
-- ==== Proof.CodeRef.lean ====
/- The reference's group scales at a point. -/
module

public import proofs.«01_k».proof.Proof.Gen.CodesIdeal.Frame
public import proofs.«01_k».proof.Proof.CodeSpec
public import Idealize.ShloMosaic.Lib.Pipeline.ValueKit

@[expose] public section

set_option maxRecDepth 16384

noncomputable section

namespace Cert.CodesIdeal.Point

open Cert.CodesIdeal Cert.CodesIdeal.Gen Cert.Maths
open Idealize.ShloMosaic Idealize.ShloMosaic.TcCoe

/-- The group of 128 values of token `r`, group `g`. -/
def group (v : FVec Ideal S8192x1536 .bf16) (r : Fin 8192) (g : Fin 12) (d : Fin 128) : EReal := v (ix2 r ⟨128 * g.val + d.val, by omega⟩)

def groups (v : FVec Ideal S8192x1536 .bf16) : FVec Ideal S8192x12x128 .f32 :=
  shapeCast S8192x12x128 (extf .f32 (shapeCast S8192x1536 v shapeCasts_S8192x1536_S8192x1536 : FVec Ideal S8192x1536 .bf16) bitsLt_bf16_f32
    : FVec Ideal S8192x1536 .f32) shapeCasts_S8192x1536_S8192x12x128

theorem groups_apply (v : FVec Ideal S8192x1536 .bf16) (r : Fin 8192) (g : Fin 12) (d : Fin 128) : groups v (ix3 r g d) = group v r g d := by
  unfold groups
  rw [shapeCast_self]
  refine (shapeCast_apply _ _ (ix3 r g d) (ix2 r ⟨128 * g.val + d.val, by omega⟩) ?_).trans rfl
  rw [Shape.rowMajor_val_two, Shape.rowMajor_val_three]
  show r.val * 1536 + (128 * g.val + d.val) = (r.val * 12 + g.val) * 128 + d.val
  omega

def tops (w : FVec Ideal S8192x12x128 .f32) : FVec Ideal S8192x12 .f32 :=
  multiReduction .maximumf [2] S8192x12 (absf w) 0xFF800000#32 reduces_S8192x12x128_S8192x12 (.inl rfl) rfl

theorem tops_apply (w : FVec Ideal S8192x12x128 .f32) (r : Fin 8192) (g : Fin 12) : tops w (ix2 r g) = amax fun d => w (ix3 r g d) := by
  unfold tops
  pointwise []
  simp only [negInf, fold_max_bot]
  rfl

def powers (a : FVec Ideal S8192x12 .f32) : FVec Ideal S8192x12 .f32 :=
  exp2 (select (cmpf .oeq a (broadcast S8192x12 (Scalar.ofBits .f32 0x00000000#32 : Ideal .f32))) (broadcast S8192x12 (Scalar.ofBits .f32 0x00000000#32 : Ideal .f32))
    (addf (floor (divf (log (mulf a (broadcast S8192x12 (Scalar.ofBits .f32 0x3B124925#32 : Ideal .f32))))
      (broadcast S8192x12 (Scalar.log (Scalar.ofBits .f32 0x40000000#32 : Ideal .f32)))))
      (broadcast S8192x12 (Scalar.ofBits .f32 0x3F800000#32 : Ideal .f32))))

theorem powers_apply (a : FVec Ideal S8192x12 .f32) (r : Fin 8192) (g : Fin 12) : powers a (ix2 r g) = groupScale (a (ix2 r g)) := by
  unfold powers groupScale exponent
  pointwise []
  rfl

theorem pay1_parts (v : Vec Ideal S8192x1536 .bf16) : k0_pay1 v = transpose S12x8192 [1, 0] (powers (tops (groups v))) transposes_S8192x12_p1_0_S12x8192 := rfl

theorem pay1_apply (v : Vec Ideal S8192x1536 .bf16) (r : Fin 8192) (g : Fin 12) : k0_pay1 v (ix2 g r) = groupScale (amax (group v r g)) := by
  rw [pay1_parts, ← funext (groups_apply v r g), ← tops_apply, ← powers_apply]
  generalize powers (tops (groups v)) = u
  pointwise []

end Cert.CodesIdeal.Point

end
-- ==== Proof.CodeRefValue.lean ====
/- The reference's group scales over its arguments. -/
module

public import proofs.«01_k».proof.Proof.CodeRef

@[expose] public section

set_option maxRecDepth 16384

noncomputable section

namespace Cert.CodesIdeal.Point

open Cert.CodesIdeal Cert.CodesIdeal.Gen Cert.Maths
open Idealize.ShloMosaic Idealize.ShloMosaic.TcCoe

variable (m : (ℓ : Loc nD τ sig) → Buf (Elt Ideal) ℓ) (c : Dev nD)

abbrev A1 : FVec Ideal S1x8192x1536 .bf16 := m ((c.tc : Thread nD τ).loc main_arg1)
abbrev X0 : FVec Ideal S8192x1536 .bf16 := V m c main_v0

theorem X0_apply (r : Fin 8192) (e : Fin 1536) : X0 m c (ix2 r e) = A1 m c (ix3 0 r e) := by
  unfold X0; entry_read; pointwise []; try blk_ext []

/-- The values of group `g` of token `r`. -/
def argGroup (g : Fin 12) (r : Fin 8192) (d : Fin 128) : EReal := A1 m c (ix3 0 r ⟨128 * g.val + d.val, by omega⟩)

theorem idx : ∀ t : Fin cfg0.N, win0_0.index t = ![0, 0] ∧ win0_1.index t = ![0, 0] :=
  (by decide +kernel : ∀ t : Fin grid0.N, _)

theorem iblk0 (t : Fin cfg0.N) : (iblk m c 0 t : FVec Ideal S8192x1536 .bf16) = X0 m c := by
  blk_ext! [iblk, (idx t).1]

/-- The result's array: the group scales. -/
theorem final1 : (dats m 0 c).arrAt 1 (cfgs 0).N
    = (fun j => groupScale (amax (argGroup m c (j 0) (j 1))) : FVec Ideal S12x8192 .f32) := by
  refine (dats m 0 c).arrAt_eq_of_after_last 1 t0_0 (by decide +kernel) _ fun j => ?_
  blk_simp
  rw [after0_1]
  frame_out
  obtain ⟨g, r, rfl⟩ : ∃ (g : Fin 12) (r : Fin 8192), j = ix2 g r := ⟨j 0, j 1, by blk_ext []⟩
  rw [pay1_apply, iblk0]
  exact congrArg (fun v => groupScale (amax v)) (funext fun d => X0_apply m c r _)

end Cert.CodesIdeal.Point

end
-- ==== Proof.CodeAlgebraic.lean ====
/- The projection call and the plain statement of the compressed queries' scales end with equal results. -/
module

public import proofs.«01_k».proof.Defs
public import proofs.«01_k».proof.Proof.CodeOut
public import proofs.«01_k».proof.Proof.CodeRefValue
public import Idealize.ShloMosaic.Lib.Claim

@[expose] public section

set_option maxRecDepth 16384

noncomputable section

namespace Cert.Proof

open Idealize.ShloMosaic Idealize.ShloMosaic.TcCoe Idealize.ShloMosaic.Tactic
open Idealize.SL.Sem

theorem moderateFacts : Cert.Pre_moderate.Facts := ⟨by decide, by decide⟩

theorem low_val : Ideal.ofBits FTy.f32 0x0D800000#32 = (((2 : ℝ) ^ (-100 : ℤ) : ℝ) : EReal) :=
  Maths.word_pow 27 (by norm_num) (by norm_num)
theorem high_val : Ideal.ofBits FTy.f32 0x71800000#32 = (((2 : ℝ) ^ (100 : ℤ) : ℝ) : EReal) :=
  Maths.word_pow 227 (by norm_num) (by norm_num)

/-- What the precondition says of the compressed queries. -/
theorem moderate_at (h : Cert.Pre_moderate.Facts) (a0 : FVec Ideal Cert.Pre_moderate.S1x8192x7168 .bf16) (a1 : FVec Ideal Cert.Pre_moderate.S1x8192x1536 .bf16)
    (a2 : FVec Ideal Cert.Pre_moderate.S1536x3072 .fp8e4m3) (a3 : FVec Ideal Cert.Pre_moderate.S12x24 .f32) (a4 : FVec Ideal Cert.Pre_moderate.S7168x128 .bf16)
    (a5 a6 : FVec Ideal Cert.Pre_moderate.S128 .f32) (a7 : FVec Ideal Cert.Pre_moderate.S7168x24 .bf16) (a8 a9 : FVec Ideal Cert.Pre_moderate.S1x8192x32 .f32)
    (a10 : FVec Ideal Cert.Pre_moderate.S1x8192x512 .fp8e4m3) (a11 : FVec Ideal Cert.Pre_moderate.S1x8192x4 .f32) (a12 : FVec Ideal Cert.Pre_moderate.S1x8192x64 .bf16)
    (h1 : (Cert.Pre_moderate.fn (F := Ideal) a0 a1 a2 a3 a4 a5 a6 a7 a8 a9 a10 a11 a12).1 = fun _ => 1#1)
    (h2 : (Cert.Pre_moderate.fn (F := Ideal) a0 a1 a2 a3 a4 a5 a6 a7 a8 a9 a10 a11 a12).2 = fun _ => 1#1) :
    (∀ i, max (a1 i) (-a1 i) = 0 ∨ (((2 : ℝ) ^ (-100 : ℤ) : ℝ) : EReal) ≤ max (a1 i) (-a1 i))
      ∧ ∀ i, max (a1 i) (-a1 i) ≤ (((2 : ℝ) ^ (100 : ℤ) : ℝ) : EReal) := by
  have bit : ∀ b : Bool, BitVec.ofBool b = 1#1 → b = true := by decide
  have either : ∀ a b : Bool, IntOp.ori (BitVec.ofBool a) (BitVec.ofBool b) = 1#1 → a = true ∨ b = true := by decide
  refine ⟨fun i => ?_, fun i => ?_⟩
  · have := congrFun h1 i
    pointwise [Cert.Pre_moderate.fn] at this
    rw [← low_val]
    exact (either _ _ this).imp of_decide_eq_true of_decide_eq_true
  · have := congrFun h2 i
    pointwise [Cert.Pre_moderate.fn] at this
    rw [← high_val]
    exact of_decide_eq_true (bit _ this)

/-- The projection call ends with the scales in closed form. -/
theorem compressRun (m : (ℓ : Loc Cert.CompressIdeal.nD Cert.CompressIdeal.τ Cert.CompressIdeal.sig) → Buf (Elt Ideal) ℓ) (g : Dev Cert.CompressIdeal.nD → PrngReg) :
    θ_run (Cert.CompressIdeal.defs (F := Ideal)) (onTc (τ := Cert.CompressIdeal.τ) (Cert.CompressIdeal.main (F := Ideal))) ⟨m, fun _ => 0, g⟩ (fun r => ∀ c : Dev Cert.CompressIdeal.nD,
      r.2.mem ((c.tc : Thread Cert.CompressIdeal.nD Cert.CompressIdeal.τ).loc Cert.CompressIdeal.main_v16_1) = (Cert.CompressIdeal.Gen.dats m 0 c).arrAt 13 (Cert.CompressIdeal.cfgs 0).N) :=
  (θ_run _ _ _).mono (fun _ h c => (h c).1 13) (Cert.CompressIdeal.Gen.run_main m g)

theorem codesRun (m : (ℓ : Loc Cert.CodesIdeal.nD Cert.CodesIdeal.τ Cert.CodesIdeal.sig) → Buf (Elt Ideal) ℓ) (g : Dev Cert.CodesIdeal.nD → PrngReg) :
    θ_run (Cert.CodesIdeal.defs (F := Ideal)) (onTc (τ := Cert.CodesIdeal.τ) (Cert.CodesIdeal.main (F := Ideal))) ⟨m, fun _ => 0, g⟩ (fun r => ∀ c : Dev Cert.CodesIdeal.nD,
      r.2.mem ((c.tc : Thread Cert.CodesIdeal.nD Cert.CodesIdeal.τ).loc Cert.CodesIdeal.main_v1) = (Cert.CodesIdeal.Gen.dats m 0 c).arrAt 1 (Cert.CodesIdeal.cfgs 0).N) :=
  (θ_run _ _ _).mono (fun _ h c => (h c).1 1) (Cert.CodesIdeal.Gen.run_main m g)

theorem codesAlgebraic (hp : Cert.Pre_moderate.Facts) : Cert.algebraic_CompressIdeal_CodesIdeal_pre_moderate (hCompressIdeal := Cert.CompressIdeal.Gen.facts)
    (hCodesIdeal := Cert.CodesIdeal.Gen.facts) (hPre_moderate := hp) := by
  intro m g m' g' hpre hagree
  have hgroup : ∀ c q r, Cert.CodesIdeal.Point.argGroup m' c q r = Cert.CompressIdeal.Point.argGroup m c q r := fun c q r => by
    obtain ⟨e0, e1, e2, e3, e4, e5, e6, e7, e8, e9, e10, e11, e12⟩ := hagree c
    unfold Cert.CodesIdeal.Point.argGroup
    rw [Cert.CodesIdeal.Point.A1, e1]
    rfl
  refine ⟨fun c => (Cert.CompressIdeal.Gen.dats m 0 c).arrAt 13 (Cert.CompressIdeal.cfgs 0).N, ?_, ?_⟩
  · exact (θ_run _ _ _).mono (fun _ h c => ⟨h.1 c, h.2 c⟩) (θ_run_and (compressRun m g) (Cert.CompressIdeal.Gen.unchanged m g))
  · refine (θ_run _ _ _).mono (fun _ h c => ⟨(h.1 c).trans ?_, h.2 c⟩) (θ_run_and (codesRun m' g') (Cert.CodesIdeal.Gen.unchanged m' g'))
    refine (Cert.CodesIdeal.Point.final1 m' c).trans (Eq.trans ?_ (Cert.CompressIdeal.Point.final13 m c).symm)
    obtain ⟨k1, k2⟩ := moderate_at hp _ _ _ _ _ _ _ _ _ _ _ _ _ (hpre c).1 (hpre c).2
    exact funext fun j => (congrArg (fun v => Maths.groupScale (Maths.amax v)) (hgroup c (j 0) (j 1))).trans
      (Cert.CompressIdeal.Point.wordScale_eq _ (fun d => k1 _) (fun d => k2 _)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.KeysIdeal
public import proofs.«01_k».proof.Proof.Gen.KeysIdeal.Skeleton
public import proofs.«01_k».proof.Proof.Gen.KeysIdeal.Launch
public import proofs.«01_k».proof.Proof.Gen.KeysIdeal.Points
public import proofs.«01_k».proof.Proof.Gen.KeysIdeal.Frame
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.Gen.CodesIdeal
public import proofs.«01_k».proof.Proof.Gen.CodesIdeal.Skeleton
public import proofs.«01_k».proof.Proof.Gen.CodesIdeal.Launch
public import proofs.«01_k».proof.Proof.Gen.CodesIdeal.Points
public import proofs.«01_k».proof.Proof.Gen.CodesIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frame
public import proofs.«01_k».proof.Proof.Bits.Frame
public import proofs.«01_k».proof.Proof.Algebraic
public import proofs.«01_k».proof.Proof.KeyAlgebraic
public import proofs.«01_k».proof.Proof.CodeAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Project.Gen.facts,
  Cert.ProjectIdeal.Gen.facts, Cert.KeysIdeal.Gen.facts, Cert.Compress.Gen.facts, Cert.CompressIdeal.Gen.facts, Cert.CodesIdeal.Gen.facts, preFacts, moderateFacts,
  fun m g _ => Cert.Kernel.Body.frame m g, fun m g _ => Cert.KernelIdeal.Body.frame m g, fun m g _ => Cert.KernelIdeal.Body.frame m g,
  fun m g _ => Cert.ReferenceIdeal.Gen.frame m g, fun m g _ => Cert.ReferenceIdeal.Gen.frame m g,
  fun m g _ => Cert.Project.Gen.frame m g, fun m g _ => Cert.ProjectIdeal.Gen.frame m g, fun m g _ => Cert.KeysIdeal.Gen.frame m g,
  fun m g _ => Cert.Compress.Gen.frame m g, fun m g _ => Cert.CompressIdeal.Gen.frame m g, fun m g _ => Cert.CompressIdeal.Gen.frame m g,
  fun m g _ => Cert.CodesIdeal.Gen.frame m g, fun m g _ => Cert.CodesIdeal.Gen.frame m g,
  trivial, algebraic preFacts, trivial, keysAlgebraic, trivial, codesAlgebraic moderateFacts⟩

end Cert.Proof

end
